-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7)
      ∧ r.2.mem ((c.tc : Thread Cert.Reference2.nD Cert.Reference2.τ).loc Cert.Reference2.main_arg8) = m ((c.tc : Thread Cert.Reference2.nD Cert.Reference2.τ).loc Cert.Reference2.main_arg8)
      ∧ r.2.mem ((c.tc : Thread Cert.Reference2.nD Cert.Reference2.τ).loc Cert.Reference2.main_arg9) = m ((c.tc : Thread Cert.Reference2.nD Cert.Reference2.τ).loc Cert.Reference2.main_arg9)
      ∧ r.2.mem ((c.tc : Thread Cert.Reference2.nD Cert.Reference2.τ).loc Cert.Reference2.main_arg10) = m ((c.tc : Thread Cert.Reference2.nD Cert.Reference2.τ).loc Cert.Reference2.main_arg10)
      ∧ r.2.mem ((c.tc : Thread Cert.Reference2.nD Cert.Reference2.τ).loc Cert.Reference2.main_arg11) = m ((c.tc : Thread Cert.Reference2.nD Cert.Reference2.τ).loc Cert.Reference2.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4)
      ∧ r.2.mem ((c.tc : Thread Cert.Reference3.nD Cert.Reference3.τ).loc Cert.Reference3.main_arg5) = m ((c.tc : Thread Cert.Reference3.nD Cert.Reference3.τ).loc Cert.Reference3.main_arg5)
      ∧ r.2.mem ((c.tc : Thread Cert.Reference3.nD Cert.Reference3.τ).loc Cert.Reference3.main_arg6) = m ((c.tc : Thread Cert.Reference3.nD Cert.Reference3.τ).loc Cert.Reference3.main_arg6)
      ∧ r.2.mem ((c.tc : Thread Cert.Reference3.nD Cert.Reference3.τ).loc Cert.Reference3.main_arg7) = m ((c.tc : Thread Cert.Reference3.nD Cert.Reference3.τ).loc Cert.Reference3.main_arg7)
      ∧ r.2.mem ((c.tc : Thread Cert.Reference3.nD Cert.Reference3.τ).loc Cert.Reference3.main_arg8) = m ((c.tc : Thread Cert.Reference3.nD Cert.Reference3.τ).loc Cert.Reference3.main_arg8)
      ∧ r.2.mem ((c.tc : Thread Cert.Reference3.nD Cert.Reference3.τ).loc Cert.Reference3.main_arg9) = m ((c.tc : Thread Cert.Reference3.nD Cert.Reference3.τ).loc Cert.Reference3.main_arg9)
      ∧ r.2.mem ((c.tc : Thread Cert.Reference3.nD Cert.Reference3.τ).loc Cert.Reference3.main_arg10) = m ((c.tc : Thread Cert.Reference3.nD Cert.Reference3.τ).loc Cert.Reference3.main_arg10)
      ∧ r.2.mem ((c.tc : Thread Cert.Reference3.nD Cert.Reference3.τ).loc Cert.Reference3.main_arg11) = m ((c.tc : Thread Cert.Reference3.nD Cert.Reference3.τ).loc Cert.Reference3.main_arg11)
      ∧ r.2.mem ((c.tc : Thread Cert.Reference3.nD Cert.Reference3.τ).loc Cert.Reference3.main_arg12) = m ((c.tc : Thread Cert.Reference3.nD Cert.Reference3.τ).loc Cert.Reference3.main_arg12)
      ∧ r.2.mem ((c.tc : Thread Cert.Reference3.nD Cert.Reference3.τ).loc Cert.Reference3.main_arg13) = m ((c.tc : Thread Cert.Reference3.nD Cert.Reference3.τ).loc Cert.Reference3.main_arg13)
      ∧ r.2.mem ((c.tc : Thread Cert.Reference3.nD Cert.Reference3.τ).loc Cert.Reference3.main_arg14) = m ((c.tc : Thread Cert.Reference3.nD Cert.Reference3.τ).loc Cert.Reference3.main_arg14)
      ∧ r.2.mem ((c.tc : Thread Cert.Reference3.nD Cert.Reference3.τ).loc Cert.Reference3.main_arg15) = m ((c.tc : Thread Cert.Reference3.nD Cert.Reference3.τ).loc Cert.Reference3.main_arg15))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v103) = v0 c
          ∧ r.2.mem ((c.tc : Thread Cert.Reference2Ideal.nD Cert.Reference2Ideal.τ).loc Cert.Reference2Ideal.main_v118) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_2)) (v3 : (c : Dev Cert.Kernel3Ideal.nD) → Buf (Elt Ideal) ((c.tc : Thread Cert.Kernel3Ideal.nD Cert.Kernel3Ideal.τ).loc Cert.Kernel3Ideal.main_v47_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_2) = v2 c
          ∧ r.2.mem ((c.tc : Thread Cert.Kernel3Ideal.nD Cert.Kernel3Ideal.τ).loc Cert.Kernel3Ideal.main_v47_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v103) = v0 c
          ∧ r.2.mem ((c.tc : Thread Cert.Reference3Ideal.nD Cert.Reference3Ideal.τ).loc Cert.Reference3Ideal.main_v213) = v1 c
          ∧ r.2.mem ((c.tc : Thread Cert.Reference3Ideal.nD Cert.Reference3Ideal.τ).loc Cert.Reference3Ideal.main_v217) = v2 c
          ∧ r.2.mem ((c.tc : Thread Cert.Reference3Ideal.nD Cert.Reference3Ideal.τ).loc Cert.Reference3Ideal.main_v221) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
-- ==== Pre_finite_scores.lean ====
abbrev S32768x1024 : Shape := ⟨2, ![32768, 1024]⟩
abbrev S4x2x16384x256 : Shape := ⟨4, ![4, 2, 16384, 256]⟩
abbrev S8x32768x128 : Shape := ⟨3, ![8, 32768, 128]⟩
abbrev S4x32768x128 : Shape := ⟨3, ![4, 32768, 128]⟩
abbrev S2x16 : Shape := ⟨2, ![2, 16]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x1024x1024 : Shape := ⟨3, ![4, 1024, 1024]⟩
abbrev S4x256x1024 : Shape := ⟨3, ![4, 256, 1024]⟩
abbrev S1024 : Shape := ⟨1, ![1024]⟩
abbrev S_ : Shape := ⟨0, ![]⟩

class Facts : Prop where
  bitsLt_bf16_f32 : FTy.bits .bf16 < FTy.bits .f32
  bcast_S_S8x32768x128 : S_.BroadcastsInDim S8x32768x128 (![] : Fin 0 → Fin S8x32768x128.rank)
  bcast_S_S4x32768x128 : S_.BroadcastsInDim S4x32768x128 (![] : Fin 0 → Fin S4x32768x128.rank)
  bcast_S_S2x16 : S_.BroadcastsInDim S2x16 (![] : Fin 0 → Fin S2x16.rank)

variable [Facts]

def fn {F : FTy → Type} [FloatOps F] (main_arg0 : FVec F S32768x1024 .f32) (main_arg1 : FVec F S4x2x16384x256 .f32) (main_arg2 : FVec F S8x32768x128 .bf16) (main_arg3 : FVec F S4x32768x128 .bf16) (main_arg4 : FVec F S4x32768x128 .bf16) (main_arg5 : FVec F S2x16 .f32) (main_arg6 : FVec F S2x1024x1024 .f32) (main_arg7 : FVec F S4x1024 .f32) (main_arg8 : FVec F S4x1024x4096 .f32) (main_arg9 : FVec F S4x4096x1024 .f32) (main_arg10 : FVec F S4x1024 .f32) (main_arg11 : FVec F S4x1024x1024 .f32) (main_arg12 : FVec F S4x256x1024 .f32) (main_arg13 : FVec F S1024 .f32) : IVec S8x32768x128 1 × IVec S4x32768x128 1 × IVec S2x16 1 :=
  let main_v0 : FVec F S8x32768x128 .f32 := (extf .f32 · bitsLt_bf16_f32) main_arg2
  let main_v1 : FVec F S8x32768x128 .f32 := Host.absf main_v0
  let main_cst : FVec F S_ .f32 := constant S_ .f32 0x7F800000#32
  let main_v2 : FVec F S8x32768x128 .f32 := broadcastInDim S8x32768x128 ![] bcast_S_S8x32768x128 main_cst
  let main_v3 : IVec S8x32768x128 1 := cmpf .olt main_v1 main_v2
  let main_v4 : FVec F S4x32768x128 .f32 := (extf .f32 · bitsLt_bf16_f32) main_arg3
  let main_v5 : FVec F S4x32768x128 .f32 := Host.absf main_v4
  let main_cst_0 : FVec F S_ .f32 := constant S_ .f32 0x7F800000#32
  let main_v6 : FVec F S4x32768x128 .f32 := broadcastInDim S4x32768x128 ![] bcast_S_S4x32768x128 main_cst_0
  let main_v7 : IVec S4x32768x128 1 := cmpf .olt main_v5 main_v6
  let main_v8 : FVec F S2x16 .f32 := Host.absf main_arg5
  let main_cst_1 : FVec F S_ .f32 := constant S_ .f32 0x7F800000#32
  let main_v9 : FVec F S2x16 .f32 := broadcastInDim S2x16 ![] bcast_S_S2x16 main_cst_1
  let main_v10 : IVec S2x16 1 := cmpf .olt main_v8 main_v9
  (main_v3, main_v7, main_v10)
-- ==== Kernel.lean ====
abbrev S32768x1024 : Shape := ⟨2, ![32768, 1024]⟩
abbrev S4x2x16384x256 : Shape := ⟨4, ![4, 2, 16384, 256]⟩
abbrev S8x32768x128 : Shape := ⟨3, ![8, 32768, 128]⟩
abbrev S4x32768x128 : Shape := ⟨3, ![4, 32768, 128]⟩
abbrev S2x16 : Shape := ⟨2, ![2, 16]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x1024x1024 : Shape := ⟨3, ![4, 1024, 1024]⟩
abbrev S4x256x1024 : Shape := ⟨3, ![4, 256, 1024]⟩
abbrev S1024 : Shape := ⟨1, ![1024]⟩
abbrev S4x32768x256 : Shape := ⟨3, ![4, 32768, 256]⟩
abbrev S4x1024x1 : Shape := ⟨3, ![4, 1024, 1]⟩
abbrev S1x16 : Shape := ⟨2, ![1, 16]⟩
abbrev S16 : Shape := ⟨1, ![16]⟩
abbrev S1x1024 : Shape := ⟨2, ![1, 1024]⟩
abbrev S512x1024 : Shape := ⟨2, ![512, 1024]⟩
abbrev S1x512x256 : Shape := ⟨3, ![1, 512, 256]⟩
abbrev S8x512x128 : Shape := ⟨3, ![8, 512, 128]⟩
abbrev S4x512x128 : Shape := ⟨3, ![4, 512, 128]⟩
abbrev S4x128x128 : Shape := ⟨3, ![4, 128, 128]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S128x256 : Shape := ⟨2, ![128, 256]⟩
abbrev S128x128 : Shape := ⟨2, ![128, 128]⟩
abbrev S256x1024 : Shape := ⟨2, ![256, 1024]⟩
abbrev S1x128x128 : Shape := ⟨3, ![1, 128, 128]⟩
abbrev S256x128 : Shape := ⟨2, ![256, 128]⟩
abbrev S256x256 : Shape := ⟨2, ![256, 256]⟩
abbrev S1 : Shape := ⟨1, ![1]⟩
abbrev S128 : Shape := ⟨1, ![128]⟩
abbrev S128x1 : Shape := ⟨2, ![128, 1]⟩
abbrev S1024x1024 : Shape := ⟨2, ![1024, 1024]⟩
abbrev S256 : Shape := ⟨1, ![256]⟩
abbrev S256x1 : Shape := ⟨2, ![256, 1]⟩
abbrev S1x256x256 : Shape := ⟨3, ![1, 256, 256]⟩

abbrev nBuf : Space → Nat
  | .hbm => 30
  | .vmem => 23
  | .smem => 1
  | _ => 0

abbrev bufTy : (tb : Table) → Fin (tcTables nBuf tb) → BufTy
  | .hbm, ⟨0, _⟩ => ⟨S32768x1024, .f32⟩
  | .hbm, ⟨1, _⟩ => ⟨S4x2x16384x256, .f32⟩
  | .hbm, ⟨2, _⟩ => ⟨S8x32768x128, .bf16⟩
  | .hbm, ⟨3, _⟩ => ⟨S4x32768x128, .bf16⟩
  | .hbm, ⟨4, _⟩ => ⟨S4x32768x128, .bf16⟩
  | .hbm, ⟨5, _⟩ => ⟨S2x16, .f32⟩
  | .hbm, ⟨6, _⟩ => ⟨S2x1024x1024, .f32⟩
  | .hbm, ⟨7, _⟩ => ⟨S4x1024, .f32⟩
  | .hbm, ⟨8, _⟩ => ⟨S4x1024x4096, .f32⟩
  | .hbm, ⟨9, _⟩ => ⟨S4x4096x1024, .f32⟩
  | .hbm, ⟨10, _⟩ => ⟨S4x1024, .f32⟩
  | .hbm, ⟨11, _⟩ => ⟨S4x1024x1024, .f32⟩
  | .hbm, ⟨12, _⟩ => ⟨S4x256x1024, .f32⟩
  | .hbm, ⟨13, _⟩ => ⟨S1024, .f32⟩
  | .hbm, ⟨14, _⟩ => ⟨S4x32768x256, .f32⟩
  | .hbm, ⟨15, _⟩ => ⟨S4x1024x1, .f32⟩
  | .hbm, ⟨16, _⟩ => ⟨S4x1024x4096, .f32⟩
  | .hbm, ⟨17, _⟩ => ⟨S4x1024x4096, .f32⟩
  | .hbm, ⟨18, _⟩ => ⟨S4x1024x4096, .bf16⟩
  | .hbm, ⟨19, _⟩ => ⟨S4x4096x1024, .bf16⟩
  | .hbm, ⟨20, _⟩ => ⟨S4x1024x1, .f32⟩
  | .hbm, ⟨21, _⟩ => ⟨S4x1024x1024, .f32⟩
  | .hbm, ⟨22, _⟩ => ⟨S4x1024x1024, .f32⟩
  | .hbm, ⟨23, _⟩ => ⟨S4x1024x1024, .bf16⟩
  | .hbm, ⟨24, _⟩ => ⟨S4x256x1024, .bf16⟩
  | .hbm, ⟨25, _⟩ => ⟨S2x1024x1024, .bf16⟩
  | .hbm, ⟨26, _⟩ => ⟨S1x16, .f32⟩
  | .hbm, ⟨27, _⟩ => ⟨S16, .f32⟩
  | .hbm, ⟨28, _⟩ => ⟨S1x1024, .f32⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S8x512x128, .bf16⟩
  | .local _ .vmem, ⟨5, _⟩ => ⟨S8x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S4x128x128, .bf16⟩
  | .local _ .vmem, ⟨9, _⟩ => ⟨S4x128x128, .bf16⟩
  | .local _ .vmem, ⟨10, _⟩ => ⟨S4x512x128, .bf16⟩
  | .local _ .vmem, ⟨11, _⟩ => ⟨S4x512x128, .bf16⟩
  | .local _ .vmem, ⟨12, _⟩ => ⟨S4x128x128, .bf16⟩
  | .local _ .vmem, ⟨13, _⟩ => ⟨S4x128x128, .bf16⟩
  | .local _ .vmem, ⟨14, _⟩ => ⟨S1x1024x1024, .bf16⟩
  | .local _ .vmem, ⟨15, _⟩ => ⟨S1x1024x4096, .bf16⟩
  | .local _ .vmem, ⟨16, _⟩ => ⟨S1x4096x1024, .bf16⟩
  | .local _ .vmem, ⟨17, _⟩ => ⟨S1x1024x1024, .bf16⟩
  | .local _ .vmem, ⟨18, _⟩ => ⟨S1x256x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .smem, ⟨0, _⟩ => ⟨S16, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "mask" => some ⊥
  | _ => none
-- ==== Reference.lean ====
abbrev S32768x1024 : Shape := ⟨2, ![32768, 1024]⟩
abbrev S4x2x16384x256 : Shape := ⟨4, ![4, 2, 16384, 256]⟩
abbrev S8x32768x128 : Shape := ⟨3, ![8, 32768, 128]⟩
abbrev S4x32768x128 : Shape := ⟨3, ![4, 32768, 128]⟩
abbrev S2x16 : Shape := ⟨2, ![2, 16]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x1024x1024 : Shape := ⟨3, ![4, 1024, 1024]⟩
abbrev S4x256x1024 : Shape := ⟨3, ![4, 256, 1024]⟩
abbrev S1024 : Shape := ⟨1, ![1024]⟩
abbrev S8x32768x2x64 : Shape := ⟨4, ![8, 32768, 2, 64]⟩
abbrev S8x2x32768x64 : Shape := ⟨4, ![8, 2, 32768, 64]⟩
abbrev S16x256x128x64 : Shape := ⟨4, ![16, 256, 128, 64]⟩
abbrev S4x32768x2x64 : Shape := ⟨4, ![4, 32768, 2, 64]⟩
abbrev S4x2x32768x64 : Shape := ⟨4, ![4, 2, 32768, 64]⟩
abbrev S4x1x2x32768x64 : Shape := ⟨5, ![4, 1, 2, 32768, 64]⟩
abbrev S4x2x2x32768x64 : Shape := ⟨5, ![4, 2, 2, 32768, 64]⟩
abbrev S16x1x128x64 : Shape := ⟨4, ![16, 1, 128, 64]⟩
abbrev S_ : Shape := ⟨0, ![]⟩
abbrev S16x255x128x64 : Shape := ⟨4, ![16, 255, 128, 64]⟩
abbrev S16x256x256x64 : Shape := ⟨4, ![16, 256, 256, 64]⟩
abbrev S16x256x128x256 : Shape := ⟨4, ![16, 256, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S1x1x256 : Shape := ⟨3, ![1, 1, 256]⟩
abbrev S256x1x1 : Shape := ⟨3, ![256, 1, 1]⟩
abbrev S256x1x256 : Shape := ⟨3, ![256, 1, 256]⟩
abbrev S256x128x256 : Shape := ⟨3, ![256, 128, 256]⟩
abbrev S1x256x128x256 : Shape := ⟨4, ![1, 256, 128, 256]⟩
abbrev S1x16 : Shape := ⟨2, ![1, 16]⟩
abbrev S16 : Shape := ⟨1, ![16]⟩
abbrev S16x1x1x1 : Shape := ⟨4, ![16, 1, 1, 1]⟩
abbrev S16x256x128 : Shape := ⟨3, ![16, 256, 128]⟩
abbrev S16x256x128x1 : Shape := ⟨4, ![16, 256, 128, 1]⟩
abbrev S16x32768x64 : Shape := ⟨3, ![16, 32768, 64]⟩
abbrev S32768x16x64 : Shape := ⟨3, ![32768, 16, 64]⟩
abbrev S1x1024x1024 : Shape := ⟨3, ![1, 1024, 1024]⟩
abbrev S1024x1024 : Shape := ⟨2, ![1024, 1024]⟩
abbrev S1x1024 : Shape := ⟨2, ![1, 1024]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩
abbrev S1x2x16384x256 : Shape := ⟨4, ![1, 2, 16384, 256]⟩
abbrev S2x16384x256 : Shape := ⟨3, ![2, 16384, 256]⟩
abbrev S32768x256 : Shape := ⟨2, ![32768, 256]⟩
abbrev S1x256x1024 : Shape := ⟨3, ![1, 256, 1024]⟩
abbrev S256x1024 : Shape := ⟨2, ![256, 1024]⟩

abbrev nBuf : Space → Nat
  | .hbm => 214
  | .vmem => 0
  | .smem => 0
  | _ => 0

abbrev hbmTy0_0 (i : Nat) : BufTy := match i % 128 with
  | 0 => ⟨S32768x1024, .f32⟩
  | 1 => ⟨S4x2x16384x256, .f32⟩
  | 2 => ⟨S8x32768x128, .bf16⟩
  | 3 => ⟨S4x32768x128, .bf16⟩
  | 4 => ⟨S4x32768x128, .bf16⟩
  | 5 => ⟨S2x16, .f32⟩
  | 6 => ⟨S2x1024x1024, .f32⟩
  | 7 => ⟨S4x1024, .f32⟩
  | 8 => ⟨S4x1024x4096, .f32⟩
  | 9 => ⟨S4x4096x1024, .f32⟩
  | 10 => ⟨S4x1024, .f32⟩
  | 11 => ⟨S4x1024x1024, .f32⟩
  | 12 => ⟨S4x256x1024, .f32⟩
  | 13 => ⟨S1024, .f32⟩
  | 14 => ⟨S8x32768x128, .f32⟩
  | 15 => ⟨S8x32768x2x64, .f32⟩
  | 16 => ⟨S8x2x32768x64, .f32⟩
  | 17 => ⟨S16x256x128x64, .f32⟩
  | 18 => ⟨S4x32768x128, .f32⟩
  | 19 => ⟨S4x32768x2x64, .f32⟩
  | 20 => ⟨S4x2x32768x64, .f32⟩
  | 21 => ⟨S4x1x2x32768x64, .f32⟩
  | 22 => ⟨S4x2x2x32768x64, .f32⟩
  | 23 => ⟨S16x256x128x64, .f32⟩
  | 24 => ⟨S4x32768x128, .f32⟩
  | 25 => ⟨S4x32768x2x64, .f32⟩
  | 26 => ⟨S4x2x32768x64, .f32⟩
  | 27 => ⟨S4x1x2x32768x64, .f32⟩
  | 28 => ⟨S4x2x2x32768x64, .f32⟩
  | 29 => ⟨S16x256x128x64, .f32⟩
  | 30 => ⟨S16x1x128x64, .f32⟩
  | 31 => ⟨S_, .f32⟩
  | 32 => ⟨S16x1x128x64, .f32⟩
  | 33 => ⟨S16x255x128x64, .f32⟩
  | 34 => ⟨S16x256x128x64, .f32⟩
  | 35 => ⟨S16x1x128x64, .f32⟩
  | 36 => ⟨S_, .f32⟩
  | 37 => ⟨S16x1x128x64, .f32⟩
  | 38 => ⟨S16x255x128x64, .f32⟩
  | 39 => ⟨S16x256x128x64, .f32⟩
  | 40 => ⟨S16x256x256x64, .f32⟩
  | 41 => ⟨S16x256x256x64, .f32⟩
  | 42 => ⟨S16x256x128x256, .f32⟩
  | 43 => ⟨S128, .i32⟩
  | 44 => ⟨S128x1, .i32⟩
  | 45 => ⟨S_, .i32⟩
  | 46 => ⟨S128x1, .i32⟩
  | 47 => ⟨S128x1, .i32⟩
  | 48 => ⟨S256, .i32⟩
  | 49 => ⟨S1x256, .i32⟩
  | 50 => ⟨S128x256, .i32⟩
  | 51 => ⟨S128x256, .i32⟩
  | 52 => ⟨S128x256, .i1⟩
  | 53 => ⟨S128x256, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S128x256, .i1⟩
  | 60 => ⟨S256, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S256, .i32⟩
  | 68 => ⟨S256, .i32⟩
  | 69 => ⟨S_, .i32⟩
  | 70 => ⟨S256, .i32⟩
  | 71 => ⟨S256, .i1⟩
  | 72 => ⟨S_, .i32⟩
  | 73 => ⟨S256, .i32⟩
  | 74 => ⟨S256, .i1⟩
  | 75 => ⟨S_, .i32⟩
  | 76 => ⟨S_, .i1⟩
  | 77 => ⟨S256, .i1⟩
  | 78 => ⟨S256, .i1⟩
  | 79 => ⟨S256, .i1⟩
  | 80 => ⟨S256, .i32⟩
  | 81 => ⟨S256, .i32⟩
  | 82 => ⟨S256, .i32⟩
  | 83 => ⟨S_, .i32⟩
  | 84 => ⟨S256, .i32⟩
  | 85 => ⟨S256, .i1⟩
  | 86 => ⟨S1x128x256, .i1⟩
  | 87 => ⟨S_, .i32⟩
  | 88 => ⟨S1x256, .i32⟩
  | 89 => ⟨S1x256, .i1⟩
  | 90 => ⟨S1x1x256, .i1⟩
  | 91 => ⟨S256x1x1, .i1⟩
  | 92 => ⟨S256x1x256, .i1⟩
  | 93 => ⟨S256x1x256, .i1⟩
  | 94 => ⟨S256x1x256, .i1⟩
  | 95 => ⟨S256x128x256, .i1⟩
  | 96 => ⟨S256x128x256, .i1⟩
  | 97 => ⟨S256x128x256, .i1⟩
  | 98 => ⟨S1x256x128x256, .i1⟩
  | 99 => ⟨S_, .f32⟩
  | 100 => ⟨S_, .f32⟩
  | 101 => ⟨S16x256x128x256, .i1⟩
  | 102 => ⟨S16x256x128x256, .f32⟩
  | 103 => ⟨S16x256x128x256, .f32⟩
  | 104 => ⟨S1x16, .f32⟩
  | 105 => ⟨S16, .f32⟩
  | 106 => ⟨S16x1x1x1, .f32⟩
  | 107 => ⟨S_, .f32⟩
  | 108 => ⟨S16x256x128, .f32⟩
  | 109 => ⟨S16x256x128x1, .f32⟩
  | 110 => ⟨S16x256x128x1, .f32⟩
  | 111 => ⟨S16x256x128x1, .f32⟩
  | 112 => ⟨S16x256x128x256, .f32⟩
  | 113 => ⟨S16x256x128x256, .f32⟩
  | 114 => ⟨S16x256x128x256, .f32⟩
  | 115 => ⟨S_, .f32⟩
  | 116 => ⟨S16x256x128, .f32⟩
  | 117 => ⟨S16x256x128x1, .f32⟩
  | 118 => ⟨S16x256x128x1, .f32⟩
  | 119 => ⟨S16x256x128x1, .f32⟩
  | 120 => ⟨S16x256x128x1, .f32⟩
  | 121 => ⟨S16x256x128x1, .f32⟩
  | 122 => ⟨S16x256x128x256, .f32⟩
  | 123 => ⟨S16x256x128x256, .f32⟩
  | 124 => ⟨S16x256x128x64, .f32⟩
  | 125 => ⟨S16x32768x64, .f32⟩
  | 126 => ⟨S32768x16x64, .f32⟩
  | 127 => ⟨S32768x1024, .f32⟩
  | _ => ⟨S32768x1024, .f32⟩

abbrev hbmTy0_1 (i : Nat) : BufTy := match i % 128 with
  | 0 => ⟨S1x1024x1024, .f32⟩
  | 1 => ⟨S1024x1024, .f32⟩
  | 2 => ⟨S32768x1024, .f32⟩
  | 3 => ⟨S32768x1024, .f32⟩
  | 4 => ⟨S1x1024, .f32⟩
  | 5 => ⟨S1024, .f32⟩
  | 6 => ⟨S32768x1024, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x1024, .f32⟩
  | 18 => ⟨S32768x1024, .f32⟩
  | 19 => ⟨S1x1024, .f32⟩
  | 20 => ⟨S32768x1024, .f32⟩
  | 21 => ⟨S32768x1024, .f32⟩
  | 22 => ⟨S1x1024x4096, .f32⟩
  | 23 => ⟨S1024x4096, .f32⟩
  | 24 => ⟨S32768x4096, .f32⟩
  | 25 => ⟨S_, .f32⟩
  | 26 => ⟨S32768x4096, .f32⟩
  | 27 => ⟨S32768x4096, .f32⟩
  | 28 => ⟨S32768x4096, .f32⟩
  | 29 => ⟨S1x4096x1024, .f32⟩
  | 30 => ⟨S4096x1024, .f32⟩
  | 31 => ⟨S32768x1024, .f32⟩
  | 32 => ⟨S32768x1024, .f32⟩
  | 33 => ⟨S1x1024, .f32⟩
  | 34 => ⟨S1024, .f32⟩
  | 35 => ⟨S32768x1024, .f32⟩
  | 36 => ⟨S_, .f32⟩
  | 37 => ⟨S32768, .f32⟩
  | 38 => ⟨S32768x1, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .f32⟩
  | 45 => ⟨S32768x1, .f32⟩
  | 46 => ⟨S32768x1024, .f32⟩
  | 47 => ⟨S32768x1024, .f32⟩
  | 48 => ⟨S1x1024, .f32⟩
  | 49 => ⟨S32768x1024, .f32⟩
  | 50 => ⟨S32768x1024, .f32⟩
  | 51 => ⟨S1x1024x1024, .f32⟩
  | 52 => ⟨S1024x1024, .f32⟩
  | 53 => ⟨S32768x1024, .f32⟩
  | 54 => ⟨S32768x1024, .f32⟩
  | 55 => ⟨S32768x1024, .f32⟩
  | 56 => ⟨S_, .f32⟩
  | 57 => ⟨S32768x1024, .f32⟩
  | 58 => ⟨S32768x1024, .f32⟩
  | 59 => ⟨S_, .f32⟩
  | 60 => ⟨S32768x1024, .f32⟩
  | 61 => ⟨S32768x1024, .f32⟩
  | 62 => ⟨S1x2x16384x256, .f32⟩
  | 63 => ⟨S2x16384x256, .f32⟩
  | 64 => ⟨S32768x256, .f32⟩
  | 65 => ⟨S1x256x1024, .f32⟩
  | 66 => ⟨S256x1024, .f32⟩
  | 67 => ⟨S32768x1024, .f32⟩
  | 68 => ⟨S32768x1024, .f32⟩
  | 69 => ⟨S32768x1024, .f32⟩
  | 70 => ⟨S32768x1024, .f32⟩
  | 71 => ⟨S_, .f32⟩
  | 72 => ⟨S32768, .f32⟩
  | 73 => ⟨S32768x1, .f32⟩
  | 74 => ⟨S_, .f32⟩
  | 75 => ⟨S32768x1, .f32⟩
  | 76 => ⟨S32768x1, .f32⟩
  | 77 => ⟨S_, .f32⟩
  | 78 => ⟨S32768x1, .f32⟩
  | 79 => ⟨S32768x1, .f32⟩
  | 80 => ⟨S32768x1, .f32⟩
  | 81 => ⟨S32768x1024, .f32⟩
  | 82 => ⟨S32768x1024, .f32⟩
  | 83 => ⟨S1x1024, .f32⟩
  | 84 => ⟨S32768x1024, .f32⟩
  | 85 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_2 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_c_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_1 : Ref sig .tc := ⟨.hbm, 69, rfl⟩
abbrev main_call0_v5 : Ref sig .tc := ⟨.hbm, 70, rfl⟩
abbrev main_call0_v6 : Ref sig .tc := ⟨.hbm, 71, rfl⟩
abbrev main_call0_c_2 : Ref sig .tc := ⟨.hbm, 72, rfl⟩
abbrev main_call0_v7 : Ref sig .tc := ⟨.hbm, 73, rfl⟩
abbrev main_call0_v8 : Ref sig .tc := ⟨.hbm, 74, rfl⟩
abbrev main_call0_c_3 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_v12 : Ref sig .tc := ⟨.hbm, 79, rfl⟩
abbrev main_call0_v13 : Ref sig .tc := ⟨.hbm, 80, rfl⟩
abbrev main_call0_v14 : Ref sig .tc := ⟨.hbm, 81, rfl⟩
abbrev main_v43 : Ref sig .tc := ⟨.hbm, 82, rfl⟩
abbrev main_c_3 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_4 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_5 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_6 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_7 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_8 : Ref sig .tc := ⟨.hbm, 135, rfl⟩
abbrev main_v88 : Ref sig .tc := ⟨.hbm, 136, rfl⟩
abbrev main_v89 : Ref sig .tc := ⟨.hbm, 137, rfl⟩
abbrev main_cst_9 : Ref sig .tc := ⟨.hbm, 138, rfl⟩
abbrev main_v90 : Ref sig .tc := ⟨.hbm, 139, rfl⟩
abbrev main_v91 : Ref sig .tc := ⟨.hbm, 140, rfl⟩
abbrev main_cst_10 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_11 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_12 : Ref sig .tc := ⟨.hbm, 164, rfl⟩
abbrev main_v113 : Ref sig .tc := ⟨.hbm, 165, rfl⟩
abbrev main_v114 : Ref sig .tc := ⟨.hbm, 166, rfl⟩
abbrev main_cst_13 : Ref sig .tc := ⟨.hbm, 167, rfl⟩
abbrev main_v115 : Ref sig .tc := ⟨.hbm, 168, rfl⟩
abbrev main_v116 : Ref sig .tc := ⟨.hbm, 169, rfl⟩
abbrev main_cst_14 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_15 : Ref sig .tc := ⟨.hbm, 184, rfl⟩
abbrev main_v130 : Ref sig .tc := ⟨.hbm, 185, rfl⟩
abbrev main_v131 : Ref sig .tc := ⟨.hbm, 186, rfl⟩
abbrev main_cst_16 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_17 : Ref sig .tc := ⟨.hbm, 199, rfl⟩
abbrev main_v143 : Ref sig .tc := ⟨.hbm, 200, rfl⟩
abbrev main_v144 : Ref sig .tc := ⟨.hbm, 201, rfl⟩
abbrev main_cst_18 : Ref sig .tc := ⟨.hbm, 202, rfl⟩
abbrev main_v145 : Ref sig .tc := ⟨.hbm, 203, rfl⟩
abbrev main_v146 : Ref sig .tc := ⟨.hbm, 204, rfl⟩
abbrev main_cst_19 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩

abbrev nD : Nat := 1
abbrev τ : Topo := Topo.v7x

variable {F : FTy → Type} [FloatOps F]
-- ==== Kernel2.lean ====
abbrev S32768x1024 : Shape := ⟨2, ![32768, 1024]⟩
abbrev S4x2x16384x256 : Shape := ⟨4, ![4, 2, 16384, 256]⟩
abbrev S4x1024 : Shape := ⟨2, ![4, 1024]⟩
abbrev S2x1024 : Shape := ⟨2, ![2, 1024]⟩
abbrev S2x1024x2048 : Shape := ⟨3, ![2, 1024, 2048]⟩
abbrev S4x1024x4096 : Shape := ⟨3, ![4, 1024, 4096]⟩
abbrev S4x4096x1024 : Shape := ⟨3, ![4, 4096, 1024]⟩
abbrev S4x1024x1024 : Shape := ⟨3, ![4, 1024, 1024]⟩
abbrev S4x256x1024 : Shape := ⟨3, ![4, 256, 1024]⟩
abbrev S4x32768x256 : Shape := ⟨3, ![4, 32768, 256]⟩
abbrev S4x1024x1 : Shape := ⟨3, ![4, 1024, 1]⟩
abbrev S1x1024 : Shape := ⟨2, ![1, 1024]⟩
abbrev S1024 : Shape := ⟨1, ![1024]⟩
abbrev S512x1024 : Shape := ⟨2, ![512, 1024]⟩
abbrev S1x512x256 : Shape := ⟨3, ![1, 512, 256]⟩
abbrev S1x1024x2048 : Shape := ⟨3, ![1, 1024, 2048]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1024x1024 : Shape := ⟨2, ![1024, 1024]⟩
abbrev S1x256x256 : Shape := ⟨3, ![1, 256, 256]⟩

abbrev nBuf : Space → Nat
  | .hbm => 35
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S4x2x16384x256, .f32⟩
  | .hbm, ⟨2, _⟩ => ⟨S32768x1024, .f32⟩
  | .hbm, ⟨3, _⟩ => ⟨S4x1024, .f32⟩
  | .hbm, ⟨4, _⟩ => ⟨S2x1024, .f32⟩
  | .hbm, ⟨5, _⟩ => ⟨S2x1024x2048, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S4x1024, .f32⟩
  | .hbm, ⟨10, _⟩ => ⟨S4x1024x1024, .f32⟩
  | .hbm, ⟨11, _⟩ => ⟨S4x256x1024, .f32⟩
  | .hbm, ⟨12, _⟩ => ⟨S4x32768x256, .f32⟩
  | .hbm, ⟨13, _⟩ => ⟨S2x1024x2048, .bf16⟩
  | .hbm, ⟨14, _⟩ => ⟨S4x1024x1, .f32⟩
  | .hbm, ⟨15, _⟩ => ⟨S4x1024x4096, .f32⟩
  | .hbm, ⟨16, _⟩ => ⟨S4x1024x4096, .f32⟩
  | .hbm, ⟨17, _⟩ => ⟨S4x1024x4096, .bf16⟩
  | .hbm, ⟨18, _⟩ => ⟨S4x4096x1024, .bf16⟩
  | .hbm, ⟨19, _⟩ => ⟨S4x1024x1, .f32⟩
  | .hbm, ⟨20, _⟩ => ⟨S4x1024x1024, .f32⟩
  | .hbm, ⟨21, _⟩ => ⟨S4x1024x1024, .f32⟩
  | .hbm, ⟨22, _⟩ => ⟨S4x1024x1024, .bf16⟩
  | .hbm, ⟨23, _⟩ => ⟨S4x256x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S32768x1024, .f32⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024x2048, .bf16⟩
  | .local _ .vmem, ⟨9, _⟩ => ⟨S1x1024x4096, .bf16⟩
  | .local _ .vmem, ⟨10, _⟩ => ⟨S1x4096x1024, .bf16⟩
  | .local _ .vmem, ⟨11, _⟩ => ⟨S1x1024x1024, .bf16⟩
  | .local _ .vmem, ⟨12, _⟩ => ⟨S1x256x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2.lean ====
abbrev S32768x1024 : Shape := ⟨2, ![32768, 1024]⟩
abbrev S4x2x16384x256 : Shape := ⟨4, ![4, 2, 16384, 256]⟩
abbrev S4x1024 : Shape := ⟨2, ![4, 1024]⟩
abbrev S2x1024 : Shape := ⟨2, ![2, 1024]⟩
abbrev S2x1024x2048 : Shape := ⟨3, ![2, 1024, 2048]⟩
abbrev S4x1024x4096 : Shape := ⟨3, ![4, 1024, 4096]⟩
abbrev S4x4096x1024 : Shape := ⟨3, ![4, 4096, 1024]⟩
abbrev S4x1024x1024 : Shape := ⟨3, ![4, 1024, 1024]⟩
abbrev S4x256x1024 : Shape := ⟨3, ![4, 256, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2048 : Shape := ⟨3, ![1, 1024, 2048]⟩
abbrev S1024x2048 : Shape := ⟨2, ![1024, 2048]⟩
abbrev S32768x2048 : Shape := ⟨2, ![32768, 2048]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1x2x16384x256 : Shape := ⟨4, ![1, 2, 16384, 256]⟩
abbrev S2x16384x256 : Shape := ⟨3, ![2, 16384, 256]⟩
abbrev S32768x256 : Shape := ⟨2, ![32768, 256]⟩
abbrev S1x256x1024 : Shape := ⟨3, ![1, 256, 1024]⟩
abbrev S256x1024 : Shape := ⟨2, ![256, 1024]⟩

abbrev nBuf : Space → Nat
  | .hbm => 152
  | .vmem => 0
  | .smem => 0
  | _ => 0

abbrev hbmTy0_0 (i : Nat) : BufTy := match i % 128 with
  | 0 => ⟨S32768x1024, .f32⟩
  | 1 => ⟨S4x2x16384x256, .f32⟩
  | 2 => ⟨S32768x1024, .f32⟩
  | 3 => ⟨S4x1024, .f32⟩
  | 4 => ⟨S2x1024, .f32⟩
  | 5 => ⟨S2x1024x2048, .f32⟩
  | 6 => ⟨S4x1024, .f32⟩
  | 7 => ⟨S4x1024x4096, .f32⟩
  | 8 => ⟨S4x4096x1024, .f32⟩
  | 9 => ⟨S4x1024, .f32⟩
  | 10 => ⟨S4x1024x1024, .f32⟩
  | 11 => ⟨S4x256x1024, .f32⟩
  | 12 => ⟨S1x1024, .f32⟩
  | 13 => ⟨S1024, .f32⟩
  | 14 => ⟨S32768x1024, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1024, .f32⟩
  | 26 => ⟨S32768x1024, .f32⟩
  | 27 => ⟨S1x1024, .f32⟩
  | 28 => ⟨S32768x1024, .f32⟩
  | 29 => ⟨S32768x1024, .f32⟩
  | 30 => ⟨S1x1024, .f32⟩
  | 31 => ⟨S1024, .f32⟩
  | 32 => ⟨S1x1024, .f32⟩
  | 33 => ⟨S32768x1024, .f32⟩
  | 34 => ⟨S32768x1024, .f32⟩
  | 35 => ⟨S32768x1024, .f32⟩
  | 36 => ⟨S32768x1024, .f32⟩
  | 37 => ⟨S32768x1024, .f32⟩
  | 38 => ⟨S_, .f32⟩
  | 39 => ⟨S32768x1024, .f32⟩
  | 40 => ⟨S32768x1024, .f32⟩
  | 41 => ⟨S32768x1024, .f32⟩
  | 42 => ⟨S_, .f32⟩
  | 43 => ⟨S32768x1024, .f32⟩
  | 44 => ⟨S32768x1024, .f32⟩
  | 45 => ⟨S32768x1024, .f32⟩
  | 46 => ⟨S_, .f32⟩
  | 47 => ⟨S32768x1024, .f32⟩
  | 48 => ⟨S32768x1024, .f32⟩
  | 49 => ⟨S_, .f32⟩
  | 50 => ⟨S32768x1024, .f32⟩
  | 51 => ⟨S32768x1024, .f32⟩
  | 52 => ⟨S32768x1024, .f32⟩
  | 53 => ⟨S1x1024x2048, .f32⟩
  | 54 => ⟨S1024x2048, .f32⟩
  | 55 => ⟨S32768x2048, .f32⟩
  | 56 => ⟨S32768x1024, .f32⟩
  | 57 => ⟨S32768x1024, .f32⟩
  | 58 => ⟨S32768x1024, .f32⟩
  | 59 => ⟨S32768x1024, .f32⟩
  | 60 => ⟨S_, .f32⟩
  | 61 => ⟨S32768x1024, .f32⟩
  | 62 => ⟨S32768x1024, .f32⟩
  | 63 => ⟨S_, .f32⟩
  | 64 => ⟨S32768x1024, .f32⟩
  | 65 => ⟨S32768x1024, .f32⟩
  | 66 => ⟨S32768x1024, .f32⟩
  | 67 => ⟨S32768x1024, .f32⟩
  | 68 => ⟨S1x1024, .f32⟩
  | 69 => ⟨S1024, .f32⟩
  | 70 => ⟨S32768x1024, .f32⟩
  | 71 => ⟨S_, .f32⟩
  | 72 => ⟨S32768, .f32⟩
  | 73 => ⟨S32768x1, .f32⟩
  | 74 => ⟨S_, .f32⟩
  | 75 => ⟨S32768x1, .f32⟩
  | 76 => ⟨S32768x1, .f32⟩
  | 77 => ⟨S_, .f32⟩
  | 78 => ⟨S32768x1, .f32⟩
  | 79 => ⟨S32768x1, .f32⟩
  | 80 => ⟨S32768x1, .f32⟩
  | 81 => ⟨S32768x1024, .f32⟩
  | 82 => ⟨S32768x1024, .f32⟩
  | 83 => ⟨S1x1024, .f32⟩
  | 84 => ⟨S32768x1024, .f32⟩
  | 85 => ⟨S32768x1024, .f32⟩
  | 86 => ⟨S1x1024x4096, .f32⟩
  | 87 => ⟨S1024x4096, .f32⟩
  | 88 => ⟨S32768x4096, .f32⟩
  | 89 => ⟨S_, .f32⟩
  | 90 => ⟨S32768x4096, .f32⟩
  | 91 => ⟨S32768x4096, .f32⟩
  | 92 => ⟨S32768x4096, .f32⟩
  | 93 => ⟨S1x4096x1024, .f32⟩
  | 94 => ⟨S4096x1024, .f32⟩
  | 95 => ⟨S32768x1024, .f32⟩
  | 96 => ⟨S32768x1024, .f32⟩
  | 97 => ⟨S1x1024, .f32⟩
  | 98 => ⟨S1024, .f32⟩
  | 99 => ⟨S32768x1024, .f32⟩
  | 100 => ⟨S_, .f32⟩
  | 101 => ⟨S32768, .f32⟩
  | 102 => ⟨S32768x1, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S32768x1, .f32⟩
  | 110 => ⟨S32768x1024, .f32⟩
  | 111 => ⟨S32768x1024, .f32⟩
  | 112 => ⟨S1x1024, .f32⟩
  | 113 => ⟨S32768x1024, .f32⟩
  | 114 => ⟨S32768x1024, .f32⟩
  | 115 => ⟨S1x1024x1024, .f32⟩
  | 116 => ⟨S1024x1024, .f32⟩
  | 117 => ⟨S32768x1024, .f32⟩
  | 118 => ⟨S32768x1024, .f32⟩
  | 119 => ⟨S32768x1024, .f32⟩
  | 120 => ⟨S_, .f32⟩
  | 121 => ⟨S32768x1024, .f32⟩
  | 122 => ⟨S32768x1024, .f32⟩
  | 123 => ⟨S_, .f32⟩
  | 124 => ⟨S32768x1024, .f32⟩
  | 125 => ⟨S32768x1024, .f32⟩
  | 126 => ⟨S1x2x16384x256, .f32⟩
  | 127 => ⟨S2x16384x256, .f32⟩
  | _ => ⟨S32768x1024, .f32⟩

abbrev hbmTy0_1 (i : Nat) : BufTy := match i % 128 with
  | 0 => ⟨S32768x256, .f32⟩
  | 1 => ⟨S1x256x1024, .f32⟩
  | 2 => ⟨S256x1024, .f32⟩
  | 3 => ⟨S32768x1024, .f32⟩
  | 4 => ⟨S32768x1024, .f32⟩
  | 5 => ⟨S32768x1024, .f32⟩
  | 6 => ⟨S1x1024, .f32⟩
  | 7 => ⟨S1024, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_15 : Ref sig .tc := ⟨.hbm, 120, rfl⟩
abbrev main_v92 : Ref sig .tc := ⟨.hbm, 121, rfl⟩
abbrev main_v93 : Ref sig .tc := ⟨.hbm, 122, rfl⟩
abbrev main_cst_16 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_17 : Ref sig .tc := ⟨.hbm, 137, rfl⟩
abbrev main_v107 : Ref sig .tc := ⟨.hbm, 138, rfl⟩
abbrev main_v108 : Ref sig .tc := ⟨.hbm, 139, rfl⟩
abbrev main_cst_18 : Ref sig .tc := ⟨.hbm, 140, rfl⟩
abbrev main_v109 : Ref sig .tc := ⟨.hbm, 141, rfl⟩
abbrev main_v110 : Ref sig .tc := ⟨.hbm, 142, rfl⟩
abbrev main_cst_19 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩

abbrev nD : Nat := 1
abbrev τ : Topo := Topo.v7x

variable {F : FTy → Type} [FloatOps F]
-- ==== Kernel3.lean ====
abbrev S32768x1024 : Shape := ⟨2, ![32768, 1024]⟩
abbrev S4x2x16384x256 : Shape := ⟨4, ![4, 2, 16384, 256]⟩
abbrev S4x1024 : Shape := ⟨2, ![4, 1024]⟩
abbrev S2x1024 : Shape := ⟨2, ![2, 1024]⟩
abbrev S2x1024x2048 : Shape := ⟨3, ![2, 1024, 2048]⟩
abbrev S1024 : Shape := ⟨1, ![1024]⟩
abbrev S1024x256 : Shape := ⟨2, ![1024, 256]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S4x1024x1024 : Shape := ⟨3, ![4, 1024, 1024]⟩
abbrev S4x256x1024 : Shape := ⟨3, ![4, 256, 1024]⟩
abbrev S8 : Shape := ⟨1, ![8]⟩
abbrev S_ : Shape := ⟨0, ![]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4x32768x256 : Shape := ⟨3, ![4, 32768, 256]⟩
abbrev S4x1024x1 : Shape := ⟨3, ![4, 1024, 1]⟩
abbrev S2x1024x1 : Shape := ⟨3, ![2, 1024, 1]⟩
abbrev S1024x1 : Shape := ⟨2, ![1024, 1]⟩
abbrev S1x1024 : Shape := ⟨2, ![1, 1024]⟩
abbrev S8x32768x128 : Shape := ⟨3, ![8, 32768, 128]⟩
abbrev S4x32768x128 : Shape := ⟨3, ![4, 32768, 128]⟩
abbrev S512x1024 : Shape := ⟨2, ![512, 1024]⟩
abbrev S1x512x256 : Shape := ⟨3, ![1, 512, 256]⟩
abbrev S1x1024x2048 : Shape := ⟨3, ![1, 1024, 2048]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S8x512x128 : Shape := ⟨3, ![8, 512, 128]⟩
abbrev S4x512x128 : Shape := ⟨3, ![4, 512, 128]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S256x256 : Shape := ⟨2, ![256, 256]⟩
abbrev S1024x1024 : Shape := ⟨2, ![1024, 1024]⟩
abbrev S1x256x256 : Shape := ⟨3, ![1, 256, 256]⟩
abbrev S256x128 : Shape := ⟨2, ![256, 128]⟩
abbrev S1x256x128 : Shape := ⟨3, ![1, 256, 128]⟩

abbrev nBuf : Space → Nat
  | .hbm => 72
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S4x2x16384x256, .f32⟩
  | .hbm, ⟨2, _⟩ => ⟨S32768x1024, .f32⟩
  | .hbm, ⟨3, _⟩ => ⟨S4x1024, .f32⟩
  | .hbm, ⟨4, _⟩ => ⟨S2x1024, .f32⟩
  | .hbm, ⟨5, _⟩ => ⟨S2x1024x2048, .f32⟩
  | .hbm, ⟨6, _⟩ => ⟨S1024, .f32⟩
  | .hbm, ⟨7, _⟩ => ⟨S1024x256, .f32⟩
  | .hbm, ⟨8, _⟩ => ⟨S1024x256, .f32⟩
  | .hbm, ⟨9, _⟩ => ⟨S2x1024x1024, .f32⟩
  | .hbm, ⟨10, _⟩ => ⟨S4x1024, .f32⟩
  | .hbm, ⟨11, _⟩ => ⟨S4x1024x4096, .f32⟩
  | .hbm, ⟨12, _⟩ => ⟨S4x4096x1024, .f32⟩
  | .hbm, ⟨13, _⟩ => ⟨S4x1024, .f32⟩
  | .hbm, ⟨14, _⟩ => ⟨S4x1024x1024, .f32⟩
  | .hbm, ⟨15, _⟩ => ⟨S4x256x1024, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S48, .f32⟩
  | .hbm, ⟨32, _⟩ => ⟨S64, .f32⟩
  | .hbm, ⟨33, _⟩ => ⟨S1x64, .f32⟩
  | .hbm, ⟨34, _⟩ => ⟨S2x64, .f32⟩
  | .hbm, ⟨35, _⟩ => ⟨S128, .f32⟩
  | .hbm, ⟨36, _⟩ => ⟨S1x128, .f32⟩
  | .hbm, ⟨37, _⟩ => ⟨S4x32768x256, .f32⟩
  | .hbm, ⟨38, _⟩ => ⟨S2x1024x2048, .bf16⟩
  | .hbm, ⟨39, _⟩ => ⟨S4x1024x1, .f32⟩
  | .hbm, ⟨40, _⟩ => ⟨S4x1024x4096, .f32⟩
  | .hbm, ⟨41, _⟩ => ⟨S4x1024x4096, .f32⟩
  | .hbm, ⟨42, _⟩ => ⟨S4x1024x4096, .bf16⟩
  | .hbm, ⟨43, _⟩ => ⟨S4x4096x1024, .bf16⟩
  | .hbm, ⟨44, _⟩ => ⟨S4x1024x1, .f32⟩
  | .hbm, ⟨45, _⟩ => ⟨S4x1024x1024, .f32⟩
  | .hbm, ⟨46, _⟩ => ⟨S4x1024x1024, .f32⟩
  | .hbm, ⟨47, _⟩ => ⟨S4x1024x1024, .bf16⟩
  | .hbm, ⟨48, _⟩ => ⟨S4x256x1024, .bf16⟩
  | .hbm, ⟨49, _⟩ => ⟨S2x1024, .f32⟩
  | .hbm, ⟨50, _⟩ => ⟨S2x1024x1, .f32⟩
  | .hbm, ⟨51, _⟩ => ⟨S2x1024x1024, .f32⟩
  | .hbm, ⟨52, _⟩ => ⟨S2x1024x1024, .f32⟩
  | .hbm, ⟨53, _⟩ => ⟨S2x1024x1024, .bf16⟩
  | .hbm, ⟨54, _⟩ => ⟨S1024x1, .f32⟩
  | .hbm, ⟨55, _⟩ => ⟨S1024x256, .f32⟩
  | .hbm, ⟨56, _⟩ => ⟨S1024x256, .f32⟩
  | .hbm, ⟨57, _⟩ => ⟨S1024x256, .bf16⟩
  | .hbm, ⟨58, _⟩ => ⟨S1024x1, .f32⟩
  | .hbm, ⟨59, _⟩ => ⟨S1024x256, .f32⟩
  | .hbm, ⟨60, _⟩ => ⟨S1024x256, .f32⟩
  | .hbm, ⟨61, _⟩ => ⟨S1024x256, .bf16⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S32768x1024, .f32⟩
  | .hbm, ⟨69, _⟩ => ⟨S8x32768x128, .bf16⟩
  | .hbm, ⟨70, _⟩ => ⟨S4x32768x128, .bf16⟩
  | .hbm, ⟨71, _⟩ => ⟨S4x32768x128, .bf16⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024x2048, .bf16⟩
  | .local _ .vmem, ⟨9, _⟩ => ⟨S1x1024x4096, .bf16⟩
  | .local _ .vmem, ⟨10, _⟩ => ⟨S1x4096x1024, .bf16⟩
  | .local _ .vmem, ⟨11, _⟩ => ⟨S1x1024x1024, .bf16⟩
  | .local _ .vmem, ⟨12, _⟩ => ⟨S1x256x1024, .bf16⟩
  | .local _ .vmem, ⟨13, _⟩ => ⟨S1x1024x1024, .bf16⟩
  | .local _ .vmem, ⟨14, _⟩ => ⟨S1x128, .f32⟩
  | .local _ .vmem, ⟨15, _⟩ => ⟨S1024x256, .bf16⟩
  | .local _ .vmem, ⟨16, _⟩ => ⟨S1024x256, .bf16⟩
  | .local _ .vmem, ⟨17, _⟩ => ⟨S512x1024, .f32⟩
  | .local _ .vmem, ⟨18, _⟩ => ⟨S512x1024, .f32⟩
  | .local _ .vmem, ⟨19, _⟩ => ⟨S8x512x128, .bf16⟩
  | .local _ .vmem, ⟨20, _⟩ => ⟨S8x512x128, .bf16⟩
  | .local _ .vmem, ⟨21, _⟩ => ⟨S4x512x128, .bf16⟩
  | .local _ .vmem, ⟨22, _⟩ => ⟨S4x512x128, .bf16⟩
  | .local _ .vmem, ⟨23, _⟩ => ⟨S4x512x128, .bf16⟩
  | .local _ .vmem, ⟨24, _⟩ => ⟨S4x512x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev main_v47_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3.lean ====
abbrev S32768x1024 : Shape := ⟨2, ![32768, 1024]⟩
abbrev S4x2x16384x256 : Shape := ⟨4, ![4, 2, 16384, 256]⟩
abbrev S4x1024 : Shape := ⟨2, ![4, 1024]⟩
abbrev S2x1024 : Shape := ⟨2, ![2, 1024]⟩
abbrev S2x1024x2048 : Shape := ⟨3, ![2, 1024, 2048]⟩
abbrev S1024 : Shape := ⟨1, ![1024]⟩
abbrev S1024x256 : Shape := ⟨2, ![1024, 256]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S4x1024x1024 : Shape := ⟨3, ![4, 1024, 1024]⟩
abbrev S4x256x1024 : Shape := ⟨3, ![4, 256, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x2048 : Shape := ⟨3, ![1, 1024, 2048]⟩
abbrev S1024x2048 : Shape := ⟨2, ![1024, 2048]⟩
abbrev S32768x2048 : Shape := ⟨2, ![32768, 2048]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1x2x16384x256 : Shape := ⟨4, ![1, 2, 16384, 256]⟩
abbrev S2x16384x256 : Shape := ⟨3, ![2, 16384, 256]⟩
abbrev S32768x256 : Shape := ⟨2, ![32768, 256]⟩
abbrev S1x256x1024 : Shape := ⟨3, ![1, 256, 1024]⟩
abbrev S256x1024 : Shape := ⟨2, ![256, 1024]⟩
abbrev S16384 : Shape := ⟨1, ![16384]⟩
abbrev S2x16384x4x64 : Shape := ⟨4, ![2, 16384, 4, 64]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S2x16384x4x8 : Shape := ⟨4, ![2, 16384, 4, 8]⟩
abbrev S2x16384x4x48 : Shape := ⟨4, ![2, 16384, 4, 48]⟩
abbrev S2x16384x16x64 : Shape := ⟨4, ![2, 16384, 16, 64]⟩
abbrev S2x16384x16x8 : Shape := ⟨4, ![2, 16384, 16, 8]⟩
abbrev S2x16384x16x48 : Shape := ⟨4, ![2, 16384, 16, 48]⟩
abbrev S32768x8x128 : Shape := ⟨3, ![32768, 8, 128]⟩
abbrev S8x32768x128 : Shape := ⟨3, ![8, 32768, 128]⟩
abbrev S2x16384x4x128 : Shape := ⟨4, ![2, 16384, 4, 128]⟩
abbrev S32768x4x128 : Shape := ⟨3, ![32768, 4, 128]⟩
abbrev S4x32768x128 : Shape := ⟨3, ![4, 32768, 128]⟩

abbrev nBuf : Space → Nat
  | .hbm => 271
  | .vmem => 0
  | .smem => 0
  | _ => 0

abbrev hbmTy0_0 (i : Nat) : BufTy := match i % 128 with
  | 0 => ⟨S32768x1024, .f32⟩
  | 1 => ⟨S4x2x16384x256, .f32⟩
  | 2 => ⟨S32768x1024, .f32⟩
  | 3 => ⟨S4x1024, .f32⟩
  | 4 => ⟨S2x1024, .f32⟩
  | 5 => ⟨S2x1024x2048, .f32⟩
  | 6 => ⟨S1024, .f32⟩
  | 7 => ⟨S1024x256, .f32⟩
  | 8 => ⟨S1024x256, .f32⟩
  | 9 => ⟨S2x1024x1024, .f32⟩
  | 10 => ⟨S4x1024, .f32⟩
  | 11 => ⟨S4x1024x4096, .f32⟩
  | 12 => ⟨S4x4096x1024, .f32⟩
  | 13 => ⟨S4x1024, .f32⟩
  | 14 => ⟨S4x1024x1024, .f32⟩
  | 15 => ⟨S4x256x1024, .f32⟩
  | 16 => ⟨S1x1024, .f32⟩
  | 17 => ⟨S1024, .f32⟩
  | 18 => ⟨S32768x1024, .f32⟩
  | 19 => ⟨S_, .f32⟩
  | 20 => ⟨S32768, .f32⟩
  | 21 => ⟨S32768x1, .f32⟩
  | 22 => ⟨S_, .f32⟩
  | 23 => ⟨S32768x1, .f32⟩
  | 24 => ⟨S32768x1, .f32⟩
  | 25 => ⟨S_, .f32⟩
  | 26 => ⟨S32768x1, .f32⟩
  | 27 => ⟨S32768x1, .f32⟩
  | 28 => ⟨S32768x1, .f32⟩
  | 29 => ⟨S32768x1024, .f32⟩
  | 30 => ⟨S32768x1024, .f32⟩
  | 31 => ⟨S1x1024, .f32⟩
  | 32 => ⟨S32768x1024, .f32⟩
  | 33 => ⟨S32768x1024, .f32⟩
  | 34 => ⟨S1x1024, .f32⟩
  | 35 => ⟨S1024, .f32⟩
  | 36 => ⟨S1x1024, .f32⟩
  | 37 => ⟨S32768x1024, .f32⟩
  | 38 => ⟨S32768x1024, .f32⟩
  | 39 => ⟨S32768x1024, .f32⟩
  | 40 => ⟨S32768x1024, .f32⟩
  | 41 => ⟨S32768x1024, .f32⟩
  | 42 => ⟨S_, .f32⟩
  | 43 => ⟨S32768x1024, .f32⟩
  | 44 => ⟨S32768x1024, .f32⟩
  | 45 => ⟨S32768x1024, .f32⟩
  | 46 => ⟨S_, .f32⟩
  | 47 => ⟨S32768x1024, .f32⟩
  | 48 => ⟨S32768x1024, .f32⟩
  | 49 => ⟨S32768x1024, .f32⟩
  | 50 => ⟨S_, .f32⟩
  | 51 => ⟨S32768x1024, .f32⟩
  | 52 => ⟨S32768x1024, .f32⟩
  | 53 => ⟨S_, .f32⟩
  | 54 => ⟨S32768x1024, .f32⟩
  | 55 => ⟨S32768x1024, .f32⟩
  | 56 => ⟨S32768x1024, .f32⟩
  | 57 => ⟨S1x1024x2048, .f32⟩
  | 58 => ⟨S1024x2048, .f32⟩
  | 59 => ⟨S32768x2048, .f32⟩
  | 60 => ⟨S32768x1024, .f32⟩
  | 61 => ⟨S32768x1024, .f32⟩
  | 62 => ⟨S32768x1024, .f32⟩
  | 63 => ⟨S32768x1024, .f32⟩
  | 64 => ⟨S_, .f32⟩
  | 65 => ⟨S32768x1024, .f32⟩
  | 66 => ⟨S32768x1024, .f32⟩
  | 67 => ⟨S_, .f32⟩
  | 68 => ⟨S32768x1024, .f32⟩
  | 69 => ⟨S32768x1024, .f32⟩
  | 70 => ⟨S32768x1024, .f32⟩
  | 71 => ⟨S32768x1024, .f32⟩
  | 72 => ⟨S1x1024, .f32⟩
  | 73 => ⟨S1024, .f32⟩
  | 74 => ⟨S32768x1024, .f32⟩
  | 75 => ⟨S_, .f32⟩
  | 76 => ⟨S32768, .f32⟩
  | 77 => ⟨S32768x1, .f32⟩
  | 78 => ⟨S_, .f32⟩
  | 79 => ⟨S32768x1, .f32⟩
  | 80 => ⟨S32768x1, .f32⟩
  | 81 => ⟨S_, .f32⟩
  | 82 => ⟨S32768x1, .f32⟩
  | 83 => ⟨S32768x1, .f32⟩
  | 84 => ⟨S32768x1, .f32⟩
  | 85 => ⟨S32768x1024, .f32⟩
  | 86 => ⟨S32768x1024, .f32⟩
  | 87 => ⟨S1x1024, .f32⟩
  | 88 => ⟨S32768x1024, .f32⟩
  | 89 => ⟨S32768x1024, .f32⟩
  | 90 => ⟨S1x1024x4096, .f32⟩
  | 91 => ⟨S1024x4096, .f32⟩
  | 92 => ⟨S32768x4096, .f32⟩
  | 93 => ⟨S_, .f32⟩
  | 94 => ⟨S32768x4096, .f32⟩
  | 95 => ⟨S32768x4096, .f32⟩
  | 96 => ⟨S32768x4096, .f32⟩
  | 97 => ⟨S1x4096x1024, .f32⟩
  | 98 => ⟨S4096x1024, .f32⟩
  | 99 => ⟨S32768x1024, .f32⟩
  | 100 => ⟨S32768x1024, .f32⟩
  | 101 => ⟨S1x1024, .f32⟩
  | 102 => ⟨S1024, .f32⟩
  | 103 => ⟨S32768x1024, .f32⟩
  | 104 => ⟨S_, .f32⟩
  | 105 => ⟨S32768, .f32⟩
  | 106 => ⟨S32768x1, .f32⟩
  | 107 => ⟨S_, .f32⟩
  | 108 => ⟨S32768x1, .f32⟩
  | 109 => ⟨S32768x1, .f32⟩
  | 110 => ⟨S_, .f32⟩
  | 111 => ⟨S32768x1, .f32⟩
  | 112 => ⟨S32768x1, .f32⟩
  | 113 => ⟨S32768x1, .f32⟩
  | 114 => ⟨S32768x1024, .f32⟩
  | 115 => ⟨S32768x1024, .f32⟩
  | 116 => ⟨S1x1024, .f32⟩
  | 117 => ⟨S32768x1024, .f32⟩
  | 118 => ⟨S32768x1024, .f32⟩
  | 119 => ⟨S1x1024x1024, .f32⟩
  | 120 => ⟨S1024x1024, .f32⟩
  | 121 => ⟨S32768x1024, .f32⟩
  | 122 => ⟨S32768x1024, .f32⟩
  | 123 => ⟨S32768x1024, .f32⟩
  | 124 => ⟨S_, .f32⟩
  | 125 => ⟨S32768x1024, .f32⟩
  | 126 => ⟨S32768x1024, .f32⟩
  | 127 => ⟨S_, .f32⟩
  | _ => ⟨S32768x1024, .f32⟩

abbrev hbmTy0_1 (i : Nat) : BufTy := match i % 128 with
  | 0 => ⟨S32768x1024, .f32⟩
  | 1 => ⟨S32768x1024, .f32⟩
  | 2 => ⟨S1x2x16384x256, .f32⟩
  | 3 => ⟨S2x16384x256, .f32⟩
  | 4 => ⟨S32768x256, .f32⟩
  | 5 => ⟨S1x256x1024, .f32⟩
  | 6 => ⟨S256x1024, .f32⟩
  | 7 => ⟨S32768x1024, .f32⟩
  | 8 => ⟨S32768x1024, .f32⟩
  | 9 => ⟨S32768x1024, .f32⟩
  | 10 => ⟨S16384, .i32⟩
  | 11 => ⟨S32768x1024, .f32⟩
  | 12 => ⟨S_, .f32⟩
  | 13 => ⟨S32768, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x1, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S32768x256, .f32⟩
  | 28 => ⟨S2x16384x4x64, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S16384, .f32⟩
  | 44 => ⟨S16384x1, .f32⟩
  | 45 => ⟨S1x8, .f32⟩
  | 46 => ⟨S16384x8, .f32⟩
  | 47 => ⟨S16384x8, .f32⟩
  | 48 => ⟨S16384x8, .f32⟩
  | 49 => ⟨S16384x8, .f32⟩
  | 50 => ⟨S1x16384x1x8, .f32⟩
  | 51 => ⟨S16384x8, .f32⟩
  | 52 => ⟨S1x16384x1x8, .f32⟩
  | 53 => ⟨S2x16384x4x8, .f32⟩
  | 54 => ⟨S2x16384x4x8, .f32⟩
  | 55 => ⟨S2x16384x4x8, .f32⟩
  | 56 => ⟨S2x16384x4x8, .f32⟩
  | 57 => ⟨S2x16384x4x8, .f32⟩
  | 58 => ⟨S2x16384x4x8, .f32⟩
  | 59 => ⟨S2x16384x4x8, .f32⟩
  | 60 => ⟨S2x16384x4x8, .f32⟩
  | 61 => ⟨S2x16384x4x8, .f32⟩
  | 62 => ⟨S2x16384x4x8, .f32⟩
  | 63 => ⟨S2x16384x4x8, .f32⟩
  | 64 => ⟨S2x16384x4x8, .f32⟩
  | 65 => ⟨S2x16384x4x48, .f32⟩
  | 66 => ⟨S2x16384x4x64, .f32⟩
  | 67 => ⟨S32768x256, .f32⟩
  | 68 => ⟨S2x16384x4x64, .f32⟩
  | 69 => ⟨S1x1024, .f32⟩
  | 70 => ⟨S1024, .f32⟩
  | 71 => ⟨S32768x1024, .f32⟩
  | 72 => ⟨S_, .f32⟩
  | 73 => ⟨S32768, .f32⟩
  | 74 => ⟨S32768x1, .f32⟩
  | 75 => ⟨S_, .f32⟩
  | 76 => ⟨S32768x1, .f32⟩
  | 77 => ⟨S32768x1, .f32⟩
  | 78 => ⟨S_, .f32⟩
  | 79 => ⟨S32768x1, .f32⟩
  | 80 => ⟨S32768x1, .f32⟩
  | 81 => ⟨S32768x1, .f32⟩
  | 82 => ⟨S32768x1024, .f32⟩
  | 83 => ⟨S32768x1024, .f32⟩
  | 84 => ⟨S1x1024, .f32⟩
  | 85 => ⟨S32768x1024, .f32⟩
  | 86 => ⟨S32768x1024, .f32⟩
  | 87 => ⟨S1x1024x1024, .f32⟩
  | 88 => ⟨S1024x1024, .f32⟩
  | 89 => ⟨S32768x1024, .f32⟩
  | 90 => ⟨S2x16384x16x64, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S16384, .f32⟩
  | 106 => ⟨S16384x1, .f32⟩
  | 107 => ⟨S1x8, .f32⟩
  | 108 => ⟨S16384x8, .f32⟩
  | 109 => ⟨S16384x8, .f32⟩
  | 110 => ⟨S16384x8, .f32⟩
  | 111 => ⟨S16384x8, .f32⟩
  | 112 => ⟨S1x16384x1x8, .f32⟩
  | 113 => ⟨S16384x8, .f32⟩
  | 114 => ⟨S1x16384x1x8, .f32⟩
  | 115 => ⟨S2x16384x16x8, .f32⟩
  | 116 => ⟨S2x16384x16x8, .f32⟩
  | 117 => ⟨S2x16384x16x8, .f32⟩
  | 118 => ⟨S2x16384x16x8, .f32⟩
  | 119 => ⟨S2x16384x16x8, .f32⟩
  | 120 => ⟨S2x16384x16x8, .f32⟩
  | 121 => ⟨S2x16384x16x8, .f32⟩
  | 122 => ⟨S2x16384x16x8, .f32⟩
  | 123 => ⟨S2x16384x16x8, .f32⟩
  | 124 => ⟨S2x16384x16x8, .f32⟩
  | 125 => ⟨S2x16384x16x8, .f32⟩
  | 126 => ⟨S2x16384x16x8, .f32⟩
  | 127 => ⟨S2x16384x16x48, .f32⟩
  | _ => ⟨S32768x1024, .f32⟩

abbrev hbmTy0_2 (i : Nat) : BufTy := match i % 128 with
  | 0 => ⟨S2x16384x16x64, .f32⟩
  | 1 => ⟨S_, .f32⟩
  | 2 => ⟨S2x16384x16x64, .f32⟩
  | 3 => ⟨S2x16384x16x64, .f32⟩
  | 4 => ⟨S32768x8x128, .f32⟩
  | 5 => ⟨S8x32768x128, .f32⟩
  | 6 => ⟨S8x32768x128, .bf16⟩
  | 7 => ⟨S2x16384x4x128, .f32⟩
  | 8 => ⟨S32768x4x128, .f32⟩
  | 9 => ⟨S4x32768x128, .f32⟩
  | 10 => ⟨S4x32768x128, .bf16⟩
  | 11 => ⟨S2x16384x4x128, .f32⟩
  | 12 => ⟨S32768x4x128, .f32⟩
  | 13 => ⟨S4x32768x128, .f32⟩
  | 14 => ⟨S4x32768x128, .bf16⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_12 : Ref sig .tc := ⟨.hbm, 104, rfl⟩
abbrev main_v75 : Ref sig .tc := ⟨.hbm, 105, rfl⟩
abbrev main_v76 : Ref sig .tc := ⟨.hbm, 106, rfl⟩
abbrev main_cst_13 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_15 : Ref sig .tc := ⟨.hbm, 124, rfl⟩
abbrev main_v92 : Ref sig .tc := ⟨.hbm, 125, rfl⟩
abbrev main_v93 : Ref sig .tc := ⟨.hbm, 126, rfl⟩
abbrev main_cst_16 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_17 : Ref sig .tc := ⟨.hbm, 140, rfl⟩
abbrev main_v106 : Ref sig .tc := ⟨.hbm, 141, rfl⟩
abbrev main_v107 : Ref sig .tc := ⟨.hbm, 142, rfl⟩
abbrev main_cst_18 : Ref sig .tc := ⟨.hbm, 143, rfl⟩
abbrev main_v108 : Ref sig .tc := ⟨.hbm, 144, rfl⟩
abbrev main_v109 : Ref sig .tc := ⟨.hbm, 145, rfl⟩
abbrev main_cst_19 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_20 : Ref sig .tc := ⟨.hbm, 158, rfl⟩
abbrev main_v121 : Ref sig .tc := ⟨.hbm, 159, rfl⟩
abbrev main_v122 : Ref sig .tc := ⟨.hbm, 160, rfl⟩
abbrev main_cst_21 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_22 : Ref sig .tc := ⟨.hbm, 165, rfl⟩
abbrev main_v126 : Ref sig .tc := ⟨.hbm, 166, rfl⟩
abbrev main_v127 : Ref sig .tc := ⟨.hbm, 167, rfl⟩
abbrev main_cst_23 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_24 : Ref sig .tc := ⟨.hbm, 200, rfl⟩
abbrev main_v159 : Ref sig .tc := ⟨.hbm, 201, rfl⟩
abbrev main_v160 : Ref sig .tc := ⟨.hbm, 202, rfl⟩
abbrev main_cst_25 : Ref sig .tc := ⟨.hbm, 203, rfl⟩
abbrev main_v161 : Ref sig .tc := ⟨.hbm, 204, rfl⟩
abbrev main_v162 : Ref sig .tc := ⟨.hbm, 205, rfl⟩
abbrev main_cst_26 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_cst_27 : Ref sig .tc := ⟨.hbm, 220, rfl⟩
abbrev main_v176 : Ref sig .tc := ⟨.hbm, 221, rfl⟩
abbrev main_v177 : Ref sig .tc := ⟨.hbm, 222, rfl⟩
abbrev main_cst_28 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_29 : Ref sig .tc := ⟨.hbm, 227, rfl⟩
abbrev main_v181 : Ref sig .tc := ⟨.hbm, 228, rfl⟩
abbrev main_v182 : Ref sig .tc := ⟨.hbm, 229, rfl⟩
abbrev main_cst_30 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_31 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩

abbrev nD : Nat := 1
abbrev τ : Topo := Topo.v7x

variable {F : FTy → Type} [FloatOps F]
-- ==== Proof.Parts.lean ====
/- The pieces of the kernel's body as functions of the blocks they read, at any number format: one attention
   block (128 queries of a pair of heads against the 128 keys of its own and of the previous block), and the
   rest of the layer on 256 rows (output product, feed-forward block, gated embedding, closing norm). -/
module

public import proofs.«01_k».proof.Proof.Gen.KernelIdeal.Skeleton

@[expose] public section

set_option synthInstance.maxSize 4096

noncomputable section

namespace Cert.KernelIdeal.Parts

open Cert.KernelIdeal Cert.KernelIdeal.Gen Idealize.ShloMosaic Idealize.SL.Sem

variable {F : FTy → Type} [FloatOps F] [Named F]

/-- A pair's key block: the first 64 lanes of the keys for the first head, the last 64 for the second. -/
def kBlk (x : Vec F S1x128x128 .bf16) : FVec F S256x128 .bf16 := k0_pay11 k0_pay4 k0_pay5 x

/-- A pair's value block, with a block of ones beside it that sums the weights. -/
def vBlk (x : Vec F S1x128x128 .bf16) : FVec F S256x256 .bf16 := k0_pay12 k0_pay4 k0_pay5 k0_pay8 k0_pay9 x

/-- The scores of 128 queries: against the own block where the key is not later, else against the previous. -/
def scores (kc kp : FVec F S256x128 .bf16) (q : Vec F S1x128x128 .bf16) : FVec F S128x256 .f32 :=
  have v80 : FVec F S128x128 .bf16 := shapeCast S128x128 q shapeCasts_S1x128x128_S128x128
  select k0_pay3
    (matmul dot_S128x128_S256x128_S128x256_1_1_0_0_n_n none v80 kc (constant S128x256 .f32 0x00000000#32))
    (matmul dot_S128x128_S256x128_S128x256_1_1_0_0_n_n none v80 kp (constant S128x256 .f32 0x00000000#32))

/-- The scores with those of the keys that do not exist replaced by the mask. -/
def masked (valid : IVec S128x256 1) (s : FVec F S128x256 .f32) : FVec F S128x256 .f32 :=
  select valid s (broadcast S128x256 (Named.named κ "mask" 0xF149F2CA#32))

/-- The greatest of one head's scores and its sink. -/
def rowMax (s : FVec F S128x128 .f32) (sink : Elt F .f32) : FVec F S128x1 .f32 :=
  maximumf (shapeCast S128x1 (multiReduction .maximumf [1] S128 s 0xFF800000#32 reduces_S128x128_S128 (.inl rfl) rfl)
    shapeCasts_S128_S128x1) (broadcast S128x1 sink)

/-- One head's exponentials. -/
def expScores (s : FVec F S128x128 .f32) (mx : FVec F S128x1 .f32) : FVec F S128x128 .f32 :=
  exp (subf s (broadcastTo S128x128 mx broadcasts_S128x1_S128x128))

/-- The sink's exponential. -/
def expSink (sink : Elt F .f32) (mx : FVec F S128x1 .f32) : FVec F S128x1 .f32 :=
  exp (subf (broadcast S128x1 sink) mx)

/-- The two heads' exponentials side by side. -/
def weights (s : FVec F S128x256 .f32) (s0 s1 : Elt F .f32) : FVec F S128x256 .bf16 :=
  have a : FVec F S128x128 .f32 := extractStridedSlice S128x128 ![0, 0] s slices_S128x256_o0_0_S128x128
  have b : FVec F S128x128 .f32 := extractStridedSlice S128x128 ![0, 128] s slices_S128x256_o0_128_S128x128
  truncf .bf16 (concatenate S128x256 1 [⟨S128x128, expScores a (rowMax a s0)⟩, ⟨S128x128, expScores b (rowMax b s1)⟩]
    concatenates_S128x128_S128x128_S128x256_d1) bitsLt_bf16_f32

/-- The weighted values (left half) and the sums of the weights (right half). -/
def weighted (e : FVec F S128x256 .bf16) (vc vp : FVec F S256x256 .bf16) : FVec F S128x256 .f32 :=
  addf (matmul dot_S128x256_S256x256_S128x256_1_0_0_1_n_n none (mulf e k0_pay6) vc (constant S128x256 .f32 0x00000000#32))
    (matmul dot_S128x256_S256x256_S128x256_1_0_0_1_n_n none (mulf e k0_pay7) vp (constant S128x256 .f32 0x00000000#32))

/-- The two heads' sink exponentials, each over its own 64 lanes. -/
def sinks (s : FVec F S128x256 .f32) (s0 s1 : Elt F .f32) : FVec F S128x128 .f32 :=
  have a : FVec F S128x128 .f32 := extractStridedSlice S128x128 ![0, 0] s slices_S128x256_o0_0_S128x128
  have b : FVec F S128x128 .f32 := extractStridedSlice S128x128 ![0, 128] s slices_S128x256_o0_128_S128x128
  select k0_pay4
    (broadcastTo S128x128 (shapeCast S128x1 (expSink s0 (rowMax a s0)) shapeCasts_S128x1_S128x1) broadcasts_S128x1_S128x128)
    (broadcastTo S128x128 (shapeCast S128x1 (expSink s1 (rowMax b s1)) shapeCasts_S128x1_S128x1) broadcasts_S128x1_S128x128)

/-- What one attention block stores: weighted values over sums of weights, for a pair of heads. -/
def attn (s : FVec F S128x256 .f32) (s0 s1 : Elt F .f32) (vc vp : FVec F S256x256 .bf16) : FVec F S128x128 .bf16 :=
  shapeCast S128x128 (truncf .bf16 (divf
    (extractStridedSlice S128x128 ![0, 0] (weighted (weights s s0 s1) vc vp) slices_S128x256_o0_0_S128x128)
    (addf (extractStridedSlice S128x128 ![0, 128] (weighted (weights s s0 s1) vc vp) slices_S128x256_o0_128_S128x128)
      (sinks s s0 s1))) bitsLt_bf16_f32) shapeCasts_S128x128_S128x128

/-- Whether the previous block exists for the first block of a point's tokens. -/
def valid (i : grid0.Coords) : IVec S128x256 1 :=
  k0_pay10 (BitVec.ofNat 32 (i 0).val) (iota .tc S128x256 32 [0] iota_S128x256_d0_w32) k0_pay2 32#32

/-- An attention block at the head of a point's tokens: the previous block may not exist. -/
def attnFirst (i : grid0.Coords) (kc kp vc vp q : Vec F S1x128x128 .bf16) (s0 s1 : Elt F .f32) : FVec F S128x128 .bf16 :=
  attn (masked (valid i) (scores (kBlk kc) (kBlk kp) q)) s0 s1 (vBlk vc) (vBlk vp)

/-- Any other attention block. -/
def attnNext (kc kp vc vp q : Vec F S1x128x128 .bf16) (s0 s1 : Elt F .f32) : FVec F S128x128 .bf16 :=
  attn (scores (kBlk kc) (kBlk kp) q) s0 s1 (vBlk vc) (vBlk vp)

/-- A product of 256 rows with a 1024-square matrix. -/
def mm (x : FVec F S256x1024 .bf16) (w : Vec F S1x1024x1024 .bf16) : FVec F S256x1024 .f32 :=
  matmul dot_S256x1024_S1024x1024_S256x1024_1_0_0_1_n_n none x (shapeCast S1024x1024 w shapeCasts_S1x1024x1024_S1024x1024)
    (constant S256x1024 .f32 0x00000000#32)

/-- The reciprocal root mean square of each row. -/
def invRms (x : FVec F S256x1024 .f32) : FVec F S256x1 .f32 :=
  rsqrt (addf (divf (shapeCast S256x1 (multiReduction .add [1] S256 (mulf x x) 0x00000000#32 reduces_S256x1024_S256 (.inl rfl) rfl)
    shapeCasts_S256_S256x1) (broadcast S256x1 (Scalar.ofBits .f32 0x44800000#32))) (broadcast S256x1 (Scalar.ofBits .f32 0x358637BD#32)))

/-- The squared positive part of a product. -/
def act (x : FVec F S256x1024 .bf16) (w : Vec F S1x1024x1024 .bf16) : FVec F S256x1024 .bf16 :=
  have m : FVec F S256x1024 .f32 := maximumf (mm x w) (broadcast S256x1024 (Scalar.ofBits .f32 0x00000000#32))
  truncf .bf16 (mulf m m) bitsLt_bf16_f32

/-- The feed-forward block, its inner width in four parts, on rows that are normalised afterwards. -/
def mlp (x : FVec F S256x1024 .f32) (u0 d0 u1 d1 u2 d2 u3 d3 : Vec F S1x1024x1024 .bf16) : FVec F S256x1024 .f32 :=
  have xb : FVec F S256x1024 .bf16 := truncf .bf16 x bitsLt_bf16_f32
  addf x (mulf (broadcastTo S256x1024 (mulf (invRms x) (invRms x)) broadcasts_S256x1_S256x1024)
    (addf (addf (addf (mm (act xb u0) d0) (mm (act xb u1) d1)) (mm (act xb u2) d2)) (mm (act xb u3) d3)))

/-- The gated embedding added to the rows. -/
def ple (x : FVec F S256x1024 .f32) (wg : Vec F S1x1024x1024 .bf16) (p : Vec F S1x256x256 .f32) (wp : Vec F S1x256x1024 .bf16) :
    FVec F S256x1024 .f32 :=
  addf x (mulf (logistic (mulf (broadcastTo S256x1024 (invRms x) broadcasts_S256x1_S256x1024) (mm (truncf .bf16 x bitsLt_bf16_f32) wg)))
    (matmul dot_S256x256_S256x1024_S256x1024_1_0_0_1_n_n none
      (truncf .bf16 (shapeCast S256x256 p shapeCasts_S1x256x256_S256x256) bitsLt_bf16_f32)
      (shapeCast S256x1024 wp shapeCasts_S1x256x1024_S256x1024) (constant S256x1024 .f32 0x00000000#32)))

/-- The closing norm. -/
def norm (x : FVec F S256x1024 .f32) (g : Vec F S1x1024 .f32) : FVec F S256x1024 .f32 :=
  mulf (mulf x (broadcastTo S256x1024 (invRms x) broadcasts_S256x1_S256x1024))
    (broadcastTo S256x1024 (shapeCast S1x1024 g shapeCasts_S1x1024_S1x1024) broadcasts_S1x1024_S256x1024)

/-- 256 rows from their residual and their attention output to the stored rows. -/
def tail (h : Vec F S256x1024 .f32) (o : Vec F S256x1024 .bf16) (wo u0 d0 u1 d1 u2 d2 u3 d3 wg : Vec F S1x1024x1024 .bf16)
    (p : Vec F S1x256x256 .f32) (wp : Vec F S1x256x1024 .bf16) (g : Vec F S1x1024 .f32) : FVec F S256x1024 .f32 :=
  norm (ple (mlp (addf h (mm o wo)) u0 d0 u1 d1 u2 d2 u3 d3) wg p wp) g

/-- The first block's stored value is `attnFirst`. -/
theorem pay15_eq (i : grid0.Coords) (kc kp vc vp q : Vec F S1x128x128 .bf16) (s0 s1 : Elt F .f32) :
    k0_pay16 (k0_pay15 k0_pay3 k0_pay4 k0_pay6 k0_pay7 (valid i) (k0_pay11 k0_pay4 k0_pay5 kc) (k0_pay12 k0_pay4 k0_pay5 k0_pay8 k0_pay9 vc)
      (k0_pay13 k0_pay4 k0_pay5 kp) (k0_pay14 k0_pay4 k0_pay5 k0_pay8 k0_pay9 vp) q s0 s1) = attnFirst i kc kp vc vp q s0 s1 := rfl

/-- The second chain's stored value is `tail`, as the last payloads compute it. -/
theorem pay1_eq (h : Vec F S256x1024 .f32) (o : Vec F S256x1024 .bf16) (wo u0 d0 u1 d1 u2 d2 u3 d3 wg : Vec F S1x1024x1024 .bf16)
    (p : Vec F S1x256x256 .f32) (wp : Vec F S1x256x1024 .bf16) (g : Vec F S1x1024 .f32) :
    k0_pay1 (k0_pay270 (k0_pay264 h o wo) (k0_pay265 h o wo)
        (k0_pay268 (k0_pay266 h o wo) (k0_pay267 h o wo u0) d0 u1 d1 u2 d2) (k0_pay269 (k0_pay266 h o wo) u3) d3 wg p wp)
      (k0_pay271 g)
      (k0_pay272 (k0_pay264 h o wo) (k0_pay265 h o wo)
        (k0_pay268 (k0_pay266 h o wo) (k0_pay267 h o wo u0) d0 u1 d1 u2 d2) (k0_pay269 (k0_pay266 h o wo) u3) d3 wg p wp)
      (k0_pay273 (F := F)) = tail h o wo u0 d0 u1 d1 u2 d2 u3 d3 wg p wp g := rfl

end Cert.KernelIdeal.Parts

end
-- ==== Proof.Out.lean ====
/- What one point of the kernel's grid leaves in its output block: the attention blocks that it stores in the
   scratch rows, and the two halves of 256 rows computed from them. -/
module
public import proofs.«01_k».proof.Proof.Parts
public import proofs.«01_k».proof.Proof.Gen.KernelIdeal.Value
public import Idealize.ShloMosaic.Lib.WritesUnit
@[expose] public section
set_option maxRecDepth 16384
noncomputable section
namespace Cert.KernelIdeal.Parts
open Cert.KernelIdeal Cert.KernelIdeal.Gen Idealize.ShloMosaic Idealize.ShloMosaic.TcCoe Idealize.ShloMosaic.Tactic Idealize.SL.Sem
variable {F : FTy → Type} [FloatOps F] [Named F]

/-- Rows `128 b …` of one key/value head's keys or values. -/
def rows4 (x : Vec F S4x512x128 .bf16) (kv : Fin 4) (b : Fin 4) : Vec F S1x128x128 .bf16 :=
  View.ld x (Rect.unit (s := S4x512x128) ![kv.val, 128 * b.val, 0] S1x128x128.size (by intro a; fin_cases a <;> simp <;> omega))

/-- Rows `128 b …` of one pair of heads' queries. -/
def rows8 (x : Vec F S8x512x128 .bf16) (j : Fin 8) (b : Fin 4) : Vec F S1x128x128 .bf16 :=
  View.ld x (Rect.unit (s := S8x512x128) ![j.val, 128 * b.val, 0] S1x128x128.size (by intro a; fin_cases a <;> simp <;> omega))

/-- One head's keys or values of the block before the point's tokens. -/
def rows1 (x : Vec F S4x128x128 .bf16) (kv : Fin 4) : Vec F S1x128x128 .bf16 :=
  View.ld x (Rect.unit (s := S4x128x128) ![kv.val, 0, 0] S1x128x128.size (by intro a; fin_cases a <;> simp))

/-- One head's sink. -/
def sink (x : Vec F S16 .f32) (j : Fin 16) : Elt F .f32 :=
  View.ld x (Rect.unit (s := S16) ![j.val] S1.size (by intro a; fin_cases a; simp)) (Shape.Idx.first (show 0 < S1.numel from by rw [numel1_S1]; decide))

/-- The attention of the point's first 128 tokens, for pair `r` of key/value head `kv`. -/
def block0 (i : grid0.Coords) (x2 : Vec F S8x512x128 .bf16) (x3 : Vec F S4x512x128 .bf16) (x4 : Vec F S4x128x128 .bf16)
    (x5 : Vec F S4x512x128 .bf16) (x6 : Vec F S4x128x128 .bf16) (x7 : Vec F S16 .f32) (kv : Fin 4) (r : Fin 2) : FVec F S128x128 .bf16 :=
  attnFirst i (rows4 x3 kv 0) (rows1 x4 kv) (rows4 x5 kv 0) (rows1 x6 kv) (rows8 x2 ⟨2 * kv.val + r.val, by omega⟩ 0)
    (sink x7 ⟨4 * kv.val + 2 * r.val, by omega⟩) (sink x7 ⟨4 * kv.val + 2 * r.val + 1, by omega⟩)

/-- The attention of the point's later 128 tokens. -/
def blockS (x2 : Vec F S8x512x128 .bf16) (x3 : Vec F S4x512x128 .bf16)
    (x5 : Vec F S4x512x128 .bf16) (x7 : Vec F S16 .f32) (b : Fin 3) (kv : Fin 4) (r : Fin 2) : FVec F S128x128 .bf16 :=
  attnNext (rows4 x3 kv b.succ) (rows4 x3 kv b.castSucc) (rows4 x5 kv b.succ) (rows4 x5 kv b.castSucc)
    (rows8 x2 ⟨2 * kv.val + r.val, by omega⟩ b.succ)
    (sink x7 ⟨4 * kv.val + 2 * r.val, by omega⟩) (sink x7 ⟨4 * kv.val + 2 * r.val + 1, by omega⟩)

/-- The store of one block's attention in the scratch rows. -/
def place (b kv : Fin 4) (r : Fin 2) (w : FVec F S128x128 .bf16) : View.Piece (Elt F) S512x1024 .bf16 :=
  ⟨Rect.unit (s := S512x1024) ![128 * b.val, 256 * kv.val + 128 * r.val] S128x128.size (by intro a; fin_cases a <;> simp <;> omega), w⟩

/-- The eight stores of one block of tokens, the last one first. -/
def pieces (b : Fin 4) (f : Fin 4 → Fin 2 → FVec F S128x128 .bf16) : List (View.Piece (Elt F) S512x1024 .bf16) :=
  [place b 3 1 (f 3 1), place b 3 0 (f 3 0), place b 2 1 (f 2 1), place b 2 0 (f 2 0),
   place b 1 1 (f 1 1), place b 1 0 (f 1 0), place b 0 1 (f 0 1), place b 0 0 (f 0 0)]

/-- The stores before the first half is read back. -/
def pieces1 (i : grid0.Coords) (x2 : Vec F S8x512x128 .bf16) (x3 : Vec F S4x512x128 .bf16) (x4 : Vec F S4x128x128 .bf16)
    (x5 : Vec F S4x512x128 .bf16) (x6 : Vec F S4x128x128 .bf16) (x7 : Vec F S16 .f32) : List (View.Piece (Elt F) S512x1024 .bf16) :=
  pieces 1 (blockS x2 x3 x5 x7 0) ++ pieces 0 (block0 i x2 x3 x4 x5 x6 x7)

/-- The stores before the second half is read back. -/
def pieces2 (i : grid0.Coords) (x2 : Vec F S8x512x128 .bf16) (x3 : Vec F S4x512x128 .bf16) (x4 : Vec F S4x128x128 .bf16)
    (x5 : Vec F S4x512x128 .bf16) (x6 : Vec F S4x128x128 .bf16) (x7 : Vec F S16 .f32) : List (View.Piece (Elt F) S512x1024 .bf16) :=
  pieces 3 (blockS x2 x3 x5 x7 2) ++ (pieces 2 (blockS x2 x3 x5 x7 1) ++ pieces1 i x2 x3 x4 x5 x6 x7)

variable (m : (ℓ : Loc nD τ sig) → Buf (Elt F) ℓ)

/-- The rest of the layer on half `n` of the point's rows. -/
def half (x0 : Vec F S512x1024 .f32) (x1 : Vec F S1x512x256 .f32) (x8 : Vec F S1x1024x1024 .bf16) (x9 : Vec F S1x1024x4096 .bf16)
    (x10 : Vec F S1x4096x1024 .bf16) (x11 : Vec F S1x1024x1024 .bf16) (x12 : Vec F S1x256x1024 .bf16) (x13 : Vec F S1x1024 .f32)
    (o : Vec F S256x1024 .bf16) (n : Fin 2) : FVec F S256x1024 .f32 :=
  tail (View.ld x0 (Rect.unit (s := S512x1024) ![256 * n.val, 0] S256x1024.size (by intro a; fin_cases a <;> simp <;> omega))) o
    (View.ld x8 (Rect.unit (s := S1x1024x1024) ![0, 0, 0] S1x1024x1024.size inb_S1x1024x1024_S1x1024x1024_0_0_0))
    (View.ld x9 (Rect.unit (s := S1x1024x4096) ![0, 0, 0] S1x1024x1024.size inb_S1x1024x4096_S1x1024x1024_0_0_0))
    (View.ld x10 (Rect.unit (s := S1x4096x1024) ![0, 0, 0] S1x1024x1024.size inb_S1x4096x1024_S1x1024x1024_0_0_0))
    (View.ld x9 (Rect.unit (s := S1x1024x4096) ![0, 0, 1024] S1x1024x1024.size inb_S1x1024x4096_S1x1024x1024_0_0_1024))
    (View.ld x10 (Rect.unit (s := S1x4096x1024) ![0, 1024, 0] S1x1024x1024.size inb_S1x4096x1024_S1x1024x1024_0_1024_0))
    (View.ld x9 (Rect.unit (s := S1x1024x4096) ![0, 0, 2048] S1x1024x1024.size inb_S1x1024x4096_S1x1024x1024_0_0_2048))
    (View.ld x10 (Rect.unit (s := S1x4096x1024) ![0, 2048, 0] S1x1024x1024.size inb_S1x4096x1024_S1x1024x1024_0_2048_0))
    (View.ld x9 (Rect.unit (s := S1x1024x4096) ![0, 0, 3072] S1x1024x1024.size inb_S1x1024x4096_S1x1024x1024_0_0_3072))
    (View.ld x10 (Rect.unit (s := S1x4096x1024) ![0, 3072, 0] S1x1024x1024.size inb_S1x4096x1024_S1x1024x1024_0_3072_0))
    (View.ld x11 (Rect.unit (s := S1x1024x1024) ![0, 0, 0] S1x1024x1024.size inb_S1x1024x1024_S1x1024x1024_0_0_0))
    (View.ld x1 (Rect.unit (s := S1x512x256) ![0, 256 * n.val, 0] S1x256x256.size (by intro a; fin_cases a <;> simp <;> omega)))
    (View.ld x12 (Rect.unit (s := S1x256x1024) ![0, 0, 0] S1x256x1024.size inb_S1x256x1024_S1x256x1024_0_0_0))
    (View.ld x13 (Rect.unit (s := S1x1024) ![0, 0] S1x1024.size inb_S1x1024_S1x1024_0_0))

/-- A list that starts with one block's eight stores. -/
theorem pieces_append (b : Fin 4) (f : Fin 4 → Fin 2 → FVec F S128x128 .bf16) {w31 w30 w21 w20 w11 w10 w01 w00 : FVec F S128x128 .bf16}
    {l l' : List (View.Piece (Elt F) S512x1024 .bf16)} (h31 : w31 = f 3 1) (h30 : w30 = f 3 0) (h21 : w21 = f 2 1) (h20 : w20 = f 2 0) (h11 : w11 = f 1 1) (h10 : w10 = f 1 0) (h01 : w01 = f 0 1) (h00 : w00 = f 0 0) (hl : l = l') :
    place b 3 1 w31 :: place b 3 0 w30 :: place b 2 1 w21 :: place b 2 0 w20 :: place b 1 1 w11 :: place b 1 0 w10 :: place b 0 1 w01 :: place b 0 0 w00 :: l = pieces b f ++ l' := by
  subst hl h31 h30 h21 h20 h11 h10 h01 h00
  rfl

variable (c : Dev nD) (i : grid0.Coords) (arg3 : Memref sig .tc .vmem S8x512x128 .bf16) (harg3 : arg3.IsWhole) (arg4 : Memref sig .tc .vmem S4x512x128 .bf16) (harg4 : arg4.IsWhole) (arg5 : Memref sig .tc .vmem S4x128x128 .bf16) (harg5 : arg5.IsWhole) (arg6 : Memref sig .tc .vmem S4x512x128 .bf16) (harg6 : arg6.IsWhole) (arg7 : Memref sig .tc .vmem S4x128x128 .bf16) (harg7 : arg7.IsWhole) (arg8 : Memref sig .tc .smem S16 .f32) (harg8 : arg8.IsWhole)
  (x2 : Vec F S8x512x128 .bf16) (x3 : Vec F S4x512x128 .bf16) (x4 : Vec F S4x128x128 .bf16) (x5 : Vec F S4x512x128 .bf16) (x6 : Vec F S4x128x128 .bf16) (x7 : Vec F S16 .f32)

set_option maxHeartbeats 2000000 in
/-- The stores found before the first read of the scratch rows. -/
theorem hs16 : kernelRun0_A.sl.HS0_16 c i arg3 harg3 arg4 harg4 arg5 harg5 arg6 harg6 arg7 harg7 arg8 harg8 x2 x3 x4 x5 x6 x7 = pieces1 i x2 x3 x4 x5 x6 x7 := by
  unfold kernelRun0_A.sl.HS0_16 pieces1
  refine pieces_append 1 _ ?_ ?_ ?_ ?_ ?_ ?_ ?_ ?_ ((pieces_append 0 (block0 i x2 x3 x4 x5 x6 x7) ?_ ?_ ?_ ?_ ?_ ?_ ?_ ?_ rfl).trans (List.append_nil _)) <;>
  · sl_unfold_run_names
    simp only [View.readAt_eq_ld, harg3.read_unread, harg4.read_unread, harg5.read_unread, harg6.read_unread, harg7.read_unread, harg8.read_unread]
    rfl

set_option maxHeartbeats 2000000 in
/-- The stores found before the second read of the scratch rows. -/
theorem hs32 : kernelRun0_A.sl.HS0_32 c i arg3 harg3 arg4 harg4 arg5 harg5 arg6 harg6 arg7 harg7 arg8 harg8 x2 x3 x4 x5 x6 x7 = pieces2 i x2 x3 x4 x5 x6 x7 := by
  unfold kernelRun0_A.sl.HS0_32 pieces2
  refine pieces_append 3 _ ?_ ?_ ?_ ?_ ?_ ?_ ?_ ?_ (pieces_append 2 _ ?_ ?_ ?_ ?_ ?_ ?_ ?_ ?_ (hs16 c i arg3 harg3 arg4 harg4 arg5 harg5 arg6 harg6 arg7 harg7 arg8 harg8 x2 x3 x4 x5 x6 x7)) <;>
  · sl_unfold_run_names
    simp only [View.readAt_eq_ld, harg3.read_unread, harg4.read_unread, harg5.read_unread, harg6.read_unread, harg7.read_unread, harg8.read_unread]
    rfl

/-- Pieces over one rectangle with the same payload. -/
theorem piece_congr {r : Rect S512x1024} {w w' : r.shape.Idx → Elt F .f32} (h : w = w') :
    (⟨r, w⟩ : View.Piece (Elt F) S512x1024 .f32) = ⟨r, w'⟩ := by rw [h]

set_option maxHeartbeats 2000000 in
/-- The output block of a point: its two halves. -/
theorem out_eq (c : Dev nD) (t : Fin cfg0.N) : outsAt0 m c t = View.canon [
     ⟨Rect.unit (s := S512x1024) ![256, 0] S256x1024.size inb_S512x1024_S256x1024_256_0,
       half (iblk m c 0 t) (iblk m c 1 t) (iblk m c 8 t) (iblk m c 9 t) (iblk m c 10 t) (iblk m c 11 t) (iblk m c 12 t) (iblk m c 13 t)
        (scM0_0.view.readCov (pieces2 (grid0.coords t) (iblk m c 2 t) (iblk m c 3 t) (iblk m c 4 t) (iblk m c 5 t) (iblk m c 6 t) (iblk m c 7 t))
          (Rect.unit (s := S512x1024) ![256, 0] S256x1024.size inb_S512x1024_S256x1024_256_0).toLoadRect) 1⟩,
     ⟨Rect.unit (s := S512x1024) ![0, 0] S256x1024.size inb_S512x1024_S256x1024_0_0,
       half (iblk m c 0 t) (iblk m c 1 t) (iblk m c 8 t) (iblk m c 9 t) (iblk m c 10 t) (iblk m c 11 t) (iblk m c 12 t) (iblk m c 13 t)
        (scM0_0.view.readCov (pieces1 (grid0.coords t) (iblk m c 2 t) (iblk m c 3 t) (iblk m c 4 t) (iblk m c 5 t) (iblk m c 6 t) (iblk m c 7 t))
          (Rect.unit (s := S512x1024) ![0, 0] S256x1024.size inb_S512x1024_S256x1024_0_0).toLoadRect) 0⟩] := by
  unfold outsAt0 out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _)]
  unfold kernelRun0_A
  dsimp only
  refine congrArg View.canon (congrArg₂ List.cons (piece_congr ?_) (congrArg₂ List.cons (piece_congr ?_) rfl))
  · have e : _ = tail (View.readAt (Elt F) (ms0_0 t).view (Rect.unit (s := S512x1024) ![256, 0] S256x1024.size inb_S512x1024_S256x1024_256_0).toLoadRect ((hs0_0 t).unread (iblk m c 0 t)))
      (kernelRun0_A.sl.v2027 c (grid0.coords t) (ms0_2 t) (hs0_2 t) (ms0_3 t) (hs0_3 t) (ms0_4 t) (hs0_4 t) (ms0_5 t) (hs0_5 t) (ms0_6 t) (hs0_6 t) (ms0_7 t) (hs0_7 t) scM0_0 (iblk m c 2 t) (iblk m c 3 t) (iblk m c 4 t) (iblk m c 5 t) (iblk m c 6 t) (iblk m c 7 t))
      (View.readAt (Elt F) (ms0_8 t).view (Rect.unit (s := S1x1024x1024) ![0, 0, 0] S1x1024x1024.size inb_S1x1024x1024_S1x1024x1024_0_0_0).toLoadRect ((hs0_8 t).unread (iblk m c 8 t)))
      (View.readAt (Elt F) (ms0_9 t).view (Rect.unit (s := S1x1024x4096) ![0, 0, 0] S1x1024x1024.size inb_S1x1024x4096_S1x1024x1024_0_0_0).toLoadRect ((hs0_9 t).unread (iblk m c 9 t)))
      (View.readAt (Elt F) (ms0_10 t).view (Rect.unit (s := S1x4096x1024) ![0, 0, 0] S1x1024x1024.size inb_S1x4096x1024_S1x1024x1024_0_0_0).toLoadRect ((hs0_10 t).unread (iblk m c 10 t)))
      (View.readAt (Elt F) (ms0_9 t).view (Rect.unit (s := S1x1024x4096) ![0, 0, 1024] S1x1024x1024.size inb_S1x1024x4096_S1x1024x1024_0_0_1024).toLoadRect ((hs0_9 t).unread (iblk m c 9 t)))
      (View.readAt (Elt F) (ms0_10 t).view (Rect.unit (s := S1x4096x1024) ![0, 1024, 0] S1x1024x1024.size inb_S1x4096x1024_S1x1024x1024_0_1024_0).toLoadRect ((hs0_10 t).unread (iblk m c 10 t)))
      (View.readAt (Elt F) (ms0_9 t).view (Rect.unit (s := S1x1024x4096) ![0, 0, 2048] S1x1024x1024.size inb_S1x1024x4096_S1x1024x1024_0_0_2048).toLoadRect ((hs0_9 t).unread (iblk m c 9 t)))
      (View.readAt (Elt F) (ms0_10 t).view (Rect.unit (s := S1x4096x1024) ![0, 2048, 0] S1x1024x1024.size inb_S1x4096x1024_S1x1024x1024_0_2048_0).toLoadRect ((hs0_10 t).unread (iblk m c 10 t)))
      (View.readAt (Elt F) (ms0_9 t).view (Rect.unit (s := S1x1024x4096) ![0, 0, 3072] S1x1024x1024.size inb_S1x1024x4096_S1x1024x1024_0_0_3072).toLoadRect ((hs0_9 t).unread (iblk m c 9 t)))
      (View.readAt (Elt F) (ms0_10 t).view (Rect.unit (s := S1x4096x1024) ![0, 3072, 0] S1x1024x1024.size inb_S1x4096x1024_S1x1024x1024_0_3072_0).toLoadRect ((hs0_10 t).unread (iblk m c 10 t)))
      (View.readAt (Elt F) (ms0_11 t).view (Rect.unit (s := S1x1024x1024) ![0, 0, 0] S1x1024x1024.size inb_S1x1024x1024_S1x1024x1024_0_0_0).toLoadRect ((hs0_11 t).unread (iblk m c 11 t)))
      (View.readAt (Elt F) (ms0_1 t).view (Rect.unit (s := S1x512x256) ![0, 256, 0] S1x256x256.size inb_S1x512x256_S1x256x256_0_256_0).toLoadRect ((hs0_1 t).unread (iblk m c 1 t)))
      (View.readAt (Elt F) (ms0_12 t).view (Rect.unit (s := S1x256x1024) ![0, 0, 0] S1x256x1024.size inb_S1x256x1024_S1x256x1024_0_0_0).toLoadRect ((hs0_12 t).unread (iblk m c 12 t)))
      (View.readAt (Elt F) (ms0_13 t).view (Rect.unit (s := S1x1024) ![0, 0] S1x1024.size inb_S1x1024_S1x1024_0_0).toLoadRect ((hs0_13 t).unread (iblk m c 13 t))) := rfl
    refine e.trans ?_
    simp only [View.readAt_eq_ld, (hs0_0 t).read_unread, (hs0_1 t).read_unread, (hs0_8 t).read_unread, (hs0_9 t).read_unread, (hs0_10 t).read_unread, (hs0_11 t).read_unread, (hs0_12 t).read_unread, (hs0_13 t).read_unread]
    unfold kernelRun0_A.sl.v2027
    rw [hs32]
    rfl
  · have e : _ = tail (View.readAt (Elt F) (ms0_0 t).view (Rect.unit (s := S512x1024) ![0, 0] S256x1024.size inb_S512x1024_S256x1024_0_0).toLoadRect ((hs0_0 t).unread (iblk m c 0 t)))
      (kernelRun0_A.sl.v999 c (grid0.coords t) (ms0_2 t) (hs0_2 t) (ms0_3 t) (hs0_3 t) (ms0_4 t) (hs0_4 t) (ms0_5 t) (hs0_5 t) (ms0_6 t) (hs0_6 t) (ms0_7 t) (hs0_7 t) scM0_0 (iblk m c 2 t) (iblk m c 3 t) (iblk m c 4 t) (iblk m c 5 t) (iblk m c 6 t) (iblk m c 7 t))
      (View.readAt (Elt F) (ms0_8 t).view (Rect.unit (s := S1x1024x1024) ![0, 0, 0] S1x1024x1024.size inb_S1x1024x1024_S1x1024x1024_0_0_0).toLoadRect ((hs0_8 t).unread (iblk m c 8 t)))
      (View.readAt (Elt F) (ms0_9 t).view (Rect.unit (s := S1x1024x4096) ![0, 0, 0] S1x1024x1024.size inb_S1x1024x4096_S1x1024x1024_0_0_0).toLoadRect ((hs0_9 t).unread (iblk m c 9 t)))
      (View.readAt (Elt F) (ms0_10 t).view (Rect.unit (s := S1x4096x1024) ![0, 0, 0] S1x1024x1024.size inb_S1x4096x1024_S1x1024x1024_0_0_0).toLoadRect ((hs0_10 t).unread (iblk m c 10 t)))
      (View.readAt (Elt F) (ms0_9 t).view (Rect.unit (s := S1x1024x4096) ![0, 0, 1024] S1x1024x1024.size inb_S1x1024x4096_S1x1024x1024_0_0_1024).toLoadRect ((hs0_9 t).unread (iblk m c 9 t)))
      (View.readAt (Elt F) (ms0_10 t).view (Rect.unit (s := S1x4096x1024) ![0, 1024, 0] S1x1024x1024.size inb_S1x4096x1024_S1x1024x1024_0_1024_0).toLoadRect ((hs0_10 t).unread (iblk m c 10 t)))
      (View.readAt (Elt F) (ms0_9 t).view (Rect.unit (s := S1x1024x4096) ![0, 0, 2048] S1x1024x1024.size inb_S1x1024x4096_S1x1024x1024_0_0_2048).toLoadRect ((hs0_9 t).unread (iblk m c 9 t)))
      (View.readAt (Elt F) (ms0_10 t).view (Rect.unit (s := S1x4096x1024) ![0, 2048, 0] S1x1024x1024.size inb_S1x4096x1024_S1x1024x1024_0_2048_0).toLoadRect ((hs0_10 t).unread (iblk m c 10 t)))
      (View.readAt (Elt F) (ms0_9 t).view (Rect.unit (s := S1x1024x4096) ![0, 0, 3072] S1x1024x1024.size inb_S1x1024x4096_S1x1024x1024_0_0_3072).toLoadRect ((hs0_9 t).unread (iblk m c 9 t)))
      (View.readAt (Elt F) (ms0_10 t).view (Rect.unit (s := S1x4096x1024) ![0, 3072, 0] S1x1024x1024.size inb_S1x4096x1024_S1x1024x1024_0_3072_0).toLoadRect ((hs0_10 t).unread (iblk m c 10 t)))
      (View.readAt (Elt F) (ms0_11 t).view (Rect.unit (s := S1x1024x1024) ![0, 0, 0] S1x1024x1024.size inb_S1x1024x1024_S1x1024x1024_0_0_0).toLoadRect ((hs0_11 t).unread (iblk m c 11 t)))
      (View.readAt (Elt F) (ms0_1 t).view (Rect.unit (s := S1x512x256) ![0, 0, 0] S1x256x256.size inb_S1x512x256_S1x256x256_0_0_0).toLoadRect ((hs0_1 t).unread (iblk m c 1 t)))
      (View.readAt (Elt F) (ms0_12 t).view (Rect.unit (s := S1x256x1024) ![0, 0, 0] S1x256x1024.size inb_S1x256x1024_S1x256x1024_0_0_0).toLoadRect ((hs0_12 t).unread (iblk m c 12 t)))
      (View.readAt (Elt F) (ms0_13 t).view (Rect.unit (s := S1x1024) ![0, 0] S1x1024.size inb_S1x1024_S1x1024_0_0).toLoadRect ((hs0_13 t).unread (iblk m c 13 t))) := rfl
    refine e.trans ?_
    simp only [View.readAt_eq_ld, (hs0_0 t).read_unread, (hs0_1 t).read_unread, (hs0_8 t).read_unread, (hs0_9 t).read_unread, (hs0_10 t).read_unread, (hs0_11 t).read_unread, (hs0_12 t).read_unread, (hs0_13 t).read_unread]
    unfold kernelRun0_A.sl.v999
    rw [hs16]
    rfl
end Cert.KernelIdeal.Parts
end
-- ==== Proof.Scalars.lean ====
/- Facts about the extended reals that the proof rests on: a nonnegative real factor goes through sums; the
   reciprocal root mean square of any row is a nonnegative real; a softmax with a sink, whose keys are split
   into an own and a previous block, is the quotient of two sums over one block of keys. -/
module

public import Idealize.ShloMosaic.PureOps.Ideal.Laws
public import Idealize.ShloMosaic.Lib.IdealHost

@[expose] public section

noncomputable section

namespace Cert.Scalars

open Idealize.ShloMosaic

/-- A nonnegative real factor distributes over a finite sum, on the left. -/
theorem mul_sum {ι : Type} (s : Finset ι) (f : ι → EReal) {r : EReal} (h0 : 0 ≤ r) (ht : r ≠ ⊤) :
    ∑ i ∈ s, r * f i = r * ∑ i ∈ s, f i := by
  classical
  induction s using Finset.induction_on with
  | empty => simp
  | insert a s ha ih => rw [Finset.sum_insert ha, Finset.sum_insert ha, ih, EReal.left_distrib_of_nonneg_of_ne_top h0 ht]

/-- A nonnegative real factor distributes over a finite sum, on the right. -/
theorem sum_mul {ι : Type} (s : Finset ι) (f : ι → EReal) {r : EReal} (h0 : 0 ≤ r) (ht : r ≠ ⊤) :
    ∑ i ∈ s, f i * r = (∑ i ∈ s, f i) * r := by
  rw [mul_comm _ r, ← mul_sum s f h0 ht]
  exact Finset.sum_congr rfl fun i _ => mul_comm _ _

/-- A finite sum of values below infinity is below infinity. -/
theorem sum_ne_top {ι : Type} (s : Finset ι) (f : ι → EReal) (hf : ∀ i, f i ≠ ⊤) : ∑ i ∈ s, f i ≠ ⊤ := by
  classical
  induction s using Finset.induction_on with
  | empty => simp
  | insert a s ha ih => rw [Finset.sum_insert ha]; exact EReal.add_ne_top (hf a) ih

/-- A square is nonnegative. -/
theorem sq_nonneg (x : EReal) : 0 ≤ x * x := by
  rcases le_total 0 x with h | h
  · exact mul_nonneg h h
  · have := EReal.neg_nonneg.2 h
    rw [← neg_mul_neg]
    exact mul_nonneg this this

/-- The small constant of the norms is a positive real. -/
theorem eps_pos : ∃ r : ℝ, 0 < r ∧ Ideal.ofBits .f32 0x358637BD#32 = (r : EReal) := by
  refine ⟨_, ?_, rfl⟩
  rw [if_neg (by decide)]
  positivity

/-- The width 1024 as a real. -/
theorem width : Ideal.ofBits .f32 0x44800000#32 = ((1024 : ℝ) : EReal) := by
  simp [Ideal.ofBits, Ideal.ieee]
  rw [← EReal.coe_mul]
  norm_num

/-- The reciprocal root of a sum of squares over the width, plus the small constant. -/
def inv (x : Fin 1024 → EReal) : EReal :=
  Ideal.rsqrt (Ideal.div (∑ k, x k * x k) (Ideal.ofBits .f32 0x44800000#32) + Ideal.ofBits .f32 0x358637BD#32)

/-- It is a nonnegative real, whatever the row holds. -/
theorem inv_real (x : Fin 1024 → EReal) : 0 ≤ inv x ∧ inv x ≠ ⊤ := by
  obtain ⟨e, he, hE⟩ := eps_pos
  have hs : 0 ≤ ∑ k, x k * x k := Finset.sum_nonneg fun k _ => sq_nonneg (x k)
  unfold inv
  rw [hE, width]
  generalize ∑ k, x k * x k = s at hs
  have hd : 0 ≤ Ideal.div s ((1024 : ℝ) : EReal) := by
    unfold Ideal.div
    rw [if_neg (by norm_num)]
    exact mul_nonneg hs (by rw [← EReal.coe_inv]; exact_mod_cast (by norm_num : (0:ℝ) ≤ (1024:ℝ)⁻¹))
  generalize Ideal.div s ((1024 : ℝ) : EReal) = d at hd
  induction d with
  | bot => simp at hd
  | top =>
    have h : Ideal.rsqrt ((⊤ : EReal) + (e : EReal)) = 0 := by rw [EReal.top_add_coe]; rfl
    rw [h]
    exact ⟨le_refl _, EReal.zero_ne_top⟩
  | coe r =>
    have hr : 0 ≤ r := by exact_mod_cast hd
    rw [← EReal.coe_add]
    have hp : 0 < r + e := by linarith
    have h : Ideal.rsqrt ((r + e : ℝ) : EReal) = (((√(r + e))⁻¹ : ℝ) : EReal) := by
      show (if r + e < 0 then (⊥ : EReal) else if r + e = 0 then ⊤ else (((√(r + e))⁻¹ : ℝ) : EReal)) = _
      rw [if_neg (not_lt.2 hp.le), if_neg hp.ne']
    rw [h]
    exact ⟨by exact_mod_cast inv_nonneg.2 (Real.sqrt_nonneg _), EReal.coe_ne_top _⟩

/-- The positive part takes a nonnegative factor out. -/
theorem max_mul {s : EReal} (h0 : 0 ≤ s) (u : EReal) : max (s * u) 0 = s * max u 0 := by
  rcases le_total 0 u with h | h
  · rw [max_eq_left h, max_eq_left (mul_nonneg h0 h)]
  · rw [max_eq_right h, mul_zero, max_eq_right]
    exact mul_nonpos_of_nonneg_of_nonpos h0 h

/-- A product of a normalised row with a column is the norm's factor times the product with the scaled column. -/
theorem norm_dot (x g w : Fin 1024 → EReal) :
    ∑ k, x k * inv x * g k * w k = inv x * ∑ k, x k * (g k * w k) := by
  rw [← mul_sum _ _ (inv_real x).1 (inv_real x).2]
  exact Finset.sum_congr rfl fun k _ => by rw [mul_comm (x k), mul_assoc, mul_assoc]

/-- The feed-forward sum of a normalised row: the factor comes out squared. -/
theorem ffn {N : ℕ} (x g : Fin 1024 → EReal) (w : Fin 1024 → Fin N → EReal) (d : Fin N → EReal) :
    ∑ f, max (∑ k, x k * inv x * g k * w k f) 0 * max (∑ k, x k * inv x * g k * w k f) 0 * d f
      = inv x * inv x * ∑ f, max (∑ k, x k * (g k * w k f)) 0 * max (∑ k, x k * (g k * w k f)) 0 * d f := by
  have h := inv_real x
  have hh : 0 ≤ inv x * inv x := mul_nonneg h.1 h.1
  have ht : inv x * inv x ≠ ⊤ := by
    obtain ⟨h0, h1⟩ := h
    generalize inv x = s at h0 h1
    induction s with
    | bot => simp at h0
    | top => exact absurd rfl h1
    | coe r => rw [← EReal.coe_mul]; exact EReal.coe_ne_top _
  rw [← mul_sum _ _ hh ht]
  refine Finset.sum_congr rfl fun f _ => ?_
  rw [norm_dot, max_mul h.1, mul_mul_mul_comm, mul_assoc]

/-- A sum over 4096 is the sum of its four quarters. -/
theorem sum_quarters (f : Fin 4096 → EReal) :
    ∑ k, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  have h : ∀ (a b : ℕ) (hab : a + b ≤ 4096), ∑ k : Fin (a + b), f ⟨k.val, by omega⟩
      = ∑ k : Fin a, f ⟨k.val, by omega⟩ + ∑ k : Fin b, f ⟨a + k.val, by omega⟩ := by
    intro a b hab
    rw [Fin.sum_univ_add]
    rfl
  have h3 := h 3072 1024 (by norm_num)
  have h2 := h 2048 1024 (by norm_num)
  have h1 := h 1024 1024 (by norm_num)
  exact h3.trans (congrArg (· + _) (h2.trans (congrArg (· + _) h1)))

/-- A sum over 256 is the sum of its two halves. -/
theorem sum_halves (f : Fin 256 → EReal) :
    ∑ k, f k = ∑ k : Fin 128, f ⟨k.val, by omega⟩ + ∑ k : Fin 128, f ⟨128 + k.val, by omega⟩ :=
  Fin.sum_univ_add (a := 128) (b := 128) f

/-- The greatest over 256 is the greater of its two halves'. -/
theorem sup_halves (f : Fin 256 → EReal) :
    Finset.univ.sup f = Finset.univ.sup (fun k : Fin 128 => f ⟨k.val, by omega⟩)
      ⊔ Finset.univ.sup (fun k : Fin 128 => f ⟨128 + k.val, by omega⟩) := by
  apply le_antisymm
  · refine Finset.sup_le fun k _ => ?_
    by_cases hk : k.val < 128
    · exact le_sup_of_le_left (Finset.le_sup (f := fun k : Fin 128 => f ⟨k.val, by omega⟩) (Finset.mem_univ (⟨k.val, hk⟩ : Fin 128)))
    · refine le_sup_of_le_right ?_
      have := Finset.le_sup (f := fun k : Fin 128 => f ⟨128 + k.val, by omega⟩) (Finset.mem_univ (⟨k.val - 128, by omega⟩ : Fin 128))
      refine le_trans (le_of_eq (congrArg f (Fin.ext ?_))) this
      show k.val = 128 + (k.val - 128)
      omega
  · exact sup_le (Finset.sup_le fun k _ => Finset.le_sup (Finset.mem_univ _)) (Finset.sup_le fun k _ => Finset.le_sup (Finset.mem_univ _))

/-- A sum over 128 lanes of which one half counts is the sum over that half. -/
theorem sum_lanes (c : Fin 2) (f : Fin 128 → EReal) :
    ∑ x : Fin 128, (if (c = 0) = (x.val < 64) then f x else 0) = ∑ x : Fin 64, f ⟨64 * c.val + x.val, by omega⟩ := by
  rw [Fin.sum_univ_add (a := 64) (b := 64) fun x : Fin 128 => if (c = 0) = (x.val < 64) then f x else 0]
  have hl : ∀ x : Fin 64, ((Fin.castAdd 64 x).val < 64) = True := fun x => eq_true x.isLt
  have hr : ∀ x : Fin 64, ((Fin.natAdd 64 x).val < 64) = False := fun x => eq_false (by simp)
  simp only [hl, hr]
  fin_cases c
  · simp
    exact Finset.sum_congr rfl fun x _ => congrArg f (Fin.ext (by simp))
  · simp
    exact Finset.sum_congr rfl fun x _ => congrArg f (Fin.ext (by simp [add_comm]))

/-! ## The softmax over two blocks of keys -/

section softmax

variable (a b vc vp : Fin 128 → EReal) (i : Fin 128) (hp : Prop) [Decidable hp] (sink : EReal)

/-- The scores of the previous block's keys, those out of the window or not there masked. -/
def prevScore (j : Fin 128) : EReal := if i < j ∧ hp then b j else ⊥
/-- The scores of the own block's keys, later ones masked. -/
def ownScore (j : Fin 128) : EReal := if j ≤ i then a j else ⊥
/-- The one score of a key position: the own key's where it is not later, else the previous block's. -/
def score (j : Fin 128) : EReal := if j ≤ i then a j else if hp then b j else ⊥

/-- The greatest score or the sink. -/
def top : EReal := max (Finset.univ.sup (score a b i hp)) sink

/-- The merged score of a position is the greater of the two blocks' masked scores. -/
theorem score_eq (j : Fin 128) : score a b i hp j = prevScore b i hp j ⊔ ownScore a i j := by
  unfold score prevScore ownScore
  by_cases h : j ≤ i
  · rw [if_pos h, if_pos h, if_neg (fun hc => absurd hc.1 (not_lt.2 h)), bot_sup_eq]
  · rw [if_neg h, if_neg h, sup_bot_eq]
    by_cases hq : hp
    · rw [if_pos hq, if_pos ⟨not_le.1 h, hq⟩]
    · rw [if_neg hq, if_neg (fun hc => hq hc.2)]

/-- The greatest of the two blocks' masked scores is the greatest of the merged ones. -/
theorem sup_score : Finset.univ.sup (prevScore b i hp) ⊔ Finset.univ.sup (ownScore a i) = Finset.univ.sup (score a b i hp) := by
  rw [← Finset.sup_sup]
  exact Finset.sup_congr rfl fun j _ => (score_eq a b i hp j).symm

/-- A masked score weighs nothing. -/
theorem exp_bot_sub (x : EReal) : Ideal.exp (⊥ - x) = 0 := by
  rw [EReal.bot_sub]; rfl

/-- The exponential of a score below infinity against a real is a nonnegative real. -/
theorem exp_real {s x : EReal} (hs : s ≠ ⊤) (hx : x ≠ ⊤) (hx' : x ≠ ⊥) : 0 ≤ Ideal.exp (s - x) ∧ Ideal.exp (s - x) ≠ ⊤ := by
  induction x with
  | bot => exact absurd rfl hx'
  | top => exact absurd rfl hx
  | coe r =>
    induction s with
    | top => exact absurd rfl hs
    | bot => rw [exp_bot_sub]; simp
    | coe t =>
      rw [← EReal.coe_sub]
      exact ⟨by show (0 : EReal) ≤ ((Real.exp (t - r) : ℝ) : EReal); exact_mod_cast (Real.exp_pos _).le, EReal.coe_ne_top _⟩

/-- The quotient of the weighted values by the weights, both over one block of key positions. -/
def quot : EReal :=
  Ideal.div
    (∑ j, (Ideal.exp (score a b i hp j - top a b i hp sink) * (if j ≤ i then 1 else 0)) * vc j
      + ∑ j, (Ideal.exp (score a b i hp j - top a b i hp sink) * (if j ≤ i then 0 else 1)) * vp j)
    (∑ j, Ideal.exp (score a b i hp j - top a b i hp sink) * (if j ≤ i then 1 else 0)
      + ∑ j, Ideal.exp (score a b i hp j - top a b i hp sink) * (if j ≤ i then 0 else 1)
      + Ideal.exp (sink - top a b i hp sink))

variable {a b sink} (ha : ∀ j, a j ≠ ⊤) (hb : ∀ j, b j ≠ ⊤) (hs : sink ≠ ⊤) (hs' : sink ≠ ⊥)
include ha hb hs hs'

/-- For scores below infinity and a finite sink the greatest of them is finite. -/
theorem top_real : top a b i hp sink ≠ ⊤ ∧ top a b i hp sink ≠ ⊥ := by
  refine ⟨ne_of_lt (max_lt ?_ (lt_top_iff_ne_top.2 hs)), fun h => ?_⟩
  · rw [Finset.sup_lt_iff (by simp)]
    intro j _
    unfold score
    split_ifs
    · exact lt_top_iff_ne_top.2 (ha j)
    · exact lt_top_iff_ne_top.2 (hb j)
    · exact bot_lt_top
  · have : sink ≤ top a b i hp sink := le_max_right _ _
    rw [h, le_bot_iff] at this
    exact hs' this

/-- The two-block softmax's weighted sum of values is the one-block quotient. -/
theorem softmax_eq (D : EReal)
    (hD : D = ∑ j, Ideal.exp (prevScore b i hp j - top a b i hp sink) + ∑ j, Ideal.exp (ownScore a i j - top a b i hp sink)
      + Ideal.exp (sink - top a b i hp sink)) :
    ∑ j, Ideal.div (Ideal.exp (prevScore b i hp j - top a b i hp sink)) D * vp j
        + ∑ j, Ideal.div (Ideal.exp (ownScore a i j - top a b i hp sink)) D * vc j
      = quot a b vc vp i hp sink := by
  unfold quot
  obtain ⟨ht, ht'⟩ := top_real i hp ha hb hs hs'
  generalize top a b i hp sink = m at *
  have hown : ∀ j, Ideal.exp (score a b i hp j - m) * (if j ≤ i then 1 else 0) = Ideal.exp (ownScore a i j - m) := by
    intro j
    unfold score ownScore
    by_cases h : j ≤ i
    · simp only [if_pos h, mul_one]
    · simp only [if_neg h, mul_zero, exp_bot_sub]
  have hprev : ∀ j, Ideal.exp (score a b i hp j - m) * (if j ≤ i then 0 else 1) = Ideal.exp (prevScore b i hp j - m) := by
    intro j
    unfold score prevScore
    by_cases h : j ≤ i
    · simp only [if_pos h, mul_zero, not_lt.2 h, false_and, if_false, exp_bot_sub]
    · simp only [if_neg h, mul_one, not_le.1 h, true_and]
  simp only [hown, hprev]
  have hpr : ∀ j, prevScore b i hp j ≠ ⊤ := by
    intro j; unfold prevScore; split_ifs
    · exact hb j
    · exact bot_ne_top
  have how : ∀ j, ownScore a i j ≠ ⊤ := by
    intro j; unfold ownScore; split_ifs
    · exact ha j
    · exact bot_ne_top
  have hsum : ∀ f : Fin 128 → EReal, (∀ j, f j ≠ ⊤) → ∃ r : ℝ, 0 ≤ r ∧ ∑ j, Ideal.exp (f j - m) = (r : EReal) := by
    intro f hf
    have h0 : 0 ≤ ∑ j, Ideal.exp (f j - m) := Finset.sum_nonneg fun j _ => (exp_real (hf j) ht ht').1
    have h1 : ∑ j, Ideal.exp (f j - m) ≠ ⊤ := sum_ne_top _ _ fun j => (exp_real (hf j) ht ht').2
    refine ⟨(∑ j, Ideal.exp (f j - m)).toReal, EReal.toReal_nonneg h0, ?_⟩
    exact (EReal.coe_toReal h1 (ne_of_gt (lt_of_lt_of_le EReal.bot_lt_zero h0))).symm
  obtain ⟨p, hp0, hpe⟩ := hsum _ hpr
  obtain ⟨o, ho0, hoe⟩ := hsum _ how
  have hsk : ∃ r : ℝ, 0 < r ∧ Ideal.exp (sink - m) = (r : EReal) := by
    induction m with
    | bot => exact absurd rfl ht'
    | top => exact absurd rfl ht
    | coe t =>
      induction sink with
      | bot => exact absurd rfl hs'
      | top => exact absurd rfl hs
      | coe s => exact ⟨Real.exp (s - t), Real.exp_pos _, by rw [← EReal.coe_sub]; rfl⟩
  obtain ⟨k, hk0, hke⟩ := hsk
  have hDr : D = ((p + o + k : ℝ) : EReal) := by
    rw [hD, hpe, hoe, hke, ← EReal.coe_add, ← EReal.coe_add]
  have hpos : 0 < p + o + k := by linarith
  have hne : (((p + o + k : ℝ) : EReal)) ≠ 0 := by exact_mod_cast hpos.ne'
  have hden : ∑ j, Ideal.exp (ownScore a i j - m) + ∑ j, Ideal.exp (prevScore b i hp j - m) + Ideal.exp (sink - m)
      = ((p + o + k : ℝ) : EReal) := by
    rw [hpe, hoe, hke, ← EReal.coe_add, ← EReal.coe_add, add_comm o p]
  rw [hden, hDr]
  have hinv0 : 0 ≤ ((p + o + k : ℝ) : EReal)⁻¹ := by
    rw [← EReal.coe_inv]; exact_mod_cast inv_nonneg.2 hpos.le
  have hinvt : ((p + o + k : ℝ) : EReal)⁻¹ ≠ ⊤ := by
    rw [← EReal.coe_inv]; exact EReal.coe_ne_top _
  simp only [Ideal.div, if_neg hne]
  rw [EReal.right_distrib_of_nonneg_of_ne_top hinv0 hinvt, ← sum_mul _ _ hinv0 hinvt, ← sum_mul _ _ hinv0 hinvt, add_comm]
  congr 1 <;> exact Finset.sum_congr rfl fun j _ => by rw [mul_right_comm]

end softmax

end Cert.Scalars

end
-- ==== Proof.Attend.lean ====
/- One attention block read at an index, at the ideal numbers: the stored value of lane `j` of query `i` is the
   quotient of the weighted values by the weights, over the key positions of the head that lane belongs to. -/
module

public import proofs.«01_k».proof.Proof.Parts
public import proofs.«01_k».proof.Proof.Scalars
public import Idealize.ShloMosaic.Lib.Pointwise

@[expose] public section

set_option maxRecDepth 16384

noncomputable section

namespace Cert.KernelIdeal.Parts

open Cert.KernelIdeal Cert.KernelIdeal.Gen Idealize.ShloMosaic Idealize.ShloMosaic.Pointwise Cert.Scalars

/-- A select on a decided bit. -/
theorem select_ofBool {α : Type} (p : Prop) [Decidable p] (x y : α) : Scalar.select (BitVec.ofBool (decide p)) x y = if p then x else y := by
  by_cases h : p <;> simp [h, Scalar.select]

/-- The key position of a lane of the scores. -/
theorem pay2_at (i : Fin 128) (j : Fin 256) : k0_pay2 (ix2 i j) = BitVec.ofNat 32 (j.val % 128) := by
  have h : ∀ j : Fin 256, k0_pay2 (ix2 0 j) = BitVec.ofNat 32 (j.val % 128) := by
    unfold k0_pay2
    decide +kernel
  exact h j

/-- Two small words compare as their numbers do. -/
theorem sle_ofNat {a b : ℕ} (ha : a < 1024) (hb : b < 1024) :
    IntOp.cmpi CmpIPredicate.sle (BitVec.ofNat 32 a) (BitVec.ofNat 32 b) = BitVec.ofBool (decide (a ≤ b)) := by
  show BitVec.ofBool (BitVec.sle _ _) = _
  congr 1
  rw [BitVec.sle_eq_decide, decide_eq_decide, BitVec.toInt_ofNat', BitVec.toInt_ofNat',
    Int.bmod_eq_of_le (by omega) (by omega), Int.bmod_eq_of_le (by omega) (by omega)]
  omega

/-- A key position is of the own block when it is not later than the query. -/
theorem pay3_at (i : Fin 128) (j : Fin 256) : k0_pay3 (ix2 i j) = BitVec.ofBool (decide (j.val % 128 ≤ i.val)) := by
  pointwise [k0_pay3]
  rw [pay2_at, sle_ofNat (by omega) (by omega)]

/-- The lanes of the first head. -/
theorem pay4_at (i j : Fin 128) : k0_pay4 (ix2 i j) = BitVec.ofBool (decide (j.val < 64)) := by
  have h : ∀ j : Fin 128, k0_pay4 (ix2 0 j) = BitVec.ofBool (decide (j.val < 64)) := by
    unfold k0_pay4
    decide +kernel
  exact h j

/-- The key block: head `c`'s keys in its own lanes, zero elsewhere. -/
theorem kBlk_at (x : Vec Ideal S1x128x128 .bf16) (c : Fin 2) (j d : Fin 128) :
    kBlk x (ix2 (⟨128 * c.val + j.val, by omega⟩ : Fin 256) d) = if (c = 0) = (d.val < 64) then x (ix3 0 j d) else 0 := by
  pointwise [kBlk, k0_pay11, k0_pay5]
  simp only [pay4_at, select_ofBool]
  have hc := c.isLt
  by_cases h : c = 0
  · subst h
    rw [dif_pos (by simp)]
    simp
  · have h1 : c.val = 1 := by omega
    rw [dif_neg (by omega)]
    simp only [h1, h]
    simp only [show 128 * 1 + j.val - 128 = j.val by omega]
    by_cases hd : d.val < 64 <;> simp [hd]

/-- The left half of the value block: head `c`'s values in its own lanes, zero elsewhere. -/
theorem vBlk_left (x : Vec Ideal S1x128x128 .bf16) (c : Fin 2) (j d : Fin 128) :
    vBlk x (ix2 (⟨128 * c.val + j.val, by omega⟩ : Fin 256) (⟨d.val, by omega⟩ : Fin 256))
      = if (c = 0) = (d.val < 64) then x (ix3 0 j d) else 0 := by
  pointwise [vBlk, k0_pay12, k0_pay5, k0_pay8, k0_pay9]
  simp only [pay4_at, select_ofBool]
  have hc := c.isLt
  by_cases h : c = 0
  · subst h
    simp
  · have h1 : c.val = 1 := by omega
    rw [dif_neg (by omega)]
    simp only [h1, h]
    simp only [show 128 * 1 + j.val - 128 = j.val by omega]
    by_cases hd : d.val < 64 <;> simp [hd]

/-- The one as a number. -/
theorem one_f32 : Ideal.ofBits .f32 0x3F800000#32 = 1 := by
  simp [Ideal.ofBits, Ideal.ieee]
  rw [← EReal.coe_mul]
  norm_num

/-- The right half of the value block: one in head `c`'s own lanes, zero elsewhere. -/
theorem vBlk_right (x : Vec Ideal S1x128x128 .bf16) (c : Fin 2) (j d : Fin 128) :
    vBlk x (ix2 (⟨128 * c.val + j.val, by omega⟩ : Fin 256) (⟨128 + d.val, by omega⟩ : Fin 256))
      = if (c = 0) = (d.val < 64) then 1 else 0 := by
  pointwise [vBlk, k0_pay12, k0_pay5, k0_pay8, k0_pay9]
  simp only [pay4_at, select_ofBool]
  have hc := c.isLt
  by_cases h : c = 0
  · subst h
    simp
  · have h1 : c.val = 1 := by omega
    rw [dif_neg (by omega)]
    simp only [h1, h]
    by_cases hd : d.val < 64 <;> simp [hd]

/-- A query's product with a key over one head's 64 lanes. -/
def dotHead (q k : Vec Ideal S1x128x128 .bf16) (c : Fin 2) (i j : Fin 128) : EReal :=
  ∑ x : Fin 64, q (ix3 0 i (⟨64 * c.val + x.val, by omega⟩ : Fin 128)) * k (ix3 0 j (⟨64 * c.val + x.val, by omega⟩ : Fin 128))

/-- The scores: the own key's where it is not later, else the previous block's. -/
theorem scores_at (kc kp q : Vec Ideal S1x128x128 .bf16) (c : Fin 2) (i j : Fin 128) :
    scores (kBlk kc) (kBlk kp) q (ix2 i (⟨128 * c.val + j.val, by omega⟩ : Fin 256))
      = if j ≤ i then dotHead q kc c i j else dotHead q kp c i j := by
  have hd : ∀ k : Vec Ideal S1x128x128 .bf16,
      ∑ x : Fin 128, q (ix3 0 i x) * kBlk k (ix2 (⟨128 * c.val + j.val, by omega⟩ : Fin 256) x) = dotHead q k c i j := by
    intro k
    unfold dotHead
    rw [← sum_lanes c fun x => q (ix3 0 i x) * k (ix3 0 j x)]
    refine Finset.sum_congr rfl fun x _ => ?_
    rw [kBlk_at]
    split_ifs <;> simp
  pointwise [scores]
  rw [hd, hd, pay3_at, select_ofBool]
  refine if_congr ?_ rfl rfl
  show (128 * c.val + j.val) % 128 ≤ i.val ↔ j.val ≤ i.val
  rw [show (128 * c.val + j.val) % 128 = j.val by omega]

/-- The mask constant is the bottom. -/
theorem mask_bot : Named.named (F := Ideal) (φ := .f32) κ "mask" 0xF149F2CA#32 = (⊥ : EReal) :=
  IdealRules.named_const.ideal_named_scalar _ _ _ _ rfl

/-- Masked scores. -/
theorem masked_at (v : IVec S128x256 1) (s : FVec Ideal S128x256 .f32) (i : Fin 128) (j : Fin 256) :
    masked v s (ix2 i j) = Scalar.select (v (ix2 i j)) (s (ix2 i j)) ⊥ := by
  pointwise [masked]
  rw [mask_bot]

/-- The start of a greatest-of is the bottom. -/
theorem neg_inf : Ideal.ofBits .f32 0xFF800000#32 = (⊥ : EReal) := by
  simp [Ideal.ofBits, Ideal.ieee]

/-- The greatest of a head's scores and its sink. -/
theorem rowMax_at (s : FVec Ideal S128x128 .f32) (sink : Elt Ideal .f32) (i : Fin 128) :
    rowMax s sink (ix2 i 0) = max (Finset.univ.sup fun k : Fin 128 => s (ix2 i k)) sink := by
  pointwise [rowMax]
  rw [neg_inf]
  rfl

/-- Head `c`'s sink. -/
def sinkOf (c : Fin 2) (s0 s1 : EReal) : EReal := if c = 0 then s0 else s1

/-- Head `c`'s greatest. -/
def topOf (s : FVec Ideal S128x256 .f32) (s0 s1 : EReal) (c : Fin 2) (i : Fin 128) : EReal :=
  max (Finset.univ.sup fun k : Fin 128 => s (ix2 i (⟨128 * c.val + k.val, by omega⟩ : Fin 256))) (sinkOf c s0 s1)

/-- The first head's greatest is `topOf` of it. -/
theorem max0 (s : FVec Ideal S128x256 .f32) (s0 s1 : EReal) (i : Fin 128) :
    rowMax (extractStridedSlice S128x128 ![0, 0] s slices_S128x256_o0_0_S128x128) s0 (ix2 i 0) = topOf s s0 s1 0 i := by
  rw [rowMax_at]
  unfold topOf
  congr 1
  refine Finset.sup_congr rfl fun k _ => ?_
  pointwise

/-- The second head's greatest is `topOf` of it. -/
theorem max1 (s : FVec Ideal S128x256 .f32) (s0 s1 : EReal) (i : Fin 128) :
    rowMax (extractStridedSlice S128x128 ![0, 128] s slices_S128x256_o0_128_S128x128) s1 (ix2 i 0) = topOf s s0 s1 1 i := by
  rw [rowMax_at]
  unfold topOf
  congr 1
  exact Finset.sup_congr rfl fun k _ => by pointwise

/-- The exponentials, head by head. -/
theorem weights_at (s : FVec Ideal S128x256 .f32) (s0 s1 : EReal) (c : Fin 2) (i j : Fin 128) :
    weights s s0 s1 (ix2 i (⟨128 * c.val + j.val, by omega⟩ : Fin 256))
      = Ideal.exp (s (ix2 i (⟨128 * c.val + j.val, by omega⟩ : Fin 256)) - topOf s s0 s1 c i) := by
  pointwise [weights, expScores]
  rw [max0 s s0 s1, max1 s s0 s1]
  have hc := c.isLt
  by_cases h : c = 0
  · subst h
    rw [dif_pos (by simp)]
  · have h1 : c = 1 := by omega
    subst h1
    rw [dif_neg (by simp)]
    have hj : (⟨128 + (128 * (1 : Fin 2).val + j.val - 128), by simp; omega⟩ : Fin 256) = ⟨128 * (1 : Fin 2).val + j.val, by omega⟩ :=
      Fin.ext (by simp)
    rw [hj]

/-- The weighted sums over the two heads' key positions. -/
theorem weighted_at (e : FVec Ideal S128x256 .bf16) (vc vp : FVec Ideal S256x256 .bf16) (i : Fin 128) (j : Fin 256) :
    weighted e vc vp (ix2 i j) = ∑ x : Fin 256, (if x.val % 128 ≤ i.val then e (ix2 i x) * vc (ix2 x j) else 0)
      + ∑ x : Fin 256, (if x.val % 128 ≤ i.val then 0 else e (ix2 i x) * vp (ix2 x j)) := by
  pointwise [weighted, k0_pay6, k0_pay7]
  simp only [pay3_at, select_ofBool]

/-- A sum over both heads' key positions of which one head's count. -/
theorem sum_heads (c : Fin 2) (f : Fin 256 → EReal) (g : Fin 128 → EReal)
    (h : ∀ (b : Fin 2) (k : Fin 128), f ⟨128 * b.val + k.val, by omega⟩ = if b = c then g k else 0) : ∑ x, f x = ∑ k, g k := by
  rw [sum_halves]
  have h0 : ∀ k : Fin 128, f ⟨k.val, by omega⟩ = if (0 : Fin 2) = c then g k else 0 := by
    intro k; rw [← h 0 k]; exact congrArg f (Fin.ext (by simp))
  have h1 : ∀ k : Fin 128, f ⟨128 + k.val, by omega⟩ = if (1 : Fin 2) = c then g k else 0 := fun k => h 1 k
  simp only [h0, h1]
  fin_cases c <;> simp

/-- The head of a lane of a pair. -/
def headOf (j : Fin 128) : Fin 2 := ⟨j.val / 64, by omega⟩

/-- A lane is of the first head exactly when it is one of the first 64. -/
theorem headOf_zero (j : Fin 128) : (headOf j = 0) = (j.val < 64) := by
  refine propext ⟨fun h => ?_, fun h => Fin.ext ?_⟩
  · have := congrArg Fin.val h
    change j.val / 64 = 0 at this
    omega
  · show j.val / 64 = 0
    omega

/-- A head is a lane's own exactly when both are the first or both the second. -/
theorem lane_head (b : Fin 2) (j : Fin 128) : ((b = 0) = (j.val < 64)) = (b = headOf j) := by
  rw [← headOf_zero]
  refine propext ⟨fun h => ?_, fun h => by rw [h]⟩
  generalize headOf j = c at h
  revert h
  revert b c
  decide

/-- What a block stores, when its scores are those of a head's own and previous keys. -/
theorem attn_at (s : FVec Ideal S128x256 .f32) (s0 s1 : EReal) (vc vp : Vec Ideal S1x128x128 .bf16) (i j : Fin 128)
    (a b : Fin 128 → EReal) (hp : Prop) [Decidable hp]
    (hs : ∀ k : Fin 128, s (ix2 i (⟨128 * (headOf j).val + k.val, by omega⟩ : Fin 256)) = score a b i hp k) :
    attn s s0 s1 (vBlk vc) (vBlk vp) (ix2 i j)
      = quot a b (fun k => vc (ix3 0 k j)) (fun k => vp (ix3 0 k j)) i hp (sinkOf (headOf j) s0 s1) := by
  have ht : topOf s s0 s1 (headOf j) i = top a b i hp (sinkOf (headOf j) s0 s1) := by
    unfold topOf top
    simp only [hs]
  have he : ∀ k : Fin 128, weights s s0 s1 (ix2 i (⟨128 * (headOf j).val + k.val, by omega⟩ : Fin 256))
      = Ideal.exp (score a b i hp k - top a b i hp (sinkOf (headOf j) s0 s1)) := fun k => by rw [weights_at, hs, ht]
  have hm : ∀ (b : Fin 2) (k : Fin 128), ((128 * b.val + k.val) % 128 ≤ i.val) = (k ≤ i) := fun b k => by
    rw [show (128 * b.val + k.val) % 128 = k.val by omega]; rfl
  pointwise [attn, sinks, expSink]
  rw [max0 s s0 s1, max1 s s0 s1, pay4_at, select_ofBool, weighted_at, weighted_at]
  unfold quot
  congr 1
  · congr 1
    · refine sum_heads (headOf j) _ _ fun b k => ?_
      rw [vBlk_left]
      simp only [lane_head, hm]
      by_cases hb : b = headOf j
      · subst hb
        rw [if_pos rfl, if_pos rfl, he]
        split_ifs <;> simp
      · rw [if_neg hb, if_neg hb]; simp
    · refine sum_heads (headOf j) _ _ fun b k => ?_
      rw [vBlk_left]
      simp only [lane_head, hm]
      by_cases hb : b = headOf j
      · subst hb
        rw [if_pos rfl, if_pos rfl, he]
        split_ifs <;> simp
      · rw [if_neg hb, if_neg hb]; simp
  · congr 1
    · congr 1
      · refine sum_heads (headOf j) _ _ fun b k => ?_
        rw [vBlk_right]
        simp only [lane_head, hm]
        by_cases hb : b = headOf j
        · subst hb
          rw [if_pos rfl, if_pos rfl, he]
          split_ifs <;> simp
        · rw [if_neg hb, if_neg hb]; simp
      · refine sum_heads (headOf j) _ _ fun b k => ?_
        rw [vBlk_right]
        simp only [lane_head, hm]
        by_cases hb : b = headOf j
        · subst hb
          rw [if_pos rfl, if_pos rfl, he]
          split_ifs <;> simp
        · rw [if_neg hb, if_neg hb]; simp
    · rw [← ht]
      simp only [← headOf_zero]
      generalize headOf j = c
      fin_cases c <;> rfl

/-- A later block of a point's tokens: the previous block is always there. -/
theorem attnNext_at (kc kp vc vp q : Vec Ideal S1x128x128 .bf16) (s0 s1 : EReal) (i j : Fin 128) :
    attnNext kc kp vc vp q s0 s1 (ix2 i j)
      = quot (dotHead q kc (headOf j) i) (dotHead q kp (headOf j) i) (fun k => vc (ix3 0 k j)) (fun k => vp (ix3 0 k j)) i True
          (sinkOf (headOf j) s0 s1) :=
  attn_at _ _ _ _ _ _ _ _ _ _ fun k => by
    rw [scores_at]
    unfold score
    rw [if_pos trivial]

/-- Whether a point's tokens are not the first of their sequence. -/
def hasPrev (t : grid0.Coords) : Prop := (t 0).val % 32 ≠ 0

/-- Whether a grid point has a previous block within its sequence is decidable. -/
instance (t : grid0.Coords) : Decidable (hasPrev t) := inferInstanceAs (Decidable ((t 0).val % 32 ≠ 0))

/-- The mask of the first block: an own key, or a previous one that is there. -/
theorem valid_at (t : grid0.Coords) (i : Fin 128) (j : Fin 256) :
    valid t (ix2 i j) = BitVec.ofBool (decide (j.val % 128 ≤ i.val ∨ hasPrev t)) := by
  have hw : ∀ n : Fin 64, (let v42 : BitVec 32 := Scalar.remsi (BitVec.ofNat 32 n.val) (Scalar.select (Scalar.cmpi .eq 32#32 0#32) 1#32 32#32)
      Scalar.select (Scalar.cmpi .ne (Scalar.select (Scalar.andi (Scalar.xori (Scalar.cmpi .slt v42 0#32)
        (Scalar.cmpi .slt (Scalar.select (Scalar.cmpi .eq 32#32 0#32) 1#32 32#32) 0#32)) (Scalar.cmpi .ne v42 0#32))
        (Scalar.addi v42 (Scalar.select (Scalar.cmpi .eq 32#32 0#32) 1#32 32#32)) v42) 0#32) 128#32 0#32 : BitVec 32)
      = BitVec.ofNat 32 (if n.val % 32 ≠ 0 then 128 else 0) := by decide +kernel
  have hv : valid t (ix2 i j) = IntOp.cmpi CmpIPredicate.sle (k0_pay2 (ix2 i j))
      (BitVec.ofNat 32 i.val + BitVec.ofNat 32 (if hasPrev t then 128 else 0)) := by
    have h := hw ⟨(t 0).val, (t 0).isLt⟩
    have h' : BitVec.ofNat 32 (if hasPrev t then 128 else 0) = BitVec.ofNat 32 (if (t 0).val % 32 ≠ 0 then 128 else 0) := rfl
    rw [h']
    pointwise [valid, k0_pay10]
    exact congrArg (fun w => IntOp.cmpi CmpIPredicate.sle (k0_pay2 (ix2 i j)) (BitVec.ofNat 32 i.val + w)) h
  rw [hv, pay2_at, ← BitVec.ofNat_add, sle_ofNat (by omega) (by split_ifs <;> omega)]
  congr 1
  rw [decide_eq_decide]
  split_ifs with h
  · exact ⟨fun _ => .inr h, fun _ => by omega⟩
  · simp [h]

/-- The first block of a point's tokens. -/
theorem attnFirst_at (t : grid0.Coords) (kc kp vc vp q : Vec Ideal S1x128x128 .bf16) (s0 s1 : EReal) (i j : Fin 128) :
    attnFirst t kc kp vc vp q s0 s1 (ix2 i j)
      = quot (dotHead q kc (headOf j) i) (dotHead q kp (headOf j) i) (fun k => vc (ix3 0 k j)) (fun k => vp (ix3 0 k j)) i (hasPrev t)
          (sinkOf (headOf j) s0 s1) :=
  attn_at _ _ _ _ _ _ _ _ _ _ fun k => by
    rw [masked_at, scores_at, valid_at, select_ofBool]
    unfold score
    have hk : ((128 * (headOf j).val + k.val) % 128 ≤ i.val) = (k ≤ i) := by
      rw [show (128 * (headOf j).val + k.val) % 128 = k.val by omega]; rfl
    simp only [hk]
    by_cases h : k ≤ i
    · simp [h]
    · simp [h]

end Cert.KernelIdeal.Parts

end
-- ==== Proof.Tile.lean ====
/- The scratch rows of a point read back, at the ideal numbers: each element is one query's attention for one
   lane of one head. -/
module

public import proofs.«01_k».proof.Proof.Out
public import proofs.«01_k».proof.Proof.Attend
public import Idealize.ShloMosaic.Lib.Pointwise

@[expose] public section

set_option maxRecDepth 16384

noncomputable section

namespace Cert.KernelIdeal.Parts

open Cert.KernelIdeal Cert.KernelIdeal.Gen Idealize.ShloMosaic Idealize.ShloMosaic.Pointwise Cert.Scalars

/-- Four heads' rows of block `b` of a tile, at an index. -/
theorem rows4_at (x : Vec Ideal S4x512x128 .bf16) (kv b : Fin 4) (i j : Fin 128) :
    rows4 x kv b (ix3 0 i j) = x (ix3 kv (⟨128 * b.val + i.val, by omega⟩ : Fin 512) j) := by
  pointwise [rows4]

/-- Eight head pairs' rows of block `b` of a tile, at an index. -/
theorem rows8_at (x : Vec Ideal S8x512x128 .bf16) (kv : Fin 8) (b : Fin 4) (i j : Fin 128) :
    rows8 x kv b (ix3 0 i j) = x (ix3 kv (⟨128 * b.val + i.val, by omega⟩ : Fin 512) j) := by
  pointwise [rows8]

/-- The rows of the previous block, at an index. -/
theorem rows1_at (x : Vec Ideal S4x128x128 .bf16) (kv : Fin 4) (i j : Fin 128) :
    rows1 x kv (ix3 0 i j) = x (ix3 kv i j) := by
  pointwise [rows1]

/-- A sink as the kernel reads it. -/
theorem sink_at (x : Vec Ideal S16 .f32) (j : Fin 16) : sink x j = x (ix1 j) := by
  pointwise [sink]

variable (t : grid0.Coords) (x2 : Vec Ideal S8x512x128 .bf16) (x3 : Vec Ideal S4x512x128 .bf16) (x4 : Vec Ideal S4x128x128 .bf16)
    (x5 : Vec Ideal S4x512x128 .bf16) (x6 : Vec Ideal S4x128x128 .bf16) (x7 : Vec Ideal S16 .f32)

/-- A key's or value's element in the block before block `b`. -/
def before (x : Vec Ideal S4x512x128 .bf16) (xp : Vec Ideal S4x128x128 .bf16) (kv b : Fin 4) (k l : Fin 128) : EReal :=
  if b = 0 then xp (ix3 kv k l) else x (ix3 kv (⟨128 * (b.val - 1) + k.val, by omega⟩ : Fin 512) l)

/-- The attention of query `i` of block `b`, lane `j` of pair `r` of key/value head `kv`. -/
def attnPiece (b kv : Fin 4) (r : Fin 2) (i j : Fin 128) : EReal :=
  quot (fun k => ∑ x : Fin 64, x2 (ix3 (⟨2 * kv.val + r.val, by omega⟩ : Fin 8) (⟨128 * b.val + i.val, by omega⟩ : Fin 512)
          (⟨64 * (headOf j).val + x.val, by omega⟩ : Fin 128))
        * x3 (ix3 kv (⟨128 * b.val + k.val, by omega⟩ : Fin 512) (⟨64 * (headOf j).val + x.val, by omega⟩ : Fin 128)))
    (fun k => ∑ x : Fin 64, x2 (ix3 (⟨2 * kv.val + r.val, by omega⟩ : Fin 8) (⟨128 * b.val + i.val, by omega⟩ : Fin 512)
          (⟨64 * (headOf j).val + x.val, by omega⟩ : Fin 128))
        * before x3 x4 kv b k (⟨64 * (headOf j).val + x.val, by omega⟩ : Fin 128))
    (fun k => x5 (ix3 kv (⟨128 * b.val + k.val, by omega⟩ : Fin 512) j)) (fun k => before x5 x6 kv b k j) i
    (b ≠ 0 ∨ hasPrev t) (x7 (ix1 (⟨4 * kv.val + 2 * r.val + (headOf j).val, by omega⟩ : Fin 16)))

/-- The attention of the point's row `r`, column `c`. -/
def attnOf (r : Fin 512) (c : Fin 1024) : EReal :=
  attnPiece t x2 x3 x4 x5 x6 x7 ⟨r.val / 128, by omega⟩ ⟨c.val / 256, by omega⟩ ⟨c.val / 128 % 2, by omega⟩
    ⟨r.val % 128, by omega⟩ ⟨c.val % 128, by omega⟩

/-- The sink of a head of a pair. -/
theorem sinkOf_at (kv : Fin 4) (r : Fin 2) (h : Fin 2) :
    sinkOf h (sink x7 ⟨4 * kv.val + 2 * r.val, by omega⟩) (sink x7 ⟨4 * kv.val + 2 * r.val + 1, by omega⟩)
      = x7 (ix1 (⟨4 * kv.val + 2 * r.val + h.val, by omega⟩ : Fin 16)) := by
  rw [sink_at, sink_at]
  unfold sinkOf
  match h with
  | 0 => simp
  | 1 => simp

/-- The attention of the first block of a tile, at an index. -/
theorem block0_at (kv : Fin 4) (r : Fin 2) (i j : Fin 128) :
    block0 t x2 x3 x4 x5 x6 x7 kv r (ix2 i j) = attnPiece t x2 x3 x4 x5 x6 x7 0 kv r i j := by
  unfold block0 attnPiece
  rw [attnFirst_at, sinkOf_at]
  have e : ((0 : Fin 4) ≠ 0 ∨ hasPrev t) = hasPrev t := by simp
  unfold dotHead
  simp only [rows4_at, rows8_at, rows1_at, before, if_true, e]

/-- The attention of a later block of a tile, at an index. -/
theorem blockS_at (b : Fin 3) (kv : Fin 4) (r : Fin 2) (i j : Fin 128) :
    blockS x2 x3 x5 x7 b kv r (ix2 i j) = attnPiece t x2 x3 x4 x5 x6 x7 b.succ kv r i j := by
  unfold blockS attnPiece
  rw [attnNext_at, sinkOf_at]
  have e : (b.succ ≠ 0 ∨ hasPrev t) = True := by simp
  unfold dotHead
  simp only [rows4_at, rows8_at, before, if_neg (Fin.succ_ne_zero b), e]
  rfl

/-- What a store of a block's eight stores is. -/
theorem mem_pieces {b : Fin 4} {f : Fin 4 → Fin 2 → FVec Ideal S128x128 .bf16} {p : View.Piece (Elt Ideal) S512x1024 .bf16}
    (h : p ∈ pieces b f) : ∃ kv r, p = place b kv r (f kv r) := by
  simp only [pieces, List.mem_cons, List.not_mem_nil, or_false] at h
  rcases h with h | h | h | h | h | h | h | h <;> exact ⟨_, _, h⟩

/-- Each head pair's store is among its block's. -/
theorem place_mem (b kv : Fin 4) (r : Fin 2) (f : Fin 4 → Fin 2 → FVec Ideal S128x128 .bf16) : place b kv r (f kv r) ∈ pieces b f := by
  match kv, r with
  | 0, 0 => simp [pieces]
  | 0, 1 => simp [pieces]
  | 1, 0 => simp [pieces]
  | 1, 1 => simp [pieces]
  | 2, 0 => simp [pieces]
  | 2, 1 => simp [pieces]
  | 3, 0 => simp [pieces]
  | 3, 1 => simp [pieces]

/-- Where a head pair's store puts an element. -/
theorem place_emb (b kv : Fin 4) (r : Fin 2) (w : FVec Ideal S128x128 .bf16) (i j : Fin 128) :
    (place b kv r w).1.emb (ix2 i j)
      = ix2 (⟨128 * b.val + i.val, by omega⟩ : Fin 512) (⟨256 * kv.val + 128 * r.val + j.val, by omega⟩ : Fin 1024) := by
  funext a
  fin_cases a
  · exact Fin.ext (show 128 * b.val + 1 * i.val = 128 * b.val + i.val by rw [one_mul])
  · exact Fin.ext (show 256 * kv.val + 128 * r.val + 1 * j.val = 256 * kv.val + 128 * r.val + j.val by rw [one_mul])

/-- The attention at the place of a head pair's element. -/
theorem attnOf_place (b kv : Fin 4) (r : Fin 2) (i j : Fin 128) :
    attnOf t x2 x3 x4 x5 x6 x7 (⟨128 * b.val + i.val, by omega⟩ : Fin 512) (⟨256 * kv.val + 128 * r.val + j.val, by omega⟩ : Fin 1024)
      = attnPiece t x2 x3 x4 x5 x6 x7 b kv r i j := by
  unfold attnOf
  congr 1 <;> exact Fin.ext (by dsimp only; omega)

/-- Every store of the second list is a tile of `attnOf`. -/
theorem piece_at (p : View.Piece (Elt Ideal) S512x1024 .bf16) (h : p ∈ pieces2 t x2 x3 x4 x5 x6 x7) (x : p.1.shape.Idx) :
    p.2 x = (fun y => attnOf t x2 x3 x4 x5 x6 x7 (y 0) (y 1)) (p.1.emb x) := by
  have key : ∀ b kv r w, (∀ i j, w (ix2 i j) = attnPiece t x2 x3 x4 x5 x6 x7 b kv r i j) → p = place b kv r w →
      p.2 x = (fun y => attnOf t x2 x3 x4 x5 x6 x7 (y 0) (y 1)) (p.1.emb x) := by
    rintro b kv r w hw rfl
    obtain ⟨i, j, rfl⟩ : ∃ i j : Fin 128, x = ix2 i j := ⟨_, _, eq_ix2 (n0 := 128) (n1 := 128) x⟩
    rw [place_emb]
    exact (hw i j).trans (attnOf_place t x2 x3 x4 x5 x6 x7 b kv r i j).symm
  unfold pieces2 pieces1 at h
  simp only [List.mem_append] at h
  rcases h with h | h | h | h <;> obtain ⟨kv, r, h⟩ := mem_pieces h
  · exact key _ kv r _ (fun i j => blockS_at t x2 x3 x4 x5 x6 x7 2 kv r i j) h
  · exact key _ kv r _ (fun i j => blockS_at t x2 x3 x4 x5 x6 x7 1 kv r i j) h
  · exact key _ kv r _ (fun i j => blockS_at t x2 x3 x4 x5 x6 x7 0 kv r i j) h
  · exact key _ kv r _ (fun i j => block0_at t x2 x3 x4 x5 x6 x7 kv r i j) h

/-- An index of a block lies in the store of its head pair. -/
theorem place_cover (b kv : Fin 4) (r : Fin 2) (w : FVec Ideal S128x128 .bf16) (R : Fin 512) (C : Fin 1024) (hb : b.val = R.val / 128)
    (hk : kv.val = C.val / 256) (hr : r.val = C.val / 128 % 2) : ix2 R C ∈ (place b kv r w).1.set := by
  have e : ix2 R C = (place b kv r w).1.emb (ix2 (⟨R.val % 128, by omega⟩ : Fin 128) (⟨C.val % 128, by omega⟩ : Fin 128)) := by
    rw [place_emb]
    congr 1 <;> exact Fin.ext (by dsimp only; omega)
  rw [e]
  exact LoadRect.idx_mem _ _

/-- An element that lies in the first block's or the second's stores. -/
theorem cover1 (R : Fin 512) (C : Fin 1024) (h : R.val < 256) : ∃ p ∈ pieces1 t x2 x3 x4 x5 x6 x7, ix2 R C ∈ p.1.set := by
  unfold pieces1
  by_cases hb : R.val < 128
  · exact ⟨_, List.mem_append_right _ (place_mem 0 ⟨C.val / 256, by omega⟩ ⟨C.val / 128 % 2, by omega⟩ _),
      place_cover _ _ _ _ R C (by show 0 = _; omega) rfl rfl⟩
  · exact ⟨_, List.mem_append_left _ (place_mem 1 ⟨C.val / 256, by omega⟩ ⟨C.val / 128 % 2, by omega⟩ _),
      place_cover _ _ _ _ R C (by show 1 = _; omega) rfl rfl⟩

/-- Every element lies in one of the stores. -/
theorem cover2 (R : Fin 512) (C : Fin 1024) : ∃ p ∈ pieces2 t x2 x3 x4 x5 x6 x7, ix2 R C ∈ p.1.set := by
  unfold pieces2
  by_cases h : R.val < 256
  · obtain ⟨p, hp, hm⟩ := cover1 t x2 x3 x4 x5 x6 x7 R C h
    exact ⟨p, List.mem_append_right _ (List.mem_append_right _ hp), hm⟩
  · by_cases hb : R.val < 384
    · exact ⟨_, List.mem_append_right _ (List.mem_append_left _ (place_mem 2 ⟨C.val / 256, by omega⟩ ⟨C.val / 128 % 2, by omega⟩ _)),
        place_cover _ _ _ _ R C (by show 2 = _; omega) rfl rfl⟩
    · exact ⟨_, List.mem_append_left _ (place_mem 3 ⟨C.val / 256, by omega⟩ ⟨C.val / 128 % 2, by omega⟩ _),
        place_cover _ _ _ _ R C (by show 3 = _; omega) rfl rfl⟩

/-- A row of a half is a row of the point. -/
theorem half_idx (n : Fin 2) (inb : ∀ a, (![256 * n.val, 0] : Fin 2 → Nat) a + S256x1024.size a ≤ S512x1024.size a) (R : Fin 256) (C : Fin 1024) :
    (Rect.unit (s := S512x1024) ![256 * n.val, 0] S256x1024.size inb).toLoadRect.idx (ix2 R C)
      = ix2 (⟨256 * n.val + R.val, by omega⟩ : Fin 512) C := by
  funext a
  fin_cases a
  · exact Fin.ext (show 256 * n.val + 1 * R.val = 256 * n.val + R.val by rw [one_mul])
  · exact Fin.ext (show 0 + 1 * C.val = C.val by omega)

/-- The first half of the scratch rows, read back. -/
theorem read1_at (R : Fin 256) (C : Fin 1024) :
    scM0_0.view.readCov (pieces1 t x2 x3 x4 x5 x6 x7)
        (Rect.unit (s := S512x1024) ![0, 0] S256x1024.size inb_S512x1024_S256x1024_0_0).toLoadRect (ix2 R C)
      = attnOf t x2 x3 x4 x5 x6 x7 (⟨256 * (0 : Fin 2).val + R.val, by simp; omega⟩ : Fin 512) C := by
  rw [View.readCov_eq_canon']
  have e := half_idx 0 inb_S512x1024_S256x1024_0_0 R C
  refine (congrArg _ e).trans ?_
  exact View.canon_apply_of_pieces (fun y => attnOf t x2 x3 x4 x5 x6 x7 (y 0) (y 1)) _
    (fun p hp => piece_at t x2 x3 x4 x5 x6 x7 p (by unfold pieces2; simp [hp])) _ (cover1 t x2 x3 x4 x5 x6 x7 (⟨256 * (0 : Fin 2).val + R.val, by simp; omega⟩ : Fin 512) C (by show 256 * 0 + R.val < 256; omega))

/-- The second half of the scratch rows, read back. -/
theorem read2_at (R : Fin 256) (C : Fin 1024) :
    scM0_0.view.readCov (pieces2 t x2 x3 x4 x5 x6 x7)
        (Rect.unit (s := S512x1024) ![256, 0] S256x1024.size inb_S512x1024_S256x1024_256_0).toLoadRect (ix2 R C)
      = attnOf t x2 x3 x4 x5 x6 x7 (⟨256 * (1 : Fin 2).val + R.val, by simp; omega⟩ : Fin 512) C := by
  rw [View.readCov_eq_canon']
  have e := half_idx 1 inb_S512x1024_S256x1024_256_0 R C
  refine (congrArg _ e).trans ?_
  exact View.canon_apply_of_pieces (fun y => attnOf t x2 x3 x4 x5 x6 x7 (y 0) (y 1)) _
    (fun p hp => piece_at t x2 x3 x4 x5 x6 x7 p hp) _ (cover2 t x2 x3 x4 x5 x6 x7 _ C)

end Cert.KernelIdeal.Parts
end
-- ==== Proof.Rows.lean ====
/- The rest of the layer on 256 rows, read at an index at the ideal numbers. -/
module

public import proofs.«01_k».proof.Proof.Parts
public import proofs.«01_k».proof.Proof.Scalars
public import Idealize.ShloMosaic.Lib.Pointwise

@[expose] public section

set_option maxRecDepth 16384

noncomputable section

namespace Cert.KernelIdeal.Parts

open Cert.KernelIdeal Cert.KernelIdeal.Gen Idealize.ShloMosaic Idealize.ShloMosaic.Pointwise Cert.Scalars

/-- A product with a 1024-square matrix. -/
theorem mm_at (x : FVec Ideal S256x1024 .bf16) (w : Vec Ideal S1x1024x1024 .bf16) (r : Fin 256) (c : Fin 1024) :
    mm x w (ix2 r c) = ∑ k : Fin 1024, x (ix2 r k) * w (ix3 0 k c) := by
  pointwise [mm]

/-- The reciprocal root mean square of a row. -/
theorem invRms_at (x : FVec Ideal S256x1024 .f32) (r : Fin 256) : invRms x (ix2 r 0) = inv fun k => x (ix2 r k) := by
  pointwise [invRms]
  rfl

/-- The squared positive part. -/
theorem act_at (x : FVec Ideal S256x1024 .bf16) (w : Vec Ideal S1x1024x1024 .bf16) (r : Fin 256) (f : Fin 1024) :
    act x w (ix2 r f) = max (∑ k : Fin 1024, x (ix2 r k) * w (ix3 0 k f)) 0 * max (∑ k : Fin 1024, x (ix2 r k) * w (ix3 0 k f)) 0 := by
  pointwise [act]
  rw [mm_at]

/-- A quarter of the feed-forward block. -/
def quarter (x : Fin 1024 → EReal) (u d : Vec Ideal S1x1024x1024 .bf16) (c : Fin 1024) : EReal :=
  ∑ f : Fin 1024, max (∑ k, x k * u (ix3 0 k f)) 0 * max (∑ k, x k * u (ix3 0 k f)) 0 * d (ix3 0 f c)

/-- The feed-forward block. -/
theorem mlp_at (x : FVec Ideal S256x1024 .f32) (u0 d0 u1 d1 u2 d2 u3 d3 : Vec Ideal S1x1024x1024 .bf16) (r : Fin 256) (c : Fin 1024) :
    mlp x u0 d0 u1 d1 u2 d2 u3 d3 (ix2 r c) = x (ix2 r c) + inv (fun k => x (ix2 r k)) * inv (fun k => x (ix2 r k))
      * (quarter (fun k => x (ix2 r k)) u0 d0 c + quarter (fun k => x (ix2 r k)) u1 d1 c + quarter (fun k => x (ix2 r k)) u2 d2 c
        + quarter (fun k => x (ix2 r k)) u3 d3 c) := by
  pointwise [mlp]
  simp only [invRms_at, mm_at, act_at]
  rfl

/-- The gated embedding. -/
theorem ple_at (x : FVec Ideal S256x1024 .f32) (wg : Vec Ideal S1x1024x1024 .bf16) (p : Vec Ideal S1x256x256 .f32)
    (wp : Vec Ideal S1x256x1024 .bf16) (r : Fin 256) (c : Fin 1024) :
    ple x wg p wp (ix2 r c) = x (ix2 r c) + Ideal.logistic (inv (fun k => x (ix2 r k)) * ∑ k : Fin 1024, x (ix2 r k) * wg (ix3 0 k c))
      * ∑ k : Fin 256, p (ix3 0 r k) * wp (ix3 0 k c) := by
  pointwise [ple]
  simp only [invRms_at, mm_at]
  rfl

/-- The closing norm. -/
theorem norm_at (x : FVec Ideal S256x1024 .f32) (g : Vec Ideal S1x1024 .f32) (r : Fin 256) (c : Fin 1024) :
    norm x g (ix2 r c) = x (ix2 r c) * inv (fun k => x (ix2 r k)) * g (ix2 0 c) := by
  pointwise [norm]
  rw [invRms_at]

end Cert.KernelIdeal.Parts

end
-- ==== Proof.Spec.lean ====
/- One token of the layer, over the extended reals: a row of 1024 values from the residual stream and the
   attention to the result. -/
module

public import proofs.«01_k».proof.Proof.Scalars

@[expose] public section

noncomputable section

namespace Cert.Spec

open Idealize.ShloMosaic Cert.Scalars

/-- The residual stream with the attention's output product added. -/
def rowX (h a : Fin 1024 → EReal) (wo : Fin 1024 → Fin 1024 → EReal) (c : Fin 1024) : EReal := h c + ∑ k, a k * wo k c

/-- The squared-ReLU feed-forward block of the normalised row added. -/
def rowY (x g : Fin 1024 → EReal) (up : Fin 1024 → Fin 4096 → EReal) (down : Fin 4096 → Fin 1024 → EReal) (c : Fin 1024) : EReal :=
  x c + ∑ f, max (∑ k, x k * inv x * g k * up k f) 0 * max (∑ k, x k * inv x * g k * up k f) 0 * down f c

/-- The gated per-layer embedding added. -/
def rowZ (y g : Fin 1024 → EReal) (wg : Fin 1024 → Fin 1024 → EReal) (p : Fin 256 → EReal) (wp : Fin 256 → Fin 1024 → EReal)
    (c : Fin 1024) : EReal :=
  y c + Ideal.logistic (∑ k, y k * inv y * g k * wg k c) * ∑ k, p k * wp k c

/-- The closing norm. -/
def rowOut (z g : Fin 1024 → EReal) (c : Fin 1024) : EReal := z c * inv z * g c

/-- Equal quotients of equal parts. -/
theorem quot_congr {a a' b b' vc vc' vp vp' : Fin 128 → EReal} {i i' : Fin 128} {hp hp' : Prop} [Decidable hp] [Decidable hp'] {s s' : EReal}
    (ha : ∀ k, a k = a' k) (hb : ∀ k, b k = b' k) (hc : ∀ k, vc k = vc' k) (hv : ∀ k, vp k = vp' k) (hi : i = i') (hh : hp ↔ hp') (hs : s = s') :
    quot a b vc vp i hp s = quot a' b' vc' vp' i' hp' s' := by
  obtain rfl : a = a' := funext ha
  obtain rfl : b = b' := funext hb
  obtain rfl : vc = vc' := funext hc
  obtain rfl : vp = vp' := funext hv
  obtain rfl : hp = hp' := propext hh
  subst hi hs
  congr

/-- The attention of token `T`, column `C`: 64 columns per head, four heads per key/value head, of which two copies
    lie side by side; the window is the token's own block of 128 and the one before it, if that is of the same
    sequence. -/
def attention (q : Fin 8 → Fin 32768 → Fin 128 → EReal) (kd vd : Fin 4 → Fin 32768 → Fin 128 → EReal) (sink : Fin 16 → EReal)
    (T : Fin 32768) (C : Fin 1024) : EReal :=
  quot
    (fun k => ∑ x : Fin 64, q ⟨C.val / 128, by omega⟩ T ⟨64 * (C.val % 128 / 64) + x.val, by omega⟩
      * kd ⟨C.val / 256, by omega⟩ ⟨128 * (T.val / 128) + k.val, by omega⟩ ⟨64 * (C.val % 128 / 64) + x.val, by omega⟩)
    (fun k => ∑ x : Fin 64, q ⟨C.val / 128, by omega⟩ T ⟨64 * (C.val % 128 / 64) + x.val, by omega⟩
      * kd ⟨C.val / 256, by omega⟩ ⟨128 * (T.val / 128 - 1) + k.val, by omega⟩ ⟨64 * (C.val % 128 / 64) + x.val, by omega⟩)
    (fun k => vd ⟨C.val / 256, by omega⟩ ⟨128 * (T.val / 128) + k.val, by omega⟩ ⟨C.val % 128, by omega⟩)
    (fun k => vd ⟨C.val / 256, by omega⟩ ⟨128 * (T.val / 128 - 1) + k.val, by omega⟩ ⟨C.val % 128, by omega⟩)
    ⟨T.val % 128, by omega⟩ (T.val / 128 % 128 ≠ 0) (sink ⟨C.val / 64, by omega⟩)

/-- The layer's result for token `T`, column `C`. -/
def result (h : Fin 32768 → Fin 1024 → EReal) (p : Fin 32768 → Fin 256 → EReal) (q : Fin 8 → Fin 32768 → Fin 128 → EReal)
    (kd vd : Fin 4 → Fin 32768 → Fin 128 → EReal) (sink : Fin 16 → EReal) (wo : Fin 1024 → Fin 1024 → EReal)
    (gm : Fin 1024 → EReal) (up : Fin 1024 → Fin 4096 → EReal) (down : Fin 4096 → Fin 1024 → EReal)
    (gp : Fin 1024 → EReal) (wg : Fin 1024 → Fin 1024 → EReal) (wp : Fin 256 → Fin 1024 → EReal) (gf : Fin 1024 → EReal)
    (T : Fin 32768) (C : Fin 1024) : EReal :=
  rowOut (rowZ (rowY (rowX (h T) (attention q kd vd sink T) wo) gm up down) gp wg (p T) wp) gf C

end Cert.Spec

end
-- ==== Proof.Half.lean ====
/- Half of a point's rows, read at an index at the ideal numbers: the row of the specification. -/
module

public import proofs.«01_k».proof.Proof.Out
public import proofs.«01_k».proof.Proof.Rows
public import proofs.«01_k».proof.Proof.Spec

@[expose] public section

set_option maxRecDepth 16384

noncomputable section

namespace Cert.KernelIdeal.Parts

open Cert.KernelIdeal Cert.KernelIdeal.Gen Idealize.ShloMosaic Idealize.ShloMosaic.Pointwise Cert.Scalars Cert.Spec

/-- The four quarters of the feed-forward block are the block, the squared norm factor taken out of the sums. -/
theorem quarters (x g : Fin 1024 → EReal) (up : Fin 1024 → Fin 4096 → EReal) (down : Fin 4096 → Fin 1024 → EReal)
    (u0 d0 u1 d1 u2 d2 u3 d3 : Vec Ideal S1x1024x1024 .bf16)
    (hu0 : ∀ k f, u0 (ix3 0 k f) = g k * up k ⟨f.val, by omega⟩) (hd0 : ∀ f c, d0 (ix3 0 f c) = down ⟨f.val, by omega⟩ c)
    (hu1 : ∀ k f, u1 (ix3 0 k f) = g k * up k ⟨1024 + f.val, by omega⟩) (hd1 : ∀ f c, d1 (ix3 0 f c) = down ⟨1024 + f.val, by omega⟩ c)
    (hu2 : ∀ k f, u2 (ix3 0 k f) = g k * up k ⟨2048 + f.val, by omega⟩) (hd2 : ∀ f c, d2 (ix3 0 f c) = down ⟨2048 + f.val, by omega⟩ c)
    (hu3 : ∀ k f, u3 (ix3 0 k f) = g k * up k ⟨3072 + f.val, by omega⟩) (hd3 : ∀ f c, d3 (ix3 0 f c) = down ⟨3072 + f.val, by omega⟩ c)
    (c : Fin 1024) :
    x c + inv x * inv x * (quarter x u0 d0 c + quarter x u1 d1 c + quarter x u2 d2 c + quarter x u3 d3 c) = rowY x g up down c := by
  unfold rowY
  rw [ffn x g up (fun f => down f c), sum_quarters]
  unfold quarter
  simp only [hu0, hd0, hu1, hd1, hu2, hd2, hu3, hd3]

/-- A row of `tail` is the specification's row of what its blocks hold. -/
theorem tail_at (H : Vec Ideal S256x1024 .f32) (O : Vec Ideal S256x1024 .bf16) (WO u0 d0 u1 d1 u2 d2 u3 d3 WG : Vec Ideal S1x1024x1024 .bf16)
    (P : Vec Ideal S1x256x256 .f32) (WP : Vec Ideal S1x256x1024 .bf16) (G : Vec Ideal S1x1024 .f32) (R : Fin 256)
    {h a gm gp gf : Fin 1024 → EReal} {wo wg : Fin 1024 → Fin 1024 → EReal} {up : Fin 1024 → Fin 4096 → EReal}
    {down : Fin 4096 → Fin 1024 → EReal} {p : Fin 256 → EReal} {wp : Fin 256 → Fin 1024 → EReal}
    (h0 : ∀ c, H (ix2 R c) = h c) (ho : ∀ c, O (ix2 R c) = a c) (h8 : ∀ k c, WO (ix3 0 k c) = wo k c)
    (hu0 : ∀ k f, u0 (ix3 0 k f) = gm k * up k ⟨f.val, by omega⟩) (hd0 : ∀ f c, d0 (ix3 0 f c) = down ⟨f.val, by omega⟩ c)
    (hu1 : ∀ k f, u1 (ix3 0 k f) = gm k * up k ⟨1024 + f.val, by omega⟩) (hd1 : ∀ f c, d1 (ix3 0 f c) = down ⟨1024 + f.val, by omega⟩ c)
    (hu2 : ∀ k f, u2 (ix3 0 k f) = gm k * up k ⟨2048 + f.val, by omega⟩) (hd2 : ∀ f c, d2 (ix3 0 f c) = down ⟨2048 + f.val, by omega⟩ c)
    (hu3 : ∀ k f, u3 (ix3 0 k f) = gm k * up k ⟨3072 + f.val, by omega⟩) (hd3 : ∀ f c, d3 (ix3 0 f c) = down ⟨3072 + f.val, by omega⟩ c)
    (h11 : ∀ k c, WG (ix3 0 k c) = gp k * wg k c) (h1 : ∀ k, P (ix3 0 R k) = p k) (h12 : ∀ k c, WP (ix3 0 k c) = wp k c)
    (h13 : ∀ c, G (ix2 0 c) = gf c) (C : Fin 1024) :
    tail H O WO u0 d0 u1 d1 u2 d2 u3 d3 WG P WP G (ix2 R C) = rowOut (rowZ (rowY (rowX h a wo) gm up down) gp wg p wp) gf C := by
  unfold tail
  have hx : ∀ c, addf H (mm O WO) (ix2 R c) = rowX h a wo c := by
    intro c
    pointwise
    rw [mm_at, h0]
    simp only [ho, h8]
    rfl
  have hy : ∀ c, mlp (addf H (mm O WO)) u0 d0 u1 d1 u2 d2 u3 d3 (ix2 R c) = rowY (rowX h a wo) gm up down c := by
    intro c
    rw [mlp_at]
    simp only [hx]
    exact quarters _ gm up down u0 d0 u1 d1 u2 d2 u3 d3 hu0 hd0 hu1 hd1 hu2 hd2 hu3 hd3 c
  have hz : ∀ c, ple (mlp (addf H (mm O WO)) u0 d0 u1 d1 u2 d2 u3 d3) WG P WP (ix2 R c)
      = rowZ (rowY (rowX h a wo) gm up down) gp wg p wp c := by
    intro c
    rw [ple_at]
    simp only [hy, h11, h1, h12]
    unfold rowZ
    rw [norm_dot]
  rw [norm_at]
  simp only [hz, h13]
  rfl

variable (x0 : Vec Ideal S512x1024 .f32) (x1 : Vec Ideal S1x512x256 .f32) (x8 : Vec Ideal S1x1024x1024 .bf16) (x9 : Vec Ideal S1x1024x4096 .bf16)
    (x10 : Vec Ideal S1x4096x1024 .bf16) (x11 : Vec Ideal S1x1024x1024 .bf16) (x12 : Vec Ideal S1x256x1024 .bf16) (x13 : Vec Ideal S1x1024 .f32)
    (o : Vec Ideal S256x1024 .bf16) (n : Fin 2) (R : Fin 256)

/-- A row of a half is the specification's row of what the blocks hold. -/
theorem half_at {h a gm gp gf : Fin 1024 → EReal} {wo wg : Fin 1024 → Fin 1024 → EReal} {up : Fin 1024 → Fin 4096 → EReal}
    {down : Fin 4096 → Fin 1024 → EReal} {p : Fin 256 → EReal} {wp : Fin 256 → Fin 1024 → EReal}
    (h0 : ∀ c, x0 (ix2 (⟨256 * n.val + R.val, by omega⟩ : Fin 512) c) = h c) (ho : ∀ c, o (ix2 R c) = a c)
    (h8 : ∀ k c, x8 (ix3 0 k c) = wo k c) (h9 : ∀ k f, x9 (ix3 0 k f) = gm k * up k f) (h10 : ∀ f c, x10 (ix3 0 f c) = down f c)
    (h11 : ∀ k c, x11 (ix3 0 k c) = gp k * wg k c)
    (h1 : ∀ k, x1 (ix3 0 (⟨256 * n.val + R.val, by omega⟩ : Fin 512) k) = p k) (h12 : ∀ k c, x12 (ix3 0 k c) = wp k c)
    (h13 : ∀ c, x13 (ix2 0 c) = gf c) (C : Fin 1024) :
    half x0 x1 x8 x9 x10 x11 x12 x13 o n (ix2 R C) = rowOut (rowZ (rowY (rowX h a wo) gm up down) gp wg p wp) gf C := by
  unfold half
  refine tail_at _ _ _ _ _ _ _ _ _ _ _ _ _ _ _ R ?_ ho ?_ ?_ ?_ ?_ ?_ ?_ ?_ ?_ ?_ ?_ ?_ ?_ ?_ C
  · intro c; pointwise; exact h0 c
  · intro k c; pointwise; exact h8 k c
  · intro k f; pointwise; exact h9 k _
  · intro f c; pointwise; exact h10 _ c
  · intro k f; pointwise; exact h9 k _
  · intro f c; pointwise; exact h10 _ c
  · intro k f; pointwise; exact h9 k _
  · intro f c; pointwise; exact h10 _ c
  · intro k f; pointwise; exact h9 k _
  · intro f c; pointwise; exact h10 _ c
  · intro k c; pointwise; exact h11 k c
  · intro k; pointwise; exact h1 k
  · intro k c; pointwise; exact h12 k c
  · intro c; pointwise; exact h13 c

end Cert.KernelIdeal.Parts

end
-- ==== Proof.Reads.lean ====
/- What the blocks of a point hold, in terms of the kernel's arguments, at the ideal numbers. -/
module

public import proofs.«01_k».proof.Proof.Gen.KernelIdeal.Value
public import Idealize.ShloMosaic.Lib.Pipeline.ValueKit.Point
public import Idealize.ShloMosaic.Lib.StableHlo.ReadAt
public import Idealize.ShloMosaic.Lib.Pointwise

@[expose] public section

set_option maxRecDepth 16384

noncomputable section

namespace Cert.KernelIdeal.Parts

open Cert.KernelIdeal Cert.KernelIdeal.Gen Idealize.ShloMosaic Idealize.ShloMosaic.TcCoe Idealize.ShloMosaic.Pointwise Idealize.SL.Sem

variable (m : (ℓ : Loc nD τ sig) → Buf (Elt Ideal) ℓ) (c : Dev nD) (t : Fin cfg0.N)

/-- A product, its factors' type given. -/
abbrev times (a b : EReal) : EReal := a * b

/-- The windows' block indices at a point. -/
theorem index_at : ∀ t : Fin grid0.N, (win0_0.index t = ![t.val, 0] ∧ win0_1.index t = ![3, t.val, 0] ∧ win0_2.index t = ![0, t.val, 0]
    ∧ win0_3.index t = ![0, t.val, 0] ∧ win0_4.index t = ![0, 4 * t.val - 1, 0] ∧ win0_5.index t = ![0, t.val, 0]
    ∧ win0_6.index t = ![0, 4 * t.val - 1, 0] ∧ win0_7.index t = ![0]) ∧ (win0_8.index t = ![1, 0, 0] ∧ win0_9.index t = ![3, 0, 0]
    ∧ win0_10.index t = ![3, 0, 0] ∧ win0_11.index t = ![3, 0, 0] ∧ win0_12.index t = ![3, 0, 0] ∧ win0_13.index t = ![0, 0]
    ∧ win0_14.index t = ![t.val, 0]) := by
  decide +kernel

/-- The residual stream's block. -/
theorem read0 (r : Fin 512) (k : Fin 1024) :
    iblk m c 0 t (ix2 r k) = m ((c : Thread nD τ).loc main_arg0) (ix2 (⟨512 * t.val + r.val, by have := t.isLt; change t.val < 64 at this; omega⟩ : Fin 32768) k) := by
  blk_ext [iblk, V, index_at t]

/-- The per-layer embeddings, both sequences one after the other. -/
theorem v0_at (T : Fin 32768) (k : Fin 256) : V m c main_v0 (ix3 3 T k)
    = m ((c : Thread nD τ).loc main_arg1) (ix4 3 (⟨T.val / 16384, by omega⟩ : Fin 2) (⟨T.val % 16384, by omega⟩ : Fin 16384) k) := by
  unfold V
  after_reads_at

/-- The per-layer embedding's block. -/
theorem read1 (r : Fin 512) (k : Fin 256) :
    iblk m c 1 t (ix3 0 r k) = V m c main_v0 (ix3 3 (⟨512 * t.val + r.val, by have := t.isLt; change t.val < 64 at this; omega⟩ : Fin 32768) k) := by
  blk_ext [iblk, index_at t]

/-- The queries' block. -/
theorem read2 (p : Fin 8) (r : Fin 512) (l : Fin 128) :
    iblk m c 2 t (ix3 p r l) = m ((c : Thread nD τ).loc main_arg2) (ix3 p (⟨512 * t.val + r.val, by have := t.isLt; change t.val < 64 at this; omega⟩ : Fin 32768) l) := by
  blk_ext [iblk, V, index_at t]

/-- The keys' block. -/
theorem read3 (p : Fin 4) (r : Fin 512) (l : Fin 128) :
    iblk m c 3 t (ix3 p r l) = m ((c : Thread nD τ).loc main_arg3) (ix3 p (⟨512 * t.val + r.val, by have := t.isLt; change t.val < 64 at this; omega⟩ : Fin 32768) l) := by
  blk_ext [iblk, V, index_at t]

/-- The keys before the block. -/
theorem read4 (p : Fin 4) (r : Fin 128) (l : Fin 128) :
    iblk m c 4 t (ix3 p r l) = m ((c : Thread nD τ).loc main_arg3) (ix3 p (⟨128 * (4 * t.val - 1) + r.val, by have := t.isLt; change t.val < 64 at this; omega⟩ : Fin 32768) l) := by
  blk_ext [iblk, V, index_at t]

/-- The values' block. -/
theorem read5 (p : Fin 4) (r : Fin 512) (l : Fin 128) :
    iblk m c 5 t (ix3 p r l) = m ((c : Thread nD τ).loc main_arg4) (ix3 p (⟨512 * t.val + r.val, by have := t.isLt; change t.val < 64 at this; omega⟩ : Fin 32768) l) := by
  blk_ext [iblk, V, index_at t]

/-- The values before the block. -/
theorem read6 (p : Fin 4) (r : Fin 128) (l : Fin 128) :
    iblk m c 6 t (ix3 p r l) = m ((c : Thread nD τ).loc main_arg4) (ix3 p (⟨128 * (4 * t.val - 1) + r.val, by have := t.isLt; change t.val < 64 at this; omega⟩ : Fin 32768) l) := by
  blk_ext [iblk, V, index_at t]

/-- The sinks. -/
theorem read7 (j : Fin 16) : iblk m c 7 t (ix1 j) = m ((c : Thread nD τ).loc main_arg5) (ix2 1 j) := by
  have e : V m c main_v13 (ix1 j) = m ((c : Thread nD τ).loc main_arg5) (ix2 1 j) := by
    unfold V
    after_reads_at
  rw [← e]
  blk_ext [iblk, index_at t]

/-- The attention's output matrix. -/
theorem read8 (k f : Fin 1024) : iblk m c 8 t (ix3 0 k f) = m ((c : Thread nD τ).loc main_arg6) (ix3 1 k f) := by
  have e : V m c main_v11 (ix3 1 k f) = m ((c : Thread nD τ).loc main_arg6) (ix3 1 k f) := by
    unfold V
    after_reads_at
  rw [← e]
  blk_ext [iblk, index_at t]

/-- The feed-forward block's first matrix, scaled by its norm. -/
theorem read9 (k : Fin 1024) (f : Fin 4096) : iblk m c 9 t (ix3 0 k f) = times (m ((c : Thread nD τ).loc main_arg7) (ix2 3 k)) (m ((c : Thread nD τ).loc main_arg8) (ix3 3 k f)) := by
  have e : V m c main_v4 (ix3 3 k f) = times (m ((c : Thread nD τ).loc main_arg7) (ix2 3 k)) (m ((c : Thread nD τ).loc main_arg8) (ix3 3 k f)) := by
    unfold V
    after_reads_at
  rw [← e]
  blk_ext [iblk, index_at t]

/-- The feed-forward block's second matrix. -/
theorem read10 (f : Fin 4096) (k : Fin 1024) : iblk m c 10 t (ix3 0 f k) = m ((c : Thread nD τ).loc main_arg9) (ix3 3 f k) := by
  have e : V m c main_v5 (ix3 3 f k) = m ((c : Thread nD τ).loc main_arg9) (ix3 3 f k) := by
    unfold V
    after_reads_at
  rw [← e]
  blk_ext [iblk, index_at t]

/-- The gate's matrix, scaled by its norm. -/
theorem read11 (k f : Fin 1024) : iblk m c 11 t (ix3 0 k f) = times (m ((c : Thread nD τ).loc main_arg10) (ix2 3 k)) (m ((c : Thread nD τ).loc main_arg11) (ix3 3 k f)) := by
  have e : V m c main_v9 (ix3 3 k f) = times (m ((c : Thread nD τ).loc main_arg10) (ix2 3 k)) (m ((c : Thread nD τ).loc main_arg11) (ix3 3 k f)) := by
    unfold V
    after_reads_at
  rw [← e]
  blk_ext [iblk, index_at t]

/-- The embedding's matrix. -/
theorem read12 (k : Fin 256) (f : Fin 1024) : iblk m c 12 t (ix3 0 k f) = m ((c : Thread nD τ).loc main_arg12) (ix3 3 k f) := by
  have e : V m c main_v10 (ix3 3 k f) = m ((c : Thread nD τ).loc main_arg12) (ix3 3 k f) := by
    unfold V
    after_reads_at
  rw [← e]
  blk_ext [iblk, index_at t]

/-- The closing norm's factors. -/
theorem read13 (k : Fin 1024) : iblk m c 13 t (ix2 0 k) = m ((c : Thread nD τ).loc main_arg13) (ix1 k) := by
  have e : V m c main_v14 (ix2 0 k) = m ((c : Thread nD τ).loc main_arg13) (ix1 k) := by
    unfold V
    after_reads_at
  rw [← e]
  blk_ext [iblk, index_at t]

end Cert.KernelIdeal.Parts

end
-- ==== Proof.Final.lean ====
/- The kernel's result array, at the ideal numbers: the specification's result of its arguments. -/
module

public import proofs.«01_k».proof.Proof.Tile
public import proofs.«01_k».proof.Proof.Half
public import proofs.«01_k».proof.Proof.Reads

@[expose] public section

set_option maxRecDepth 16384

noncomputable section

namespace Cert.KernelIdeal.Parts

open Cert.KernelIdeal Cert.KernelIdeal.Gen Idealize.ShloMosaic Idealize.ShloMosaic.TcCoe Idealize.ShloMosaic.Pointwise Idealize.SL.Sem Cert.Spec

variable (m : (ℓ : Loc nD τ sig) → Buf (Elt Ideal) ℓ) (c : Dev nD)

/-- The result that the specification gives for the kernel's arguments. -/
def want (T : Fin 32768) (C : Fin 1024) : EReal :=
  result (fun T k => m ((c : Thread nD τ).loc main_arg0) (ix2 T k))
    (fun T k => m ((c : Thread nD τ).loc main_arg1) (ix4 3 (⟨T.val / 16384, by omega⟩ : Fin 2) (⟨T.val % 16384, by omega⟩ : Fin 16384) k))
    (fun p T l => m ((c : Thread nD τ).loc main_arg2) (ix3 p T l)) (fun p T l => m ((c : Thread nD τ).loc main_arg3) (ix3 p T l)) (fun p T l => m ((c : Thread nD τ).loc main_arg4) (ix3 p T l))
    (fun j => m ((c : Thread nD τ).loc main_arg5) (ix2 1 j)) (fun k f => m ((c : Thread nD τ).loc main_arg6) (ix3 1 k f)) (fun k => m ((c : Thread nD τ).loc main_arg7) (ix2 3 k)) (fun k f => m ((c : Thread nD τ).loc main_arg8) (ix3 3 k f))
    (fun f k => m ((c : Thread nD τ).loc main_arg9) (ix3 3 f k)) (fun k => m ((c : Thread nD τ).loc main_arg10) (ix2 3 k)) (fun k f => m ((c : Thread nD τ).loc main_arg11) (ix3 3 k f)) (fun k f => m ((c : Thread nD τ).loc main_arg12) (ix3 3 k f))
    (fun k => m ((c : Thread nD τ).loc main_arg13) (ix1 k)) T C

variable (t : Fin cfg0.N)

/-- The grid has one coordinate, the point's number. -/
theorem coord_at : ∀ t : Fin grid0.N, (grid0.coords t 0).val = t.val := by decide +kernel

/-- The number of a point. -/
theorem point_lt : t.val < 64 := t.isLt

/-- A key of the block before block `b` of a point. -/
theorem before_keys (kv b : Fin 4) (k l : Fin 128) : before (iblk m c 3 t) (iblk m c 4 t) kv b k l
    = m ((c : Thread nD τ).loc main_arg3) (ix3 kv (⟨128 * (4 * t.val + b.val - 1) + k.val, by have := point_lt t; omega⟩ : Fin 32768) l) := by
  unfold before
  split_ifs with h
  · subst h
    rw [read4]
    blk_ext
  · have hb : b.val ≠ 0 := fun e => h (Fin.ext e)
    rw [read3]
    blk_ext

/-- A value of the block before block `b` of a point. -/
theorem before_values (kv b : Fin 4) (k l : Fin 128) : before (iblk m c 5 t) (iblk m c 6 t) kv b k l
    = m ((c : Thread nD τ).loc main_arg4) (ix3 kv (⟨128 * (4 * t.val + b.val - 1) + k.val, by have := point_lt t; omega⟩ : Fin 32768) l) := by
  unfold before
  split_ifs with h
  · subst h
    rw [read6]
    blk_ext
  · have hb : b.val ≠ 0 := fun e => h (Fin.ext e)
    rw [read5]
    blk_ext

/-- The attention of a point's row is the specification's. -/
theorem attnOf_eq (r : Fin 512) (C : Fin 1024) :
    attnOf (grid0.coords t) (iblk m c 2 t) (iblk m c 3 t) (iblk m c 4 t) (iblk m c 5 t) (iblk m c 6 t) (iblk m c 7 t) r C
      = attention (fun p T l => m ((c : Thread nD τ).loc main_arg2) (ix3 p T l)) (fun p T l => m ((c : Thread nD τ).loc main_arg3) (ix3 p T l)) (fun p T l => m ((c : Thread nD τ).loc main_arg4) (ix3 p T l))
          (fun j => m ((c : Thread nD τ).loc main_arg5) (ix2 1 j)) (⟨512 * t.val + r.val, by have := point_lt t; omega⟩ : Fin 32768) C := by
  have ht := point_lt t
  have hc := coord_at t
  unfold attnOf attnPiece attention
  refine quot_congr (fun k => Finset.sum_congr rfl fun x _ => ?_) (fun k => Finset.sum_congr rfl fun x _ => ?_) (fun k => ?_) (fun k => ?_) ?_ ?_ ?_
  · rw [read2, read3]
    refine congrArg₂ (fun a b : EReal => a * b) ?_ ?_ <;> blk_ext [headOf]
  · rw [read2, before_keys]
    refine congrArg₂ (fun a b : EReal => a * b) ?_ ?_ <;> blk_ext [headOf]
  · rw [read5]
    blk_ext
  · rw [before_values]
    blk_ext
  · exact Fin.ext (by dsimp only; omega)
  · unfold hasPrev
    rw [hc]
    simp only [ne_eq, Fin.ext_iff, Fin.val_zero]
    omega
  · rw [read7]
    blk_ext [headOf]

/-- The output block of a point, element by element. -/
theorem out_at (r : Fin 512) (C : Fin 1024) : outsAt0 m c t (ix2 r C)
    = want m c (⟨512 * t.val + r.val, by have := point_lt t; omega⟩ : Fin 32768) C := by
  have ht := point_lt t
  rw [out_eq]
  have key : ∀ (n : Fin 2) (R : Fin 256) (o : Vec Ideal S256x1024 .bf16),
      (∀ k, o (ix2 R k) = attnOf (grid0.coords t) (iblk m c 2 t) (iblk m c 3 t) (iblk m c 4 t) (iblk m c 5 t) (iblk m c 6 t) (iblk m c 7 t)
        (⟨256 * n.val + R.val, by omega⟩ : Fin 512) k) →
      half (iblk m c 0 t) (iblk m c 1 t) (iblk m c 8 t) (iblk m c 9 t) (iblk m c 10 t) (iblk m c 11 t) (iblk m c 12 t) (iblk m c 13 t) o n (ix2 R C)
        = want m c (⟨512 * t.val + (256 * n.val + R.val), by omega⟩ : Fin 32768) C := by
    intro n R o ho
    exact half_at _ _ _ _ _ _ _ _ o n R (fun k => read0 m c t _ k) (fun k => (ho k).trans (attnOf_eq m c t _ k))
      (fun k f => read8 m c t k f) (fun k f => read9 m c t k f) (fun f k => read10 m c t f k) (fun k f => read11 m c t k f)
      (fun k => (read1 m c t _ k).trans (v0_at m c _ k)) (fun k f => read12 m c t k f) (fun k => read13 m c t k) C
  by_cases h : r.val < 256
  · have e : ix2 r C = (Rect.unit (s := S512x1024) ![0, 0] S256x1024.size inb_S512x1024_S256x1024_0_0).emb (ix2 (⟨r.val, h⟩ : Fin 256) C) := by
      refine Eq.trans ?_ (half_idx 0 inb_S512x1024_S256x1024_0_0 ⟨r.val, h⟩ C).symm
      congr 1
      exact Fin.ext (show r.val = 256 * 0 + r.val by omega)
    rw [View.canon_cons_of_not_mem _ _ (by
      rw [Rect.mem_set_unit]
      intro hm
      have h0 : 256 ≤ r.val := (hm 0).1
      omega), e, View.canon_cons_emb]
    refine (key 0 ⟨r.val, h⟩ _ fun k => read1_at _ _ _ _ _ _ _ _ k).trans (congrArg (want m c · C) (Fin.ext ?_))
    show 512 * t.val + (256 * 0 + r.val) = 512 * t.val + r.val
    omega
  · have e : ix2 r C = (Rect.unit (s := S512x1024) ![256, 0] S256x1024.size inb_S512x1024_S256x1024_256_0).emb
        (ix2 (⟨r.val - 256, by omega⟩ : Fin 256) C) := by
      refine Eq.trans ?_ (half_idx 1 inb_S512x1024_S256x1024_256_0 ⟨r.val - 256, by omega⟩ C).symm
      congr 1
      exact Fin.ext (show r.val = 256 * 1 + (r.val - 256) by omega)
    rw [e, View.canon_cons_emb]
    refine (key 1 ⟨r.val - 256, by omega⟩ _ fun k => read2_at _ _ _ _ _ _ _ _ k).trans (congrArg (want m c · C) (Fin.ext ?_))
    show 512 * t.val + (256 * 1 + (r.val - 256)) = 512 * t.val + r.val
    omega

/-- The result array after the run is the specification's. -/
theorem final_eq : (dats m 0 c).arrAt 14 cfg0.N = fun y => want m c (y 0) (y 1) := by
  refine (dats m 0 c).arrAt_eq_of_covers 14 _ (by decide +kernel) fun t hf y => ?_
  blk_simp
  rw [after0_14]
  obtain ⟨r, C, rfl⟩ : ∃ (r : Fin 512) (C : Fin 1024), y = ix2 r C := ⟨_, _, eq_ix2 (n0 := 512) (n1 := 1024) y⟩
  refine (out_at m c t r C).trans ?_
  refine congrArg₂ (want m c) (Fin.ext ?_) (Fin.ext ?_)
  · blk_simp [index_at t]
    exact congrArg (· + r.val) (mul_comm 512 t.val)
  · blk_simp [index_at t]

end Cert.KernelIdeal.Parts

end
-- ==== Proof.RefTail.lean ====
/- The reference after its attention, read at an index at the ideal numbers: each token's row is the
   specification's. -/
module

public import proofs.«01_k».proof.Proof.Gen.ReferenceIdeal.Read
public import proofs.«01_k».proof.Proof.Spec
public import Idealize.ShloMosaic.Lib.Pointwise
public import Idealize.ShloMosaic.Lib.Tactic.CleanTypes

@[expose] public section

set_option maxRecDepth 16384

noncomputable section

namespace Cert.RefRead

open Cert.ReferenceIdeal Cert.ReferenceIdeal.Read Idealize.ShloMosaic Idealize.ShloMosaic.Pointwise Cert.Scalars Cert.Spec

variable (x0 : Vec Ideal S32768x1024 .f32) (x1 : Vec Ideal S4x2x16384x256 .f32) (x2 : Vec Ideal S8x32768x128 .bf16)
  (x3 x4 : Vec Ideal S4x32768x128 .bf16) (x5 : Vec Ideal S2x16 .f32) (x6 : Vec Ideal S2x1024x1024 .f32) (x7 : Vec Ideal S4x1024 .f32)
  (x8 : Vec Ideal S4x1024x4096 .f32) (x9 : Vec Ideal S4x4096x1024 .f32) (x10 : Vec Ideal S4x1024 .f32) (x11 : Vec Ideal S4x1024x1024 .f32)
  (x12 : Vec Ideal S4x256x1024 .f32) (x13 : Vec Ideal S1024 .f32) (t : Fin 32768)

/-- The stream with the attention's product. -/
theorem x_at (c : Fin 1024) : val_main_v84 (F := Ideal) x0 x2 x3 x4 x5 x6 (ix2 t c)
    = rowX (fun k => x0 (ix2 t k)) (fun k => val_main_v80 (F := Ideal) x2 x3 x4 x5 (ix2 t k)) (fun k f => x6 (ix3 1 k f)) c := by
  unfold val_main_v84 val_main_v83 val_main_v82 val_main_v81
  clean_types
  pointwise
  rfl

/-- A row times its reciprocal root mean square. -/
theorem xn_at (c : Fin 1024) : val_main_v96 (F := Ideal) x0 x2 x3 x4 x5 x6 (ix2 t c)
    = val_main_v84 (F := Ideal) x0 x2 x3 x4 x5 x6 (ix2 t c) * inv fun k => val_main_v84 (F := Ideal) x0 x2 x3 x4 x5 x6 (ix2 t k) := by
  unfold val_main_v96 val_main_v95 val_main_v94 val_main_v93 val_main_v92 val_main_v91 val_main_v90 val_main_v89 val_main_v88 val_main_v87
    val_main_cst_8 val_main_cst_9 val_main_cst_10
  clean_types
  pointwise
  rfl

/-- The feed-forward block's squared positive part. -/
theorem act_at (f : Fin 4096) : val_main_v105 (F := Ideal) x0 x2 x3 x4 x5 x6 x7 x8 (ix2 t f)
    = max (∑ k, val_main_v96 (F := Ideal) x0 x2 x3 x4 x5 x6 (ix2 t k) * x7 (ix2 3 k) * x8 (ix3 3 k f)) 0
      * max (∑ k, val_main_v96 (F := Ideal) x0 x2 x3 x4 x5 x6 (ix2 t k) * x7 (ix2 3 k) * x8 (ix3 3 k f)) 0 := by
  unfold val_main_v105 val_main_v104 val_main_v103 val_main_v102 val_main_v101 val_main_v100 val_main_v99 val_main_v98 val_main_v97 val_main_v86 val_main_v85
    val_main_cst_11
  clean_types
  pointwise

/-- The feed-forward block added. -/
theorem y_at (c : Fin 1024) : val_main_v109 (F := Ideal) x0 x2 x3 x4 x5 x6 x7 x8 x9 (ix2 t c)
    = rowY (fun k => val_main_v84 (F := Ideal) x0 x2 x3 x4 x5 x6 (ix2 t k)) (fun k => x7 (ix2 3 k)) (fun k f => x8 (ix3 3 k f))
        (fun f k => x9 (ix3 3 f k)) c := by
  unfold val_main_v109 val_main_v108 val_main_v107 val_main_v106
  clean_types
  pointwise
  simp only [act_at, xn_at]
  rfl

/-- The second norm's row. -/
theorem yn_at (c : Fin 1024) : val_main_v121 (F := Ideal) x0 x2 x3 x4 x5 x6 x7 x8 x9 (ix2 t c)
    = val_main_v109 (F := Ideal) x0 x2 x3 x4 x5 x6 x7 x8 x9 (ix2 t c)
      * inv fun k => val_main_v109 (F := Ideal) x0 x2 x3 x4 x5 x6 x7 x8 x9 (ix2 t k) := by
  unfold val_main_v121 val_main_v120 val_main_v119 val_main_v118 val_main_v117 val_main_v116 val_main_v115 val_main_v114 val_main_v113 val_main_v112
    val_main_cst_12 val_main_cst_13 val_main_cst_14
  clean_types
  pointwise
  rfl

/-- The gate's argument. -/
theorem pre_at (c : Fin 1024) : val_main_v127 (F := Ideal) x0 x2 x3 x4 x5 x6 x7 x8 x9 x10 x11 (ix2 t c)
    = ∑ k, val_main_v121 (F := Ideal) x0 x2 x3 x4 x5 x6 x7 x8 x9 (ix2 t k) * x10 (ix2 3 k) * x11 (ix3 3 k c) := by
  unfold val_main_v127 val_main_v126 val_main_v125 val_main_v124 val_main_v123 val_main_v122 val_main_v111 val_main_v110
  clean_types
  pointwise

/-- The gate. -/
theorem gate_at (c : Fin 1024) : val_main_v133 (F := Ideal) x0 x2 x3 x4 x5 x6 x7 x8 x9 x10 x11 (ix2 t c)
    = Ideal.logistic (val_main_v127 (F := Ideal) x0 x2 x3 x4 x5 x6 x7 x8 x9 x10 x11 (ix2 t c)) := by
  unfold val_main_v133 val_main_v132 val_main_v131 val_main_v130 val_main_v129 val_main_v128 val_main_cst_15 val_main_cst_16
  clean_types
  pointwise
  rfl

/-- The embedding's product. -/
theorem emb_at (c : Fin 1024) : val_main_v139 (F := Ideal) x1 x12 (ix2 t c)
    = ∑ k : Fin 256, x1 (ix4 3 (⟨t.val / 16384, by omega⟩ : Fin 2) (⟨t.val % 16384, by omega⟩ : Fin 16384) k) * x12 (ix3 3 k c) := by
  unfold val_main_v139 val_main_v138 val_main_v137 val_main_v136 val_main_v135 val_main_v134
  clean_types
  pointwise

/-- The gated embedding added. -/
theorem z_at (c : Fin 1024) : val_main_v141 (F := Ideal) x0 x1 x2 x3 x4 x5 x6 x7 x8 x9 x10 x11 x12 (ix2 t c)
    = rowZ (fun k => val_main_v109 (F := Ideal) x0 x2 x3 x4 x5 x6 x7 x8 x9 (ix2 t k)) (fun k => x10 (ix2 3 k)) (fun k f => x11 (ix3 3 k f))
        (fun k => x1 (ix4 3 (⟨t.val / 16384, by omega⟩ : Fin 2) (⟨t.val % 16384, by omega⟩ : Fin 16384) k)) (fun k f => x12 (ix3 3 k f)) c := by
  unfold val_main_v141 val_main_v140
  clean_types
  pointwise
  rw [gate_at, pre_at, emb_at]
  simp only [yn_at]
  rfl

/-- The result. -/
theorem out_at (c : Fin 1024) : val_main_v154 (F := Ideal) x0 x1 x2 x3 x4 x5 x6 x7 x8 x9 x10 x11 x12 x13 (ix2 t c)
    = rowOut (fun k => val_main_v141 (F := Ideal) x0 x1 x2 x3 x4 x5 x6 x7 x8 x9 x10 x11 x12 (ix2 t k)) (fun k => x13 (ix1 k)) c := by
  unfold val_main_v154 val_main_v153 val_main_v152 val_main_v151 val_main_v150 val_main_v149 val_main_v148 val_main_v147 val_main_v146 val_main_v145 val_main_v144
    val_main_v143 val_main_v142 val_main_cst_17 val_main_cst_18 val_main_cst_19
  clean_types
  pointwise
  rfl

end Cert.RefRead

end
-- ==== Proof.RefMask.lean ====
/- Which key positions a query of the reference sees. -/
module

public import proofs.«01_k».proof.Proof.Gen.ReferenceIdeal.Read
public import proofs.«01_k».proof.Proof.Spec
public import Idealize.ShloMosaic.Lib.Pointwise
public import Idealize.ShloMosaic.Lib.StableHlo.ReadAt
public import Idealize.ShloMosaic.Lib.Tactic.CleanTypes

@[expose] public section

set_option maxRecDepth 16384

noncomputable section

namespace Cert.RefRead

open Cert.ReferenceIdeal Cert.ReferenceIdeal.Read Idealize.ShloMosaic Idealize.ShloMosaic.Pointwise Cert.Scalars Cert.Spec

/-- The constant of the masked scores. -/
theorem mask_bits : Ideal.ofBits .f32 0xFF800000#32 = (⊥ : EReal) := by
  simp [Ideal.ofBits, Ideal.ieee]

/-- The block's number within its sequence is not the first. -/
theorem block_at (n : Fin 256) : val_main_v45 (F := Ideal) (ix1 n) = BitVec.ofBool (decide (n.val % 128 ≠ 0)) := by
  have h : ∀ n : Fin 256, val_main_v45 (F := Ideal) (ix1 n) = BitVec.ofBool (decide (n.val % 128 ≠ 0)) := by
    decide +kernel
  exact h n

/-- The key position is of the own block. -/
theorem own_at (j : Fin 256) : val_main_v48 (F := Ideal) (ix2 0 j) = BitVec.ofBool (decide (128 ≤ j.val)) := by
  have h : ∀ j : Fin 256, val_main_v48 (F := Ideal) (ix2 0 j) = BitVec.ofBool (decide (128 ≤ j.val)) := by
    decide +kernel
  exact h j

/-- The bit of one claim under the bit of another. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The bit of one claim beside the bit of another. -/
theorem or_bit (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- A choice by the bit of a claim. -/
theorem select_bit (p : Prop) [Decidable p] (x y : EReal) :
    Scalar.select (BitVec.ofBool (decide p)) x y = if p then x else y := by
  by_cases h : p <;> simp [h, Scalar.select]

/-- The key position is not later than the query. -/
theorem late_at (q : Fin 128) (j : Fin 256) :
    IntOp.cmpi .sle (BitVec.ofNat 32 j.val) (IntOp.addi (BitVec.ofNat 32 q.val) 128#32) = BitVec.ofBool (decide (j.val ≤ q.val + 128)) := by
  revert q j
  decide +kernel

/-- The key position is within the window. -/
theorem near_at (q : Fin 128) (j : Fin 256) :
    IntOp.cmpi .slt (IntOp.subi (IntOp.addi (BitVec.ofNat 32 q.val) 128#32) (BitVec.ofNat 32 j.val)) 128#32
      = BitVec.ofBool (decide (q.val < j.val)) := by
  revert q j
  decide +kernel

/-- The key position is within the window and not later than the query. -/
theorem band_at (q : Fin 128) (j : Fin 256) :
    val_main_v41 (F := Ideal) (ix2 q j) = BitVec.ofBool (decide (j.val ≤ q.val + 128 ∧ q.val < j.val)) := by
  have hq := q.isLt
  have hj := j.isLt
  unfold val_main_v41 val_main_v40 val_main_v39 val_main_c_1 val_main_v38 val_main_v37 val_main_v36 val_main_v35 val_main_v34 val_main_v33 val_main_v32
    val_main_v31 val_main_v30 val_main_v29 val_main_c val_main_v28 val_main_v27
  clean_types
  pointwise
  rw [late_at, near_at, and_bit]

/-- Which key positions a query sees. -/
theorem mask_at (n : Fin 256) (q : Fin 128) (j : Fin 256) : val_main_v56 (F := Ideal) (ix3 n q j)
    = BitVec.ofBool (decide ((j.val ≤ q.val + 128 ∧ q.val < j.val) ∧ (128 ≤ j.val ∨ n.val % 128 ≠ 0))) := by
  unfold val_main_v56 val_main_v55 val_main_v54 val_main_v53 val_main_v52 val_main_v51 val_main_v50 val_main_v49 val_main_v46
  clean_types
  pointwise
  rw [block_at, own_at, band_at]
  rw [or_bit, and_bit]

end Cert.RefRead

end
-- ==== Proof.RefAttn.lean ====
/- The reference's attention read at an index at the ideal numbers: it is the specification's, for finite queries,
   keys and sinks. -/
module

public import proofs.«01_k».proof.Proof.RefMask
public import proofs.«01_k».proof.Proof.Spec
public import Idealize.ShloMosaic.Lib.Pointwise
public import Idealize.ShloMosaic.Lib.StableHlo.ReadAt
public import Idealize.ShloMosaic.Lib.Tactic.CleanTypes

@[expose] public section

set_option maxRecDepth 16384

noncomputable section

namespace Cert.RefRead

open Cert.ReferenceIdeal Cert.ReferenceIdeal.Read Idealize.ShloMosaic Idealize.ShloMosaic.Pointwise Cert.Scalars Cert.Spec

section scores

variable (x2 : (⟨S8x32768x128, .bf16⟩ : BufTy).Contents (Elt Ideal)) (x3 x4 : (⟨S4x32768x128, .bf16⟩ : BufTy).Contents (Elt Ideal))
  (x5 : (⟨S2x16, .f32⟩ : BufTy).Contents (Elt Ideal))

/-- A query's lane. -/
theorem q_at (h : Fin 16) (n : Fin 256) (q : Fin 128) (d : Fin 64) : val_main_v3 (F := Ideal) x2 (ix4 h n q d)
    = x2 (ix3 ⟨h.val / 2, by omega⟩ ⟨n.val * 128 + q.val, by omega⟩ ⟨h.val % 2 * 64 + d.val, by omega⟩) := by
  unfold val_main_v3 val_main_v2 val_main_v1 val_main_v0
  clean_types
  pointwise

/-- A key's lane. -/
theorem k_at (h : Fin 16) (n : Fin 256) (q : Fin 128) (d : Fin 64) : val_main_v9 (F := Ideal) x3 (ix4 h n q d)
    = x3 (ix3 ⟨h.val / 4, by omega⟩ ⟨n.val * 128 + q.val, by omega⟩ ⟨h.val % 2 * 64 + d.val, by omega⟩) := by
  unfold val_main_v9 val_main_v8 val_main_v7 val_main_v6 val_main_v5 val_main_v4
  clean_types
  pointwise

/-- A value's lane. -/
theorem v_at (h : Fin 16) (n : Fin 256) (q : Fin 128) (d : Fin 64) : val_main_v15 (F := Ideal) x4 (ix4 h n q d)
    = x4 (ix3 ⟨h.val / 4, by omega⟩ ⟨n.val * 128 + q.val, by omega⟩ ⟨h.val % 2 * 64 + d.val, by omega⟩) := by
  unfold val_main_v15 val_main_v14 val_main_v13 val_main_v12 val_main_v11 val_main_v10
  clean_types
  pointwise

/-- A key of the own block. -/
theorem kown_at (h : Fin 16) (n : Fin 256) (k : Fin 128) (d : Fin 64) :
    val_main_v24 (F := Ideal) x3 (ix4 h n ⟨128 + k.val, by omega⟩ d) = val_main_v9 (F := Ideal) x3 (ix4 h n k d) := by
  unfold val_main_v24
  clean_types
  pointwise

/-- A key of the previous block. -/
theorem kprev_at (h : Fin 16) (n : Fin 256) (k : Fin 128) (d : Fin 64) (hn : n.val % 128 ≠ 0) :
    val_main_v24 (F := Ideal) x3 (ix4 h n ⟨k.val, by omega⟩ d) = val_main_v9 (F := Ideal) x3 (ix4 h ⟨n.val - 1, by omega⟩ k d) := by
  unfold val_main_v24 val_main_v19 val_main_v18
  clean_types
  pointwise
  rw [dif_neg (by omega)]

/-- A value of the own block. -/
theorem vown_at (h : Fin 16) (n : Fin 256) (k : Fin 128) (d : Fin 64) :
    val_main_v25 (F := Ideal) x4 (ix4 h n ⟨128 + k.val, by omega⟩ d) = val_main_v15 (F := Ideal) x4 (ix4 h n k d) := by
  unfold val_main_v25
  clean_types
  pointwise

/-- A value of the previous block. -/
theorem vprev_at (h : Fin 16) (n : Fin 256) (k : Fin 128) (d : Fin 64) (hn : n.val % 128 ≠ 0) :
    val_main_v25 (F := Ideal) x4 (ix4 h n ⟨k.val, by omega⟩ d) = val_main_v15 (F := Ideal) x4 (ix4 h ⟨n.val - 1, by omega⟩ k d) := by
  unfold val_main_v25 val_main_v23 val_main_v22
  clean_types
  pointwise
  rw [dif_neg (by omega)]

/-- A masked score. -/
theorem s_at (h : Fin 16) (n : Fin 256) (q : Fin 128) (j : Fin 256) : val_main_v58 (F := Ideal) x2 x3 (ix4 h n q j)
    = if (j.val ≤ q.val + 128 ∧ q.val < j.val) ∧ (128 ≤ j.val ∨ n.val % 128 ≠ 0)
      then (∑ d : Fin 64, (val_main_v3 (F := Ideal) x2 (ix4 h n q d) * val_main_v24 (F := Ideal) x3 (ix4 h n j d) : EReal)) else ⊥ := by
  unfold val_main_v58 val_main_call1_v2 val_main_call1_v1 val_main_call1_v0 val_main_cst_5 val_main_v57 val_main_v26
  clean_types
  pointwise
  rw [mask_at]
  refine (select_bit _ _ _).trans ?_
  rw [show (id (constant (F := Ideal) S_ .f32 0xFF800000#32) ix0 : EReal) = ⊥ from mask_bits]

/-- The score of query `q` of block `n`, head `h`, against key `k` of block `n'`. -/
def dots (h : Fin 16) (n n' : Fin 256) (q k : Fin 128) : EReal :=
  ∑ d : Fin 64, (x2 (ix3 ⟨h.val / 2, by omega⟩ ⟨n.val * 128 + q.val, by omega⟩ ⟨h.val % 2 * 64 + d.val, by omega⟩) : EReal)
    * x3 (ix3 ⟨h.val / 4, by omega⟩ ⟨n'.val * 128 + k.val, by omega⟩ ⟨h.val % 2 * 64 + d.val, by omega⟩)

/-- The block before. -/
def prior (n : Fin 256) : Fin 256 := ⟨n.val - 1, by omega⟩

/-- The masked scores against the own block. -/
theorem s_own (h : Fin 16) (n : Fin 256) (q k : Fin 128) : val_main_v58 (F := Ideal) x2 x3 (ix4 h n q ⟨128 + k.val, by omega⟩)
    = ownScore (dots x2 x3 h n n q) q k := by
  refine (s_at x2 x3 h n q _).trans ?_
  unfold ownScore
  have hc : (((128 + k.val ≤ q.val + 128 ∧ q.val < 128 + k.val) ∧ (128 ≤ 128 + k.val ∨ n.val % 128 ≠ 0)) ↔ k ≤ q) := by
    rw [Fin.le_def]; omega
  simp only [hc]
  refine if_congr Iff.rfl ?_ rfl
  refine Finset.sum_congr rfl fun d _ => ?_
  rw [kown_at, k_at, q_at]

/-- The masked scores against the previous block. -/
theorem s_prev (h : Fin 16) (n : Fin 256) (q k : Fin 128) : val_main_v58 (F := Ideal) x2 x3 (ix4 h n q ⟨k.val, by omega⟩)
    = prevScore (dots x2 x3 h n (prior n) q) q (n.val % 128 ≠ 0) k := by
  refine (s_at x2 x3 h n q _).trans ?_
  unfold prevScore
  have hc : (((k.val ≤ q.val + 128 ∧ q.val < k.val) ∧ (128 ≤ k.val ∨ n.val % 128 ≠ 0)) ↔ (q < k ∧ n.val % 128 ≠ 0)) := by
    rw [Fin.lt_def]; omega
  simp only [hc]
  by_cases hp : q < k ∧ n.val % 128 ≠ 0
  · rw [if_pos hp, if_pos hp]
    refine Finset.sum_congr rfl fun d _ => ?_
    rw [kprev_at x3 h n k d hp.2, k_at, q_at]
    rfl
  · rw [if_neg hp, if_neg hp]

/-- The greatest score of a query. -/
theorem sup_at (h : Fin 16) (n : Fin 256) (q : Fin 128) : (val_main_v62 (F := Ideal) x2 x3 (ix3 h n q) : EReal)
    = Finset.univ.sup fun j : Fin 256 => (val_main_v58 (F := Ideal) x2 x3 (ix4 h n q j) : EReal) := by
  unfold val_main_v62 val_main_cst_6
  clean_types
  pointwise
  rw [mask_bits]
  rfl

/-- The sink of a head beside its scores. -/
theorem sink_at (h : Fin 16) (n : Fin 256) (q : Fin 128) : val_main_v64 (F := Ideal) x5 (ix4 h n q 0) = x5 (ix2 1 h) := by
  unfold val_main_v64 val_main_v61 val_main_v60 val_main_v59
  clean_types
  pointwise

/-- The greatest of 256 scores whose halves are the two blocks' masked scores. -/
theorem sup_merge (f : Fin 256 → EReal) (a b : Fin 128 → EReal) (i : Fin 128) (hp : Prop) [Decidable hp]
    (ho : ∀ k : Fin 128, f ⟨128 + k.val, by omega⟩ = ownScore a i k) (hb : ∀ k : Fin 128, f ⟨k.val, by omega⟩ = prevScore b i hp k) :
    Finset.univ.sup f = Finset.univ.sup (score a b i hp) := by
  rw [sup_halves]
  simp only [ho, hb]
  exact sup_score a b i hp

/-- The greatest score of a query along a further axis. -/
theorem wide_at (h : Fin 16) (n : Fin 256) (q : Fin 128) : (val_main_v63 (F := Ideal) x2 x3 (ix4 h n q 0) : EReal)
    = val_main_v62 (F := Ideal) x2 x3 (ix3 h n q) := by
  unfold val_main_v63
  generalize val_main_v62 (F := Ideal) x2 x3 = y
  clean_types
  pointwise

/-- The greatest score of a query, its sink among them. -/
theorem top_at (h : Fin 16) (n : Fin 256) (q : Fin 128) : (val_main_v65 (F := Ideal) x2 x3 x5 (ix4 h n q 0) : EReal)
    = top (dots x2 x3 h n n q) (dots x2 x3 h n (prior n) q) q (n.val % 128 ≠ 0) (x5 (ix2 1 h)) := by
  have h1 := val_main_v65_apply (F := Ideal) x2 x3 x5 (ix4 h n q 0)
  have h2 := (wide_at x2 x3 h n q).trans ((sup_at x2 x3 h n q).trans
    (sup_merge _ (dots x2 x3 h n n q) (dots x2 x3 h n (prior n) q) q (n.val % 128 ≠ 0) (s_own x2 x3 h n q) (s_prev x2 x3 h n q)))
  exact h1.trans (congrArg₂ (fun a b : EReal => max a b) h2 (sink_at x5 h n q))

end scores

end Cert.RefRead

end
-- ==== Proof.RefSoft.lean ====
/- The reference's softmax and weighted sum of values at the ideal numbers: they are the specification's attention,
   for finite queries, keys and sinks. -/
module

public import proofs.«01_k».proof.Proof.RefAttn
public import proofs.«01_k».proof.Proof.Spec
public import Idealize.ShloMosaic.Lib.Pointwise
public import Idealize.ShloMosaic.Lib.StableHlo.ReadAt
public import Idealize.ShloMosaic.Lib.Tactic.CleanTypes

@[expose] public section

set_option maxRecDepth 16384

noncomputable section

namespace Cert.RefRead

open Cert.ReferenceIdeal Cert.ReferenceIdeal.Read Idealize.ShloMosaic Idealize.ShloMosaic.Pointwise Cert.Scalars Cert.Spec

section scores

variable (x2 : (⟨S8x32768x128, .bf16⟩ : BufTy).Contents (Elt Ideal)) (x3 x4 : (⟨S4x32768x128, .bf16⟩ : BufTy).Contents (Elt Ideal))
  (x5 : (⟨S2x16, .f32⟩ : BufTy).Contents (Elt Ideal))

/-- The weight of a key position before the division. -/
theorem e_at (h : Fin 16) (n : Fin 256) (q : Fin 128) (j : Fin 256) : val_main_v68 (F := Ideal) x2 x3 x5 (ix4 h n q j)
    = Ideal.exp ((val_main_v58 (F := Ideal) x2 x3 (ix4 h n q j) : EReal) - val_main_v65 (F := Ideal) x2 x3 x5 (ix4 h n q 0)) := by
  unfold val_main_v68 val_main_v67 val_main_v66
  clean_types
  pointwise

/-- The sum of a query's weights, the sink's among them. -/
theorem den_at (h : Fin 16) (n : Fin 256) (q : Fin 128) : (val_main_v74 (F := Ideal) x2 x3 x5 (ix4 h n q 0) : EReal)
    = (∑ j : Fin 256, (val_main_v68 (F := Ideal) x2 x3 x5 (ix4 h n q j) : EReal))
      + Ideal.exp ((x5 (ix2 1 h) : EReal) - val_main_v65 (F := Ideal) x2 x3 x5 (ix4 h n q 0)) := by
  unfold val_main_v74 val_main_v73 val_main_v72 val_main_v71 val_main_v70 val_main_v69 val_main_v61 val_main_v60 val_main_v59 val_main_cst_7
  clean_types
  pointwise

/-- A lane of the weighted sum of values. -/
theorem o_at (h : Fin 16) (n : Fin 256) (q : Fin 128) (d : Fin 64) : (val_main_v77 (F := Ideal) x2 x3 x4 x5 (ix4 h n q d) : EReal)
    = ∑ j : Fin 256, Ideal.div (val_main_v68 (F := Ideal) x2 x3 x5 (ix4 h n q j)) (val_main_v74 (F := Ideal) x2 x3 x5 (ix4 h n q 0))
        * (val_main_v25 (F := Ideal) x4 (ix4 h n j d) : EReal) := by
  unfold val_main_v77 val_main_v76 val_main_v75
  clean_types
  pointwise

/-- The heads laid side by side again. -/
theorem heads_at (t : Fin 32768) (c : Fin 1024) : val_main_v80 (F := Ideal) x2 x3 x4 x5 (ix2 t c)
    = val_main_v77 (F := Ideal) x2 x3 x4 x5 (ix4 ⟨c.val / 64, by omega⟩ ⟨t.val / 128, by omega⟩ ⟨t.val % 128, by omega⟩ ⟨c.val % 64, by omega⟩) := by
  unfold val_main_v80 val_main_v79 val_main_v78
  clean_types
  pointwise

/-- The weights' sum of halves: what the softmax divides by. -/
theorem den_eq (h : Fin 16) (n : Fin 256) (q : Fin 128) : (val_main_v74 (F := Ideal) x2 x3 x5 (ix4 h n q 0) : EReal)
    = ∑ k, Ideal.exp (prevScore (dots x2 x3 h n (prior n) q) q (n.val % 128 ≠ 0) k
          - top (dots x2 x3 h n n q) (dots x2 x3 h n (prior n) q) q (n.val % 128 ≠ 0) (x5 (ix2 1 h)))
      + ∑ k, Ideal.exp (ownScore (dots x2 x3 h n n q) q k
          - top (dots x2 x3 h n n q) (dots x2 x3 h n (prior n) q) q (n.val % 128 ≠ 0) (x5 (ix2 1 h)))
      + Ideal.exp ((x5 (ix2 1 h) : EReal)
          - top (dots x2 x3 h n n q) (dots x2 x3 h n (prior n) q) q (n.val % 128 ≠ 0) (x5 (ix2 1 h))) := by
  refine (den_at x2 x3 x5 h n q).trans ?_
  rw [sum_halves]
  simp only [e_at, s_own, s_prev, top_at]

/-- A lane of the weighted sum of values, by the two blocks. -/
theorem o_eq (h : Fin 16) (n : Fin 256) (q : Fin 128) (d : Fin 64)
    (ha : ∀ k, dots x2 x3 h n n q k ≠ ⊤) (hb : ∀ k, dots x2 x3 h n (prior n) q k ≠ ⊤)
    (hs : (x5 (ix2 1 h) : EReal) ≠ ⊤) (hs' : (x5 (ix2 1 h) : EReal) ≠ ⊥) :
    (val_main_v77 (F := Ideal) x2 x3 x4 x5 (ix4 h n q d) : EReal)
    = quot (dots x2 x3 h n n q) (dots x2 x3 h n (prior n) q)
        (fun k => val_main_v25 (F := Ideal) x4 (ix4 h n ⟨128 + k.val, by omega⟩ d)) (fun k => val_main_v25 (F := Ideal) x4 (ix4 h n ⟨k.val, by omega⟩ d))
        q (n.val % 128 ≠ 0) (x5 (ix2 1 h)) := by
  refine (o_at x2 x3 x4 x5 h n q d).trans ?_
  rw [sum_halves]
  simp only [e_at, s_own, s_prev, top_at]
  exact softmax_eq _ _ q (n.val % 128 ≠ 0) ha hb hs hs' _ (den_eq x2 x3 x5 h n q)

end scores

/-- Where there is no previous block its values do not count. -/
theorem quot_absent {a b vc vp vp' : Fin 128 → EReal} {i : Fin 128} {hp : Prop} [Decidable hp] {s : EReal} (hv : hp → ∀ k, vp k = vp' k) :
    quot a b vc vp i hp s = quot a b vc vp' i hp s := by
  by_cases h : hp
  · rw [funext (hv h)]
  · unfold quot
    refine congrArg (fun e => Ideal.div (_ + e) _) (Finset.sum_congr rfl fun j _ => ?_)
    by_cases hj : j ≤ i
    · simp only [if_pos hj, mul_zero, zero_mul]
    · simp only [score, if_neg hj, if_neg h, exp_bot_sub, zero_mul]

section attention

variable (x2 : (⟨S8x32768x128, .bf16⟩ : BufTy).Contents (Elt Ideal)) (x3 x4 : (⟨S4x32768x128, .bf16⟩ : BufTy).Contents (Elt Ideal))
  (x5 : (⟨S2x16, .f32⟩ : BufTy).Contents (Elt Ideal))
  (hq : ∀ i, (x2 i : EReal) ≠ ⊤ ∧ (x2 i : EReal) ≠ ⊥) (hk : ∀ i, (x3 i : EReal) ≠ ⊤ ∧ (x3 i : EReal) ≠ ⊥)
  (hs : ∀ i, (x5 i : EReal) ≠ ⊤ ∧ (x5 i : EReal) ≠ ⊥)

/-- The product of two finite numbers is below infinity. -/
theorem mul_ne_top {x y : EReal} (hx : x ≠ ⊤ ∧ x ≠ ⊥) (hy : y ≠ ⊤ ∧ y ≠ ⊥) : x * y ≠ ⊤ := by
  lift x to ℝ using hx
  lift y to ℝ using hy
  rw [← EReal.coe_mul]
  exact EReal.coe_ne_top _

include hq hk in
/-- A score of finite queries and keys is below infinity. -/
theorem dots_ne_top (h : Fin 16) (n n' : Fin 256) (q k : Fin 128) : dots x2 x3 h n n' q k ≠ ⊤ :=
  sum_ne_top _ _ fun _ => mul_ne_top (hq _) (hk _)

include hq hk hs in
/-- The reference's attention is the specification's. -/
theorem attn_at (t : Fin 32768) (c : Fin 1024) : (val_main_v80 (F := Ideal) x2 x3 x4 x5 (ix2 t c) : EReal)
    = attention (fun p T l => x2 (ix3 p T l)) (fun p T l => x3 (ix3 p T l)) (fun p T l => x4 (ix3 p T l)) (fun j => x5 (ix2 1 j)) t c := by
  refine (heads_at x2 x3 x4 x5 t c).trans ((o_eq x2 x3 x4 x5 _ _ _ _ (dots_ne_top x2 x3 hq hk _ _ _ _) (dots_ne_top x2 x3 hq hk _ _ _ _)
    (hs _).1 (hs _).2).trans ?_)
  unfold attention
  refine (quot_absent (vp' := fun k => x4 (ix3 ⟨c.val / 256, by omega⟩ ⟨128 * (t.val / 128 - 1) + k.val, by omega⟩ ⟨c.val % 128, by omega⟩))
    fun hp k => ?_).trans ?_
  · refine (vprev_at x4 _ _ _ _ hp).trans ((v_at x4 _ _ _ _).trans (congrArg x4 ?_))
    congr 1 <;> exact Fin.ext (by simp only []; omega)
  · refine quot_congr (fun k => ?_) (fun k => ?_) (fun k => ?_) (fun k => rfl) rfl Iff.rfl rfl
    · unfold dots
      refine Finset.sum_congr rfl fun d _ => ?_
      refine congrArg₂ (fun a b : EReal => a * b) (congrArg x2 ?_) (congrArg x3 ?_)
      · congr 1 <;> exact Fin.ext (by simp only []; omega)
      · congr 1 <;> exact Fin.ext (by simp only []; omega)
    · unfold dots prior
      refine Finset.sum_congr rfl fun d _ => ?_
      refine congrArg₂ (fun a b : EReal => a * b) (congrArg x2 ?_) (congrArg x3 ?_)
      · congr 1 <;> exact Fin.ext (by simp only []; omega)
      · congr 1 <;> exact Fin.ext (by simp only []; omega)
    · refine (vown_at x4 _ _ _ _).trans ((v_at x4 _ _ _ _).trans (congrArg x4 ?_))
      congr 1 <;> exact Fin.ext (by simp only []; omega)

end attention

end Cert.RefRead

end
-- ==== Proof.RefOut.lean ====
/- The reference's result at an index at the ideal numbers: the specification's, for finite queries, keys and sinks. -/
module

public import proofs.«01_k».proof.Proof.RefTail
public import proofs.«01_k».proof.Proof.RefSoft

@[expose] public section

set_option maxRecDepth 16384

noncomputable section

namespace Cert.RefRead

open Cert.ReferenceIdeal Cert.ReferenceIdeal.Read Idealize.ShloMosaic Idealize.ShloMosaic.Pointwise Cert.Scalars Cert.Spec

variable (x0 : Vec Ideal S32768x1024 .f32) (x1 : Vec Ideal S4x2x16384x256 .f32) (x2 : Vec Ideal S8x32768x128 .bf16)
  (x3 x4 : Vec Ideal S4x32768x128 .bf16) (x5 : Vec Ideal S2x16 .f32) (x6 : Vec Ideal S2x1024x1024 .f32) (x7 : Vec Ideal S4x1024 .f32)
  (x8 : Vec Ideal S4x1024x4096 .f32) (x9 : Vec Ideal S4x4096x1024 .f32) (x10 : Vec Ideal S4x1024 .f32) (x11 : Vec Ideal S4x1024x1024 .f32)
  (x12 : Vec Ideal S4x256x1024 .f32) (x13 : Vec Ideal S1024 .f32) (t : Fin 32768)
  (hq : ∀ i, (x2 i : EReal) ≠ ⊤ ∧ (x2 i : EReal) ≠ ⊥) (hk : ∀ i, (x3 i : EReal) ≠ ⊤ ∧ (x3 i : EReal) ≠ ⊥)
  (hs : ∀ i, (x5 i : EReal) ≠ ⊤ ∧ (x5 i : EReal) ≠ ⊥)
include hq hk hs

/-- The reference's result for a token and a column is the specification's. -/
theorem result_at (c : Fin 1024) : (val_main_v154 (F := Ideal) x0 x1 x2 x3 x4 x5 x6 x7 x8 x9 x10 x11 x12 x13 (ix2 t c) : EReal)
    = result (fun T k => x0 (ix2 T k)) (fun T k => x1 (ix4 3 (⟨T.val / 16384, by omega⟩ : Fin 2) (⟨T.val % 16384, by omega⟩ : Fin 16384) k))
        (fun p T l => x2 (ix3 p T l)) (fun p T l => x3 (ix3 p T l)) (fun p T l => x4 (ix3 p T l)) (fun j => x5 (ix2 1 j))
        (fun k f => x6 (ix3 1 k f)) (fun k => x7 (ix2 3 k)) (fun k f => x8 (ix3 3 k f)) (fun f k => x9 (ix3 3 f k)) (fun k => x10 (ix2 3 k))
        (fun k f => x11 (ix3 3 k f)) (fun k f => x12 (ix3 3 k f)) (fun k => x13 (ix1 k)) t c := by
  have hA := funext (attn_at x2 x3 x4 x5 hq hk hs t)
  have hX := funext (x_at x0 x2 x3 x4 x5 x6 t)
  rw [hA] at hX
  have hY := funext (y_at x0 x2 x3 x4 x5 x6 x7 x8 x9 t)
  rw [hX] at hY
  have hZ := funext (z_at x0 x1 x2 x3 x4 x5 x6 x7 x8 x9 x10 x11 x12 t)
  rw [hY] at hZ
  have hO := out_at x0 x1 x2 x3 x4 x5 x6 x7 x8 x9 x10 x11 x12 x13 t c
  rw [hZ] at hO
  exact hO

end Cert.RefRead

end
-- ==== Proof.Meet.lean ====
/- The two programs' results at the ideal numbers agree, and what the precondition says of an element. -/
module

public import proofs.«01_k».proof.Defs
public import proofs.«01_k».proof.Proof.Final
public import proofs.«01_k».proof.Proof.RefOut
public import Idealize.ShloMosaic.Lib.Pointwise

@[expose] public section

set_option maxRecDepth 16384

noncomputable section

namespace Cert.Meet

open Idealize.ShloMosaic Idealize.ShloMosaic.Pointwise

/-- The constant of the finiteness test. -/
theorem inf_bits : Ideal.ofBits .f32 0x7F800000#32 = (⊤ : EReal) := by
  simp [Ideal.ofBits, Ideal.ieee]

/-- A number whose absolute value is below infinity is finite. -/
theorem finite_of_abs (x : EReal) (h : Ideal.cmp .olt (max x (-x)) ⊤ = 1#1) : x ≠ ⊤ ∧ x ≠ ⊥ := by
  constructor <;> rintro rfl <;> simp [Ideal.cmp] at h

section facts

/-- The side conditions that the precondition's operations take. -/
instance preFacts : Cert.Pre_finite_scores.Facts where
  bitsLt_bf16_f32 := by decide
  bcast_S_S8x32768x128 := by decide
  bcast_S_S4x32768x128 := by decide
  bcast_S_S2x16 := by decide

end facts

variable (x0 : Vec Ideal Cert.ReferenceIdeal.S32768x1024 .f32) (x1 : Vec Ideal Cert.ReferenceIdeal.S4x2x16384x256 .f32)
  (x2 : Vec Ideal Cert.ReferenceIdeal.S8x32768x128 .bf16) (x3 x4 : Vec Ideal Cert.ReferenceIdeal.S4x32768x128 .bf16)
  (x5 : Vec Ideal Cert.ReferenceIdeal.S2x16 .f32) (x6 : Vec Ideal Cert.ReferenceIdeal.S2x1024x1024 .f32)
  (x7 : Vec Ideal Cert.ReferenceIdeal.S4x1024 .f32) (x8 : Vec Ideal Cert.ReferenceIdeal.S4x1024x4096 .f32)
  (x9 : Vec Ideal Cert.ReferenceIdeal.S4x4096x1024 .f32) (x10 : Vec Ideal Cert.ReferenceIdeal.S4x1024 .f32)
  (x11 : Vec Ideal Cert.ReferenceIdeal.S4x1024x1024 .f32) (x12 : Vec Ideal Cert.ReferenceIdeal.S4x256x1024 .f32)
  (x13 : Vec Ideal Cert.ReferenceIdeal.S1024 .f32)

/-- The precondition: every element of the queries is finite. -/
theorem finite_q (h : (Cert.Pre_finite_scores.fn (F := Ideal) x0 x1 x2 x3 x4 x5 x6 x7 x8 x9 x10 x11 x12 x13).1 = fun _ => 1#1) (i : Cert.ReferenceIdeal.S8x32768x128.Idx) :
    (x2 i : EReal) ≠ ⊤ ∧ (x2 i : EReal) ≠ ⊥ :=
  finite_of_abs _ (by rw [← inf_bits]; exact congrFun h i)

/-- The precondition: every element of the keys is finite. -/
theorem finite_k (h : (Cert.Pre_finite_scores.fn (F := Ideal) x0 x1 x2 x3 x4 x5 x6 x7 x8 x9 x10 x11 x12 x13).2.1 = fun _ => 1#1) (i : Cert.ReferenceIdeal.S4x32768x128.Idx) :
    (x3 i : EReal) ≠ ⊤ ∧ (x3 i : EReal) ≠ ⊥ :=
  finite_of_abs _ (by rw [← inf_bits]; exact congrFun h i)

/-- The precondition: every sink is finite. -/
theorem finite_s (h : (Cert.Pre_finite_scores.fn (F := Ideal) x0 x1 x2 x3 x4 x5 x6 x7 x8 x9 x10 x11 x12 x13).2.2 = fun _ => 1#1) (i : Cert.ReferenceIdeal.S2x16.Idx) :
    (x5 i : EReal) ≠ ⊤ ∧ (x5 i : EReal) ≠ ⊥ :=
  finite_of_abs _ (by rw [← inf_bits]; exact congrFun h i)

variable (m : (ℓ : Loc Cert.KernelIdeal.nD Cert.KernelIdeal.τ Cert.KernelIdeal.sig) → Buf (Elt Ideal) ℓ)
    (c : Dev Cert.KernelIdeal.nD)

/-- From the same arguments the reference's result is the kernel's. -/
theorem meet
    (e0 : x0 = m ((c.tc : Thread Cert.KernelIdeal.nD Cert.KernelIdeal.τ).loc Cert.KernelIdeal.main_arg0))
    (e1 : x1 = m ((c.tc : Thread Cert.KernelIdeal.nD Cert.KernelIdeal.τ).loc Cert.KernelIdeal.main_arg1))
    (e2 : x2 = m ((c.tc : Thread Cert.KernelIdeal.nD Cert.KernelIdeal.τ).loc Cert.KernelIdeal.main_arg2))
    (e3 : x3 = m ((c.tc : Thread Cert.KernelIdeal.nD Cert.KernelIdeal.τ).loc Cert.KernelIdeal.main_arg3))
    (e4 : x4 = m ((c.tc : Thread Cert.KernelIdeal.nD Cert.KernelIdeal.τ).loc Cert.KernelIdeal.main_arg4))
    (e5 : x5 = m ((c.tc : Thread Cert.KernelIdeal.nD Cert.KernelIdeal.τ).loc Cert.KernelIdeal.main_arg5))
    (e6 : x6 = m ((c.tc : Thread Cert.KernelIdeal.nD Cert.KernelIdeal.τ).loc Cert.KernelIdeal.main_arg6))
    (e7 : x7 = m ((c.tc : Thread Cert.KernelIdeal.nD Cert.KernelIdeal.τ).loc Cert.KernelIdeal.main_arg7))
    (e8 : x8 = m ((c.tc : Thread Cert.KernelIdeal.nD Cert.KernelIdeal.τ).loc Cert.KernelIdeal.main_arg8))
    (e9 : x9 = m ((c.tc : Thread Cert.KernelIdeal.nD Cert.KernelIdeal.τ).loc Cert.KernelIdeal.main_arg9))
    (e10 : x10 = m ((c.tc : Thread Cert.KernelIdeal.nD Cert.KernelIdeal.τ).loc Cert.KernelIdeal.main_arg10))
    (e11 : x11 = m ((c.tc : Thread Cert.KernelIdeal.nD Cert.KernelIdeal.τ).loc Cert.KernelIdeal.main_arg11))
    (e12 : x12 = m ((c.tc : Thread Cert.KernelIdeal.nD Cert.KernelIdeal.τ).loc Cert.KernelIdeal.main_arg12))
    (e13 : x13 = m ((c.tc : Thread Cert.KernelIdeal.nD Cert.KernelIdeal.τ).loc Cert.KernelIdeal.main_arg13))
    (hpre : Cert.Pre_KernelIdeal_finite_scores m) :
    Cert.ReferenceIdeal.Read.val_main_v154 (F := Ideal) x0 x1 x2 x3 x4 x5 x6 x7 x8 x9 x10 x11 x12 x13 = (Cert.KernelIdeal.Gen.dats m 0 c).arrAt 14 Cert.KernelIdeal.cfg0.N := by
  rw [Cert.KernelIdeal.Parts.final_eq]
  funext y
  obtain ⟨t, C, rfl⟩ : ∃ (t : Fin 32768) (C : Fin 1024), y = ix2 t C := ⟨_, _, eq_ix2 (n0 := 32768) (n1 := 1024) y⟩
  obtain ⟨hq, hk, hs⟩ := hpre c
  subst e0 e1 e2 e3 e4 e5 e6 e7 e8 e9 e10 e11 e12 e13
  exact (Cert.RefRead.result_at _ _ _ _ _ _ _ _ _ _ _ _ _ _ t (finite_q _ _ _ _ _ _ _ _ _ _ _ _ _ _ hq) (finite_k _ _ _ _ _ _ _ _ _ _ _ _ _ _ hk) (finite_s _ _ _ _ _ _ _ _ _ _ _ _ _ _ hs) C).trans rfl

end Cert.Meet

end
-- ==== Proof.Glu.lean ====
/- The pieces of the first layer's kernel as functions of the blocks they read, at any number format: the gated
   linear unit on 256 rows, then the rest of the layer, whose pieces are the last layer's. -/
module

public import proofs.«01_k».proof.Proof.Parts
public import proofs.«01_k».proof.Proof.Gen.Kernel2Ideal.Frame

@[expose] public section

set_option maxRecDepth 16384

noncomputable section

namespace Cert.Kernel2Ideal.Parts

open Cert.Kernel2Ideal Cert.Kernel2Ideal.Gen Idealize.ShloMosaic Idealize.SL.Sem
open Cert.KernelIdeal.Parts (invRms mm act mlp ple norm)

variable {F : FTy → Type} [FloatOps F] [Named F]

/-- The gated linear unit's argument: the state space's output with its skip term. -/
def skip (h y : Vec F S256x1024 .f32) (g d : Vec F S1x1024 .f32) : FVec F S256x1024 .f32 :=
  addf y (mulf (broadcastTo S256x1024 (shapeCast S1x1024 d shapeCasts_S1x1024_S1x1024) broadcasts_S1x1024_S256x1024) (norm h g))

/-- The activation. -/
def gelu (x : FVec F S256x1024 .f32) : FVec F S256x1024 .bf16 :=
  truncf .bf16 (mulf (mulf (broadcast S256x1024 (Scalar.ofBits .f32 0x3F000000#32)) x)
    (addf (broadcast S256x1024 (Scalar.ofBits .f32 0x3F800000#32))
      (tanh (mulf (broadcast S256x1024 (Scalar.ofBits .f32 0x3F4C422A#32))
        (addf x (mulf (broadcast S256x1024 (Scalar.ofBits .f32 0x3D372713#32)) (mulf (mulf x x) x))))))) bitsLt_bf16_f32

/-- A product of 256 rows with 256 columns. -/
def mmTile (x : FVec F S256x1024 .bf16) (w : Vec F S1x1024x256 .bf16) : FVec F S256x256 .f32 :=
  matmul dot_S256x1024_S1024x256_S256x256_1_0_0_1_n_n none x (shapeCast S1024x256 w shapeCasts_S1x1024x256_S1024x256)
    (constant S256x256 .f32 0x00000000#32)

/-- 256 columns of the gated linear unit. -/
def glu (x : FVec F S256x1024 .bf16) (a b : Vec F S1x1024x256 .bf16) : FVec F S256x256 .f32 :=
  mulf (mmTile x a) (logistic (mmTile x b))

/-- The residual stream with the gated linear unit added, its columns in four parts. -/
def mixed (h y : Vec F S256x1024 .f32) (g d : Vec F S1x1024 .f32) (a0 b0 a1 b1 a2 b2 a3 b3 : Vec F S1x1024x256 .bf16) : FVec F S256x1024 .f32 :=
  have x : FVec F S256x1024 .bf16 := gelu (skip h y g d)
  addf h (concatenate S256x1024 1 [⟨S256x256, glu x a0 b0⟩, ⟨S256x256, glu x a1 b1⟩, ⟨S256x256, glu x a2 b2⟩, ⟨S256x256, glu x a3 b3⟩]
    concatenates_S256x256_S256x256_S256x256_S256x256_S256x1024_d1)

variable (x0 : Vec F S512x1024 .f32) (x1 : Vec F S1x512x256 .f32) (x2 : Vec F S512x1024 .f32) (x3 x4 : Vec F S1x1024 .f32)
  (x5 : Vec F S1x1024x2048 .bf16) (x6 : Vec F S1x1024x4096 .bf16) (x7 : Vec F S1x4096x1024 .bf16) (x8 : Vec F S1x1024x1024 .bf16)
  (x9 : Vec F S1x256x1024 .bf16) (x10 : Vec F S1x1024 .f32)

/-- The stream after the gated linear unit, for the half of a point's rows that starts at row `256 * n`. -/
def half0 (n : Fin 2) : FVec F S256x1024 .f32 :=
  mixed (View.ld x0 (Rect.unit (s := S512x1024) ![256 * n.val, 0] S256x1024.size (by intro a; fin_cases a <;> simp <;> omega)))
    (View.ld x2 (Rect.unit (s := S512x1024) ![256 * n.val, 0] S256x1024.size (by intro a; fin_cases a <;> simp <;> omega)))
    (View.ld x3 r0_1) (View.ld x4 r0_1) (View.ld x5 r0_2) (View.ld x5 r0_3) (View.ld x5 r0_4) (View.ld x5 r0_5)
    (View.ld x5 r0_6) (View.ld x5 r0_7) (View.ld x5 r0_8) (View.ld x5 r0_9)

/-- The stream after the layer. -/
def half1 (n : Fin 2) : FVec F S256x1024 .f32 :=
  ple (mlp (half0 x0 x2 x3 x4 x5 n) (View.ld x6 r0_10) (View.ld x7 r0_11) (View.ld x6 r0_12) (View.ld x7 r0_13)
      (View.ld x6 r0_14) (View.ld x7 r0_15) (View.ld x6 r0_16) (View.ld x7 r0_17))
    (View.ld x8 r0_18)
    (View.ld x1 (Rect.unit (s := S1x512x256) ![0, 256 * n.val, 0] S1x256x256.size (by intro a; fin_cases a <;> simp <;> omega)))
    (View.ld x9 r0_20)

/-- The next layer's normalised input. -/
def half2 (n : Fin 2) : FVec F S256x1024 .f32 := norm (half1 x0 x1 x2 x3 x4 x5 x6 x7 x8 x9 n) (View.ld x10 r0_1)

/-- Pieces over one rectangle with the same payload. -/
theorem piece_congr {r : Rect S512x1024} {w w' : r.shape.Idx → Elt F .f32} (h : w = w') :
    (⟨r, w⟩ : View.Piece (Elt F) S512x1024 .f32) = ⟨r, w'⟩ := by rw [h]

/-- The stream's output block: its two halves. -/
theorem out11_eq : out0_11 x0 x1 x2 x3 x4 x5 x6 x7 x8 x9 x10
    = View.canon [⟨r0_21, half1 x0 x1 x2 x3 x4 x5 x6 x7 x8 x9 1⟩, ⟨r0_0, half1 x0 x1 x2 x3 x4 x5 x6 x7 x8 x9 0⟩] := by
  unfold out0_11
  exact congrArg View.canon (congrArg₂ List.cons (piece_congr rfl) (congrArg₂ List.cons (piece_congr rfl) rfl))

/-- The normalised output block: its two halves. -/
theorem out12_eq : out0_12 x0 x1 x2 x3 x4 x5 x6 x7 x8 x9 x10
    = View.canon [⟨r0_21, half2 x0 x1 x2 x3 x4 x5 x6 x7 x8 x9 x10 1⟩, ⟨r0_0, half2 x0 x1 x2 x3 x4 x5 x6 x7 x8 x9 x10 0⟩] := by
  unfold out0_12
  exact congrArg View.canon (congrArg₂ List.cons (piece_congr rfl) (congrArg₂ List.cons (piece_congr rfl) rfl))

end Cert.Kernel2Ideal.Parts

end
-- ==== Proof.Spec2.lean ====
/- One token of the first layer from its state space's output on, over the extended reals. -/
module

public import proofs.«01_k».proof.Proof.Spec

@[expose] public section

noncomputable section

namespace Cert.Spec

open Idealize.ShloMosaic Cert.Scalars

/-- The activation, as the layer writes it: half the argument times one plus a hyperbolic tangent. -/
def gelu (x : EReal) : EReal :=
  Ideal.ofBits .f32 0x3F000000#32 * x * (1
    + Ideal.tanh (Ideal.ofBits .f32 0x3F4C422A#32 * (x + Ideal.ofBits .f32 0x3D372713#32 * (x * x * x))))

/-- The activation with its factors in another order. -/
theorem gelu_comm (x : EReal) : x * (Ideal.ofBits .f32 0x3F000000#32 * (1
    + Ideal.tanh (Ideal.ofBits .f32 0x3F4C422A#32 * (x + Ideal.ofBits .f32 0x3D372713#32 * (x * x * x))))) = gelu x := by
  unfold gelu
  exact (mul_left_comm _ _ _).trans (mul_assoc _ _ _).symm

/-- The activation of the state space's output with its skip term. -/
def rowA (h y g d : Fin 1024 → EReal) (k : Fin 1024) : EReal := gelu (y k + d k * (h k * inv h * g k))

/-- The residual stream with the gated linear unit added. -/
def rowG (h a : Fin 1024 → EReal) (w : Fin 1024 → Fin 2048 → EReal) (c : Fin 1024) : EReal :=
  h c + (∑ k, a k * w k ⟨c.val, by omega⟩) * Ideal.logistic (∑ k, a k * w k ⟨1024 + c.val, by omega⟩)

/-- The stream after the layer, for token `T` and column `C`. -/
def stream (h : Fin 32768 → Fin 1024 → EReal) (p : Fin 32768 → Fin 256 → EReal) (y : Fin 32768 → Fin 1024 → EReal)
    (g d : Fin 1024 → EReal) (w : Fin 1024 → Fin 2048 → EReal)
    (gm : Fin 1024 → EReal) (up : Fin 1024 → Fin 4096 → EReal) (down : Fin 4096 → Fin 1024 → EReal)
    (gp : Fin 1024 → EReal) (wg : Fin 1024 → Fin 1024 → EReal) (wp : Fin 256 → Fin 1024 → EReal)
    (T : Fin 32768) (C : Fin 1024) : EReal :=
  rowZ (rowY (rowG (h T) (rowA (h T) (y T) g d) w) gm up down) gp wg (p T) wp C

end Cert.Spec

end
-- ==== Proof.GluRows.lean ====
/- Half of a point's rows of the first layer, read at an index at the ideal numbers: the rows of the specification. -/
module

public import proofs.«01_k».proof.Proof.Glu
public import proofs.«01_k».proof.Proof.Half
public import proofs.«01_k».proof.Proof.Spec2

@[expose] public section

set_option maxRecDepth 16384

noncomputable section

namespace Cert.Kernel2Ideal.Parts

open Cert.Kernel2Ideal Cert.Kernel2Ideal.Gen Idealize.ShloMosaic Idealize.ShloMosaic.Pointwise Cert.Scalars Cert.Spec
open Cert.KernelIdeal.Parts (invRms mm act mlp ple norm norm_at mlp_at ple_at quarters)

/-- The unit's argument. -/
theorem skip_at (h y : Vec Ideal S256x1024 .f32) (g d : Vec Ideal S1x1024 .f32) (r : Fin 256) (c : Fin 1024) :
    skip h y g d (ix2 r c) = y (ix2 r c) + d (ix2 0 c) * (h (ix2 r c) * inv (fun k => h (ix2 r k)) * g (ix2 0 c)) := by
  pointwise [skip]
  rw [norm_at]

/-- The activation. -/
theorem gelu_at (x : FVec Ideal S256x1024 .f32) (r : Fin 256) (c : Fin 1024) : gelu x (ix2 r c) = Cert.Spec.gelu (x (ix2 r c)) := by
  pointwise [gelu]
  rfl

/-- A product with 256 columns. -/
theorem mmTile_at (x : FVec Ideal S256x1024 .bf16) (w : Vec Ideal S1x1024x256 .bf16) (r c : Fin 256) :
    mmTile x w (ix2 r c) = ∑ k : Fin 1024, x (ix2 r k) * w (ix3 0 k c) := by
  pointwise [mmTile]

/-- 256 columns of the unit. -/
theorem glu_at (x : FVec Ideal S256x1024 .bf16) (a b : Vec Ideal S1x1024x256 .bf16) (r c : Fin 256) :
    glu x a b (ix2 r c) = (∑ k : Fin 1024, x (ix2 r k) * a (ix3 0 k c)) * Ideal.logistic (∑ k : Fin 1024, x (ix2 r k) * b (ix3 0 k c)) := by
  pointwise [glu]
  rw [mmTile_at, mmTile_at]

/-- A row of the stream after the unit is the specification's row of what its blocks hold. -/
theorem mixed_at (H Y : Vec Ideal S256x1024 .f32) (G D : Vec Ideal S1x1024 .f32) (a0 b0 a1 b1 a2 b2 a3 b3 : Vec Ideal S1x1024x256 .bf16) (R : Fin 256)
    {h y g d : Fin 1024 → EReal} {w : Fin 1024 → Fin 2048 → EReal}
    (h0 : ∀ c, H (ix2 R c) = h c) (h2 : ∀ c, Y (ix2 R c) = y c) (h3 : ∀ c, G (ix2 0 c) = g c) (h4 : ∀ c, D (ix2 0 c) = d c)
    (ha0 : ∀ k c, a0 (ix3 0 k c) = w k ⟨c.val, by omega⟩) (hb0 : ∀ k c, b0 (ix3 0 k c) = w k ⟨1024 + c.val, by omega⟩)
    (ha1 : ∀ k c, a1 (ix3 0 k c) = w k ⟨256 + c.val, by omega⟩) (hb1 : ∀ k c, b1 (ix3 0 k c) = w k ⟨1280 + c.val, by omega⟩)
    (ha2 : ∀ k c, a2 (ix3 0 k c) = w k ⟨512 + c.val, by omega⟩) (hb2 : ∀ k c, b2 (ix3 0 k c) = w k ⟨1536 + c.val, by omega⟩)
    (ha3 : ∀ k c, a3 (ix3 0 k c) = w k ⟨768 + c.val, by omega⟩) (hb3 : ∀ k c, b3 (ix3 0 k c) = w k ⟨1792 + c.val, by omega⟩)
    (C : Fin 1024) : mixed H Y G D a0 b0 a1 b1 a2 b2 a3 b3 (ix2 R C) = rowG h (rowA h y g d) w C := by
  have hx : ∀ c, gelu (skip H Y G D) (ix2 R c) = rowA h y g d c := by
    intro c
    rw [gelu_at, skip_at]
    simp only [h0, h2, h3, h4]
    rfl
  unfold mixed
  generalize gelu (skip H Y G D) = x at hx ⊢
  have ht : ∀ (a b : Vec Ideal S1x1024x256 .bf16) (c : Fin 256) (i j : Fin 2048), (∀ k, a (ix3 0 k c) = w k i) → (∀ k, b (ix3 0 k c) = w k j) →
      glu x a b (ix2 R c) = (∑ k, rowA h y g d k * w k i) * Ideal.logistic (∑ k, rowA h y g d k * w k j) := by
    intro a b c i j hi hj
    rw [glu_at]
    simp only [hx, hi, hj]
  pointwise
  rw [h0]
  unfold rowG
  refine congrArg (h C + ·) ?_
  have hC := C.isLt
  by_cases c0 : C.val < 256
  · refine (dif_pos c0).trans ?_
    exact ht a0 b0 _ _ _ (fun k => ha0 k _) (fun k => hb0 k _)
  refine (dif_neg c0).trans ?_
  by_cases c1 : C.val - 256 < 256
  · refine (dif_pos c1).trans ?_
    exact ht a1 b1 _ _ _ (fun k => (ha1 k _).trans (congrArg (w k) (Fin.ext (by dsimp only; omega))))
      (fun k => (hb1 k _).trans (congrArg (w k) (Fin.ext (by dsimp only; omega))))
  refine (dif_neg c1).trans ?_
  by_cases c2 : C.val - 256 - 256 < 256
  · refine (dif_pos c2).trans ?_
    exact ht a2 b2 _ _ _ (fun k => (ha2 k _).trans (congrArg (w k) (Fin.ext (by dsimp only; omega))))
      (fun k => (hb2 k _).trans (congrArg (w k) (Fin.ext (by dsimp only; omega))))
  refine (dif_neg c2).trans ?_
  exact ht a3 b3 _ _ _ (fun k => (ha3 k _).trans (congrArg (w k) (Fin.ext (by dsimp only; omega))))
    (fun k => (hb3 k _).trans (congrArg (w k) (Fin.ext (by dsimp only; omega))))

/-- A row of a half lies in the block. -/
theorem row_lt (n : Fin 2) (R : Fin 256) : 256 * n.val + R.val < 512 := by omega

variable (x0 : Vec Ideal S512x1024 .f32) (x1 : Vec Ideal S1x512x256 .f32) (x2 : Vec Ideal S512x1024 .f32) (x3 x4 : Vec Ideal S1x1024 .f32)
  (x5 : Vec Ideal S1x1024x2048 .bf16) (x6 : Vec Ideal S1x1024x4096 .bf16) (x7 : Vec Ideal S1x4096x1024 .bf16) (x8 : Vec Ideal S1x1024x1024 .bf16)
  (x9 : Vec Ideal S1x256x1024 .bf16) (x10 : Vec Ideal S1x1024 .f32) (n : Fin 2) (R : Fin 256)
  {h y g d gm gp gn : Fin 1024 → EReal} {w : Fin 1024 → Fin 2048 → EReal} {wg : Fin 1024 → Fin 1024 → EReal} {up : Fin 1024 → Fin 4096 → EReal}
  {down : Fin 4096 → Fin 1024 → EReal} {p : Fin 256 → EReal} {wp : Fin 256 → Fin 1024 → EReal}
  (h0 : ∀ c, x0 (ix2 (⟨256 * n.val + R.val, row_lt n R⟩ : Fin 512) c) = h c)
  (h1 : ∀ k, x1 (ix3 0 (⟨256 * n.val + R.val, row_lt n R⟩ : Fin 512) k) = p k)
  (h2 : ∀ c, x2 (ix2 (⟨256 * n.val + R.val, row_lt n R⟩ : Fin 512) c) = y c)
  (h3 : ∀ c, x3 (ix2 0 c) = g c) (h4 : ∀ c, x4 (ix2 0 c) = d c) (h5 : ∀ k c, x5 (ix3 0 k c) = w k c)
  (h6 : ∀ k f, x6 (ix3 0 k f) = gm k * up k f) (h7 : ∀ f c, x7 (ix3 0 f c) = down f c)
  (h8 : ∀ k c, x8 (ix3 0 k c) = gp k * wg k c) (h9 : ∀ k c, x9 (ix3 0 k c) = wp k c) (h10 : ∀ c, x10 (ix2 0 c) = gn c)

include h0 h2 h3 h4 h5 in
/-- The half's stream after the unit. -/
theorem half0_at (C : Fin 1024) : half0 x0 x2 x3 x4 x5 n (ix2 R C) = rowG h (rowA h y g d) w C := by
  unfold half0
  refine mixed_at _ _ _ _ _ _ _ _ _ _ _ _ R ?_ ?_ ?_ ?_ ?_ ?_ ?_ ?_ ?_ ?_ ?_ ?_ C
  · intro c; pointwise; exact h0 c
  · intro c; pointwise; exact h2 c
  · intro c; pointwise; exact h3 c
  · intro c; pointwise; exact h4 c
  · intro k c; pointwise; exact h5 k _
  · intro k c; pointwise; exact h5 k _
  · intro k c; pointwise; exact h5 k _
  · intro k c; pointwise; exact h5 k _
  · intro k c; pointwise; exact h5 k _
  · intro k c; pointwise; exact h5 k _
  · intro k c; pointwise; exact h5 k _
  · intro k c; pointwise; exact h5 k _

include h0 h1 h2 h3 h4 h5 h6 h7 h8 h9 in
/-- The half's stream after the layer. -/
theorem half1_at (C : Fin 1024) : half1 x0 x1 x2 x3 x4 x5 x6 x7 x8 x9 n (ix2 R C)
    = rowZ (rowY (rowG h (rowA h y g d) w) gm up down) gp wg p wp C := by
  have hx := half0_at x0 x2 x3 x4 x5 n R h0 h2 h3 h4 h5
  unfold half1
  generalize half0 x0 x2 x3 x4 x5 n = X at hx ⊢
  have hy : ∀ c, mlp X (View.ld x6 r0_10) (View.ld x7 r0_11) (View.ld x6 r0_12) (View.ld x7 r0_13) (View.ld x6 r0_14) (View.ld x7 r0_15)
      (View.ld x6 r0_16) (View.ld x7 r0_17) (ix2 R c) = rowY (rowG h (rowA h y g d) w) gm up down c := by
    intro c
    rw [mlp_at]
    simp only [hx]
    refine quarters _ gm up down _ _ _ _ _ _ _ _ ?_ ?_ ?_ ?_ ?_ ?_ ?_ ?_ c
    · intro k f; pointwise; exact h6 k _
    · intro f c; pointwise; exact h7 _ c
    · intro k f; pointwise; exact h6 k _
    · intro f c; pointwise; exact h7 _ c
    · intro k f; pointwise; exact h6 k _
    · intro f c; pointwise; exact h7 _ c
    · intro k f; pointwise; exact h6 k _
    · intro f c; pointwise; exact h7 _ c
  generalize mlp X (View.ld x6 r0_10) (View.ld x7 r0_11) (View.ld x6 r0_12) (View.ld x7 r0_13) (View.ld x6 r0_14) (View.ld x7 r0_15)
      (View.ld x6 r0_16) (View.ld x7 r0_17) = Y at hy ⊢
  have e8 : ∀ k c, View.ld x8 r0_18 (ix3 0 k c) = gp k * wg k c := by intro k c; pointwise; exact h8 k c
  have e1 : ∀ k, View.ld x1 (Rect.unit (s := S1x512x256) ![0, 256 * n.val, 0] S1x256x256.size (by intro a; fin_cases a <;> simp <;> omega)) (ix3 0 R k) = p k := by
    intro k; pointwise; exact h1 k
  have e9 : ∀ k c, View.ld x9 r0_20 (ix3 0 k c) = wp k c := by intro k c; pointwise; exact h9 k c
  rw [ple_at]
  simp only [hy]
  unfold rowZ
  rw [norm_dot]
  simp only [← e8, ← e1, ← e9]

include h0 h1 h2 h3 h4 h5 h6 h7 h8 h9 h10 in
/-- The half's normalised rows. -/
theorem half2_at (C : Fin 1024) : half2 x0 x1 x2 x3 x4 x5 x6 x7 x8 x9 x10 n (ix2 R C)
    = rowOut (rowZ (rowY (rowG h (rowA h y g d) w) gm up down) gp wg p wp) gn C := by
  have hz := half1_at x0 x1 x2 x3 x4 x5 x6 x7 x8 x9 n R h0 h1 h2 h3 h4 h5 h6 h7 h8 h9
  have e10 : ∀ c, View.ld x10 r0_1 (ix2 0 c) = gn c := by intro c; pointwise; exact h10 c
  unfold half2
  rw [norm_at]
  simp only [hz]
  unfold rowOut
  rw [← e10]

end Cert.Kernel2Ideal.Parts

end
-- ==== Proof.Reads2.lean ====
/- What the blocks of a point of the first layer's kernel hold, in terms of the kernel's arguments, at the ideal numbers. -/
module

public import proofs.«01_k».proof.Proof.Gen.Kernel2Ideal.Value
public import Idealize.ShloMosaic.Lib.Pipeline.ValueKit.Point
public import Idealize.ShloMosaic.Lib.StableHlo.ReadAt
public import Idealize.ShloMosaic.Lib.Pointwise

@[expose] public section

set_option maxRecDepth 16384

noncomputable section

namespace Cert.Kernel2Ideal.Parts

open Cert.Kernel2Ideal Cert.Kernel2Ideal.Gen Idealize.ShloMosaic Idealize.ShloMosaic.TcCoe Idealize.ShloMosaic.Pointwise Idealize.SL.Sem

variable (m : (ℓ : Loc nD τ sig) → Buf (Elt Ideal) ℓ) (c : Dev nD) (t : Fin cfg0.N)

/-- A product, its factors' type given. -/
abbrev times (a b : EReal) : EReal := a * b

/-- The windows' block indices at a point. -/
theorem index_at : ∀ t : Fin grid0.N, (win0_0.index t = ![t.val, 0] ∧ win0_1.index t = ![0, t.val, 0] ∧ win0_2.index t = ![t.val, 0]
    ∧ win0_3.index t = ![0, 0] ∧ win0_4.index t = ![0, 0] ∧ win0_5.index t = ![0, 0, 0]) ∧ (win0_6.index t = ![0, 0, 0]
    ∧ win0_7.index t = ![0, 0, 0] ∧ win0_8.index t = ![0, 0, 0] ∧ win0_9.index t = ![0, 0, 0] ∧ win0_10.index t = ![0, 0]
    ∧ win0_11.index t = ![t.val, 0] ∧ win0_12.index t = ![t.val, 0]) := by
  decide +kernel

/-- The residual stream's block. -/
theorem read0 (r : Fin 512) (k : Fin 1024) :
    iblk m c 0 t (ix2 r k) = m ((c : Thread nD τ).loc main_arg0) (ix2 (⟨512 * t.val + r.val, by have := t.isLt; change t.val < 64 at this; omega⟩ : Fin 32768) k) := by
  blk_ext [iblk, V, index_at t]

/-- The per-layer embeddings, both sequences one after the other. -/
theorem v0_at (T : Fin 32768) (k : Fin 256) : V m c main_v0 (ix3 0 T k)
    = m ((c : Thread nD τ).loc main_arg1) (ix4 0 (⟨T.val / 16384, by omega⟩ : Fin 2) (⟨T.val % 16384, by omega⟩ : Fin 16384) k) := by
  unfold V
  after_reads_at

/-- The per-layer embedding's block. -/
theorem read1 (r : Fin 512) (k : Fin 256) :
    iblk m c 1 t (ix3 0 r k) = V m c main_v0 (ix3 0 (⟨512 * t.val + r.val, by have := t.isLt; change t.val < 64 at this; omega⟩ : Fin 32768) k) := by
  blk_ext [iblk, index_at t]

/-- The state space's outputs. -/
theorem read2 (r : Fin 512) (k : Fin 1024) :
    iblk m c 2 t (ix2 r k) = m ((c : Thread nD τ).loc main_arg2) (ix2 (⟨512 * t.val + r.val, by have := t.isLt; change t.val < 64 at this; omega⟩ : Fin 32768) k) := by
  blk_ext [iblk, V, index_at t]

/-- The layer's norm factors. -/
theorem read3 (k : Fin 1024) : iblk m c 3 t (ix2 0 k) = m ((c : Thread nD τ).loc main_arg3) (ix2 0 k) := by
  have e : V m c main_v14 (ix2 0 k) = m ((c : Thread nD τ).loc main_arg3) (ix2 0 k) := by
    unfold V
    after_reads_at
  rw [← e]
  blk_ext [iblk, index_at t]

/-- The skip term's factors. -/
theorem read4 (k : Fin 1024) : iblk m c 4 t (ix2 0 k) = m ((c : Thread nD τ).loc main_arg4) (ix2 0 k) := by
  have e : V m c main_v17 (ix2 0 k) = m ((c : Thread nD τ).loc main_arg4) (ix2 0 k) := by
    unfold V
    after_reads_at
  rw [← e]
  blk_ext [iblk, index_at t]

/-- The gated linear unit's matrix. -/
theorem read5 (k : Fin 1024) (f : Fin 2048) : iblk m c 5 t (ix3 0 k f) = m ((c : Thread nD τ).loc main_arg5) (ix3 0 k f) := by
  have e : V m c main_v1 (ix3 0 k f) = m ((c : Thread nD τ).loc main_arg5) (ix3 0 k f) := by
    unfold V
    after_reads_at
  rw [← e]
  blk_ext [iblk, index_at t]

/-- The feed-forward block's first matrix, scaled by its norm. -/
theorem read6 (k : Fin 1024) (f : Fin 4096) : iblk m c 6 t (ix3 0 k f) = times (m ((c : Thread nD τ).loc main_arg6) (ix2 0 k)) (m ((c : Thread nD τ).loc main_arg7) (ix3 0 k f)) := by
  have e : V m c main_v5 (ix3 0 k f) = times (m ((c : Thread nD τ).loc main_arg6) (ix2 0 k)) (m ((c : Thread nD τ).loc main_arg7) (ix3 0 k f)) := by
    unfold V
    after_reads_at
  rw [← e]
  blk_ext [iblk, index_at t]

/-- The feed-forward block's second matrix. -/
theorem read7 (f : Fin 4096) (k : Fin 1024) : iblk m c 7 t (ix3 0 f k) = m ((c : Thread nD τ).loc main_arg8) (ix3 0 f k) := by
  have e : V m c main_v6 (ix3 0 f k) = m ((c : Thread nD τ).loc main_arg8) (ix3 0 f k) := by
    unfold V
    after_reads_at
  rw [← e]
  blk_ext [iblk, index_at t]

/-- The gate's matrix, scaled by its norm. -/
theorem read8 (k f : Fin 1024) : iblk m c 8 t (ix3 0 k f) = times (m ((c : Thread nD τ).loc main_arg9) (ix2 0 k)) (m ((c : Thread nD τ).loc main_arg10) (ix3 0 k f)) := by
  have e : V m c main_v10 (ix3 0 k f) = times (m ((c : Thread nD τ).loc main_arg9) (ix2 0 k)) (m ((c : Thread nD τ).loc main_arg10) (ix3 0 k f)) := by
    unfold V
    after_reads_at
  rw [← e]
  blk_ext [iblk, index_at t]

/-- The embedding's matrix. -/
theorem read9 (k : Fin 256) (f : Fin 1024) : iblk m c 9 t (ix3 0 k f) = m ((c : Thread nD τ).loc main_arg11) (ix3 0 k f) := by
  have e : V m c main_v11 (ix3 0 k f) = m ((c : Thread nD τ).loc main_arg11) (ix3 0 k f) := by
    unfold V
    after_reads_at
  rw [← e]
  blk_ext [iblk, index_at t]

/-- The next layer's norm factors. -/
theorem read10 (k : Fin 1024) : iblk m c 10 t (ix2 0 k) = m ((c : Thread nD τ).loc main_arg3) (ix2 1 k) := by
  have e : V m c main_v20 (ix2 0 k) = m ((c : Thread nD τ).loc main_arg3) (ix2 1 k) := by
    unfold V
    after_reads_at
  rw [← e]
  blk_ext [iblk, index_at t]

end Cert.Kernel2Ideal.Parts

end
-- ==== Proof.Final2.lean ====
/- The first layer's kernel's two result arrays, at the ideal numbers: the specification's of its arguments. -/
module

public import proofs.«01_k».proof.Proof.GluRows
public import proofs.«01_k».proof.Proof.Reads2

@[expose] public section

set_option maxRecDepth 16384

noncomputable section

namespace Cert.Kernel2Ideal.Parts

open Cert.Kernel2Ideal Cert.Kernel2Ideal.Gen Idealize.ShloMosaic Idealize.ShloMosaic.TcCoe Idealize.ShloMosaic.Pointwise Idealize.SL.Sem Cert.Spec

/-- A row of a half is a row of the point. -/
theorem half_idx (n : Fin 2) (inb : ∀ a, (![256 * n.val, 0] : Fin 2 → Nat) a + S256x1024.size a ≤ S512x1024.size a) (R : Fin 256) (C : Fin 1024) :
    (Rect.unit (s := S512x1024) ![256 * n.val, 0] S256x1024.size inb).toLoadRect.idx (ix2 R C)
      = ix2 (⟨256 * n.val + R.val, by omega⟩ : Fin 512) C := by
  funext a
  fin_cases a
  · exact Fin.ext (show 256 * n.val + 1 * R.val = 256 * n.val + R.val by rw [one_mul])
  · exact Fin.ext (show 0 + 1 * C.val = C.val by omega)

/-- Two stored halves, read back at a row and a column. -/
theorem halves_at (w : Fin 2 → FVec Ideal S256x1024 .f32) (f : ℕ → EReal) (C : Fin 1024)
    (hw : ∀ (n : Fin 2) (R : Fin 256), w n (ix2 R C) = f (256 * n.val + R.val)) (r : Fin 512) :
    View.canon ([⟨r0_21, w 1⟩, ⟨r0_0, w 0⟩] : List (View.Piece (Elt Ideal) S512x1024 .f32)) (ix2 r C) = f r.val := by
  by_cases h : r.val < 256
  · have e : ix2 r C = r0_0.emb (ix2 (⟨r.val, h⟩ : Fin 256) C) := by
      refine Eq.trans ?_ (half_idx 0 inb_S512x1024_S256x1024_0_0 ⟨r.val, h⟩ C).symm
      congr 1
      exact Fin.ext (show r.val = 256 * 0 + r.val by omega)
    rw [View.canon_cons_of_not_mem _ _ (by
      rw [Rect.mem_set_unit]
      intro hm
      have h0 : 256 ≤ r.val := (hm 0).1
      omega), e, View.canon_cons_emb]
    refine (hw 0 ⟨r.val, h⟩).trans (congrArg f ?_)
    show 256 * 0 + r.val = r.val
    omega
  · have e : ix2 r C = r0_21.emb (ix2 (⟨r.val - 256, by omega⟩ : Fin 256) C) := by
      refine Eq.trans ?_ (half_idx 1 inb_S512x1024_S256x1024_256_0 ⟨r.val - 256, by omega⟩ C).symm
      congr 1
      exact Fin.ext (show r.val = 256 * 1 + (r.val - 256) by omega)
    rw [e, View.canon_cons_emb]
    refine (hw 1 ⟨r.val - 256, by omega⟩).trans (congrArg f ?_)
    show 256 * 1 + (r.val - 256) = r.val
    omega

variable (m : (ℓ : Loc nD τ sig) → Buf (Elt Ideal) ℓ) (c : Dev nD)

/-- The stream that the specification gives for the kernel's arguments. -/
def wantH (T : Fin 32768) (C : Fin 1024) : EReal :=
  stream (fun T k => m ((c : Thread nD τ).loc main_arg0) (ix2 T k))
    (fun T k => m ((c : Thread nD τ).loc main_arg1) (ix4 0 (⟨T.val / 16384, by omega⟩ : Fin 2) (⟨T.val % 16384, by omega⟩ : Fin 16384) k))
    (fun T k => m ((c : Thread nD τ).loc main_arg2) (ix2 T k)) (fun k => m ((c : Thread nD τ).loc main_arg3) (ix2 0 k)) (fun k => m ((c : Thread nD τ).loc main_arg4) (ix2 0 k))
    (fun k f => m ((c : Thread nD τ).loc main_arg5) (ix3 0 k f)) (fun k => m ((c : Thread nD τ).loc main_arg6) (ix2 0 k)) (fun k f => m ((c : Thread nD τ).loc main_arg7) (ix3 0 k f))
    (fun f k => m ((c : Thread nD τ).loc main_arg8) (ix3 0 f k)) (fun k => m ((c : Thread nD τ).loc main_arg9) (ix2 0 k)) (fun k f => m ((c : Thread nD τ).loc main_arg10) (ix3 0 k f))
    (fun k f => m ((c : Thread nD τ).loc main_arg11) (ix3 0 k f)) T C

/-- The next layer's normalised input that the specification gives. -/
def wantN (T : Fin 32768) (C : Fin 1024) : EReal := rowOut (wantH m c T) (fun k => m ((c : Thread nD τ).loc main_arg3) (ix2 1 k)) C

variable (t : Fin cfg0.N)

/-- The number of a point. -/
theorem point_lt : t.val < 64 := t.isLt

/-- A token of a point. -/
def tok (r : ℕ) : Fin 32768 := ⟨(512 * t.val + r) % 32768, Nat.mod_lt _ (by decide)⟩

/-- The token's number. -/
theorem tok_eq (r : Fin 512) : tok t r.val = (⟨512 * t.val + r.val, by have := point_lt t; omega⟩ : Fin 32768) :=
  Fin.ext (Nat.mod_eq_of_lt (by have := point_lt t; omega))

/-- The stream's output block, element by element. -/
theorem outH_at (r : Fin 512) (C : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r C)
      = wantH m c (⟨512 * t.val + r.val, by have := point_lt t; omega⟩ : Fin 32768) C := by
  rw [out11_eq, ← tok_eq]
  refine halves_at (fun n => half1 (iblk m c 0 t) (iblk m c 1 t) (iblk m c 2 t) (iblk m c 3 t) (iblk m c 4 t) (iblk m c 5 t) (iblk m c 6 t) (iblk m c 7 t) (iblk m c 8 t) (iblk m c 9 t) n)
    (fun i => wantH m c (tok t i) C) C (fun n R => ?_) r
  have e := tok_eq t (⟨256 * n.val + R.val, by omega⟩ : Fin 512)
  refine Eq.trans ?_ (congrArg (wantH m c · C) e.symm)
  exact half1_at _ _ _ _ _ _ _ _ _ _ n R (fun k => read0 m c t _ k) (fun k => (read1 m c t _ k).trans (v0_at m c _ k)) (fun k => read2 m c t _ k)
    (fun k => read3 m c t k) (fun k => read4 m c t k) (fun k f => read5 m c t k f) (fun k f => read6 m c t k f) (fun f k => read7 m c t f k)
    (fun k f => read8 m c t k f) (fun k f => read9 m c t k f) C

/-- The normalised output block, element by element. -/
theorem outN_at (r : Fin 512) (C : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r C)
      = wantN m c (⟨512 * t.val + r.val, by have := point_lt t; omega⟩ : Fin 32768) C := by
  rw [out12_eq, ← tok_eq]
  refine halves_at (fun n => half2 (iblk m c 0 t) (iblk m c 1 t) (iblk m c 2 t) (iblk m c 3 t) (iblk m c 4 t) (iblk m c 5 t) (iblk m c 6 t) (iblk m c 7 t) (iblk m c 8 t) (iblk m c 9 t) (iblk m c 10 t) n)
    (fun i => wantN m c (tok t i) C) C (fun n R => ?_) r
  have e := tok_eq t (⟨256 * n.val + R.val, by omega⟩ : Fin 512)
  refine Eq.trans ?_ (congrArg (wantN m c · C) e.symm)
  exact half2_at _ _ _ _ _ _ _ _ _ _ _ n R (fun k => read0 m c t _ k) (fun k => (read1 m c t _ k).trans (v0_at m c _ k)) (fun k => read2 m c t _ k)
    (fun k => read3 m c t k) (fun k => read4 m c t k) (fun k f => read5 m c t k f) (fun k f => read6 m c t k f) (fun f k => read7 m c t f k)
    (fun k f => read8 m c t k f) (fun k f => read9 m c t k f) (fun k => read10 m c t k) C

/-- The stream's array after the run is the specification's. -/
theorem finalH_eq : (dats m 0 c).arrAt 11 cfg0.N = fun y => wantH m c (y 0) (y 1) := by
  refine (dats m 0 c).arrAt_eq_of_covers 11 _ (by decide +kernel) fun t hf y => ?_
  blk_simp
  rw [after0_11]
  obtain ⟨r, C, rfl⟩ : ∃ (r : Fin 512) (C : Fin 1024), y = ix2 r C := ⟨_, _, eq_ix2 (n0 := 512) (n1 := 1024) y⟩
  refine (outH_at m c t r C).trans ?_
  refine congrArg₂ (wantH m c) (Fin.ext ?_) (Fin.ext ?_)
  · blk_simp [index_at t]
    exact congrArg (· + r.val) (mul_comm 512 t.val)
  · blk_simp [index_at t]

/-- The normalised array after the run is the specification's. -/
theorem finalN_eq : (dats m 0 c).arrAt 12 cfg0.N = fun y => wantN m c (y 0) (y 1) := by
  refine (dats m 0 c).arrAt_eq_of_covers 12 _ (by decide +kernel) fun t hf y => ?_
  blk_simp
  rw [after0_12]
  obtain ⟨r, C, rfl⟩ : ∃ (r : Fin 512) (C : Fin 1024), y = ix2 r C := ⟨_, _, eq_ix2 (n0 := 512) (n1 := 1024) y⟩
  refine (outN_at m c t r C).trans ?_
  refine congrArg₂ (wantN m c) (Fin.ext ?_) (Fin.ext ?_)
  · blk_simp [index_at t]
    exact congrArg (· + r.val) (mul_comm 512 t.val)
  · blk_simp [index_at t]

end Cert.Kernel2Ideal.Parts

end
-- ==== Proof.RefFirst.lean ====
/- The first layer's reference, read at an index at the ideal numbers: each token's rows are the specification's. -/
module

public import proofs.«01_k».proof.Proof.Gen.Reference2Ideal.Read
public import proofs.«01_k».proof.Proof.Spec2
public import Idealize.ShloMosaic.Lib.Pointwise
public import Idealize.ShloMosaic.Lib.Tactic.CleanTypes

@[expose] public section

set_option maxRecDepth 16384

noncomputable section

namespace Cert.RefRead2

open Cert.Reference2Ideal Cert.Reference2Ideal.Read Idealize.ShloMosaic Idealize.ShloMosaic.Pointwise Cert.Scalars Cert.Spec

variable (x0 : Vec Ideal S32768x1024 .f32) (x1 : Vec Ideal S4x2x16384x256 .f32) (x2 : Vec Ideal S32768x1024 .f32)
  (x3 : Vec Ideal S4x1024 .f32) (x4 : Vec Ideal S2x1024 .f32) (x5 : Vec Ideal S2x1024x2048 .f32) (x6 : Vec Ideal S4x1024 .f32)
  (x7 : Vec Ideal S4x1024x4096 .f32) (x8 : Vec Ideal S4x4096x1024 .f32) (x9 : Vec Ideal S4x1024 .f32) (x10 : Vec Ideal S4x1024x1024 .f32)
  (x11 : Vec Ideal S4x256x1024 .f32) (t : Fin 32768)

/-- The layer's normalised input. -/
theorem u_at (c : Fin 1024) : val_main_v14 (F := Ideal) x0 x3 (ix2 t c)
    = x0 (ix2 t c) * inv (fun k => x0 (ix2 t k)) * x3 (ix2 0 c) := by
  unfold val_main_v14 val_main_v13 val_main_v12 val_main_v11 val_main_v10 val_main_v9 val_main_v8 val_main_v7 val_main_v6 val_main_v5 val_main_v4
    val_main_v3 val_main_v2 val_main_v1 val_main_v0 val_main_cst val_main_cst_0 val_main_cst_1
  clean_types
  pointwise
  rfl

/-- The activation's argument. -/
theorem arg_at (c : Fin 1024) : val_main_v20 (F := Ideal) x0 x2 x3 x4 (ix2 t c)
    = x2 (ix2 t c) + x4 (ix2 0 c) * val_main_v14 (F := Ideal) x0 x3 (ix2 t c) := by
  unfold val_main_v20 val_main_v19 val_main_v18 val_main_v17 val_main_v16 val_main_v15
  clean_types
  pointwise

/-- The activation. -/
theorem act_at (c : Fin 1024) : val_main_v33 (F := Ideal) x0 x2 x3 x4 (ix2 t c) = gelu (val_main_v20 (F := Ideal) x0 x2 x3 x4 (ix2 t c)) := by
  unfold val_main_v33 val_main_v32 val_main_v31 val_main_v30 val_main_v29 val_main_v28 val_main_v27 val_main_v26 val_main_v25 val_main_v24 val_main_v23
    val_main_v22 val_main_v21 val_main_cst_2 val_main_cst_3 val_main_cst_4 val_main_cst_5
  clean_types
  pointwise
  exact gelu_comm _

/-- The activation's row. -/
theorem a_at (c : Fin 1024) : val_main_v33 (F := Ideal) x0 x2 x3 x4 (ix2 t c)
    = rowA (fun k => x0 (ix2 t k)) (fun k => x2 (ix2 t k)) (fun k => x3 (ix2 0 k)) (fun k => x4 (ix2 0 k)) c := by
  rw [act_at, arg_at, u_at]
  rfl

/-- The gated linear unit's product. -/
theorem ab_at (f : Fin 2048) : val_main_v36 (F := Ideal) x0 x2 x3 x4 x5 (ix2 t f)
    = ∑ k : Fin 1024, val_main_v33 (F := Ideal) x0 x2 x3 x4 (ix2 t k) * x5 (ix3 0 k f) := by
  unfold val_main_v36 val_main_v35 val_main_v34
  clean_types
  pointwise

/-- The gated linear unit added. -/
theorem g_at (c : Fin 1024) : val_main_v46 (F := Ideal) x0 x2 x3 x4 x5 (ix2 t c)
    = rowG (fun k => x0 (ix2 t k)) (fun k => val_main_v33 (F := Ideal) x0 x2 x3 x4 (ix2 t k)) (fun k f => x5 (ix3 0 k f)) c := by
  unfold val_main_v46 val_main_v45 val_main_v44 val_main_v43 val_main_v42 val_main_v41 val_main_v40 val_main_v39 val_main_v38 val_main_v37
    val_main_cst_6 val_main_cst_7
  clean_types
  pointwise
  simp only [ab_at]
  rfl

/-- A row times its reciprocal root mean square. -/
theorem xn_at (c : Fin 1024) : val_main_v58 (F := Ideal) x0 x2 x3 x4 x5 (ix2 t c)
    = val_main_v46 (F := Ideal) x0 x2 x3 x4 x5 (ix2 t c) * inv fun k => val_main_v46 (F := Ideal) x0 x2 x3 x4 x5 (ix2 t k) := by
  unfold val_main_v58 val_main_v57 val_main_v56 val_main_v55 val_main_v54 val_main_v53 val_main_v52 val_main_v51 val_main_v50 val_main_v49
    val_main_cst_8 val_main_cst_9 val_main_cst_10
  clean_types
  pointwise
  rfl

/-- The feed-forward block's squared positive part. -/
theorem sq_at (f : Fin 4096) : val_main_v67 (F := Ideal) x0 x2 x3 x4 x5 x6 x7 (ix2 t f)
    = max (∑ k, val_main_v58 (F := Ideal) x0 x2 x3 x4 x5 (ix2 t k) * x6 (ix2 0 k) * x7 (ix3 0 k f)) 0
      * max (∑ k, val_main_v58 (F := Ideal) x0 x2 x3 x4 x5 (ix2 t k) * x6 (ix2 0 k) * x7 (ix3 0 k f)) 0 := by
  unfold val_main_v67 val_main_v66 val_main_v65 val_main_v64 val_main_v63 val_main_v62 val_main_v61 val_main_v60 val_main_v59 val_main_v48 val_main_v47
    val_main_cst_11
  clean_types
  pointwise

/-- The feed-forward block added. -/
theorem y_at (c : Fin 1024) : val_main_v71 (F := Ideal) x0 x2 x3 x4 x5 x6 x7 x8 (ix2 t c)
    = rowY (fun k => val_main_v46 (F := Ideal) x0 x2 x3 x4 x5 (ix2 t k)) (fun k => x6 (ix2 0 k)) (fun k f => x7 (ix3 0 k f))
        (fun f k => x8 (ix3 0 f k)) c := by
  unfold val_main_v71 val_main_v70 val_main_v69 val_main_v68
  clean_types
  pointwise
  simp only [sq_at, xn_at]
  rfl

/-- The second norm's row. -/
theorem yn_at (c : Fin 1024) : val_main_v83 (F := Ideal) x0 x2 x3 x4 x5 x6 x7 x8 (ix2 t c)
    = val_main_v71 (F := Ideal) x0 x2 x3 x4 x5 x6 x7 x8 (ix2 t c)
      * inv fun k => val_main_v71 (F := Ideal) x0 x2 x3 x4 x5 x6 x7 x8 (ix2 t k) := by
  unfold val_main_v83 val_main_v82 val_main_v81 val_main_v80 val_main_v79 val_main_v78 val_main_v77 val_main_v76 val_main_v75 val_main_v74
    val_main_cst_12 val_main_cst_13 val_main_cst_14
  clean_types
  pointwise
  rfl

/-- The gate's argument. -/
theorem pre_at (c : Fin 1024) : val_main_v89 (F := Ideal) x0 x2 x3 x4 x5 x6 x7 x8 x9 x10 (ix2 t c)
    = ∑ k, val_main_v83 (F := Ideal) x0 x2 x3 x4 x5 x6 x7 x8 (ix2 t k) * x9 (ix2 0 k) * x10 (ix3 0 k c) := by
  unfold val_main_v89 val_main_v88 val_main_v87 val_main_v86 val_main_v85 val_main_v84 val_main_v73 val_main_v72
  clean_types
  pointwise

/-- The gate. -/
theorem gate_at (c : Fin 1024) : val_main_v95 (F := Ideal) x0 x2 x3 x4 x5 x6 x7 x8 x9 x10 (ix2 t c)
    = Ideal.logistic (val_main_v89 (F := Ideal) x0 x2 x3 x4 x5 x6 x7 x8 x9 x10 (ix2 t c)) := by
  unfold val_main_v95 val_main_v94 val_main_v93 val_main_v92 val_main_v91 val_main_v90 val_main_cst_15 val_main_cst_16
  clean_types
  pointwise
  rfl

/-- The embedding's product. -/
theorem emb_at (c : Fin 1024) : val_main_v101 (F := Ideal) x1 x11 (ix2 t c)
    = ∑ k : Fin 256, x1 (ix4 0 (⟨t.val / 16384, by omega⟩ : Fin 2) (⟨t.val % 16384, by omega⟩ : Fin 16384) k) * x11 (ix3 0 k c) := by
  unfold val_main_v101 val_main_v100 val_main_v99 val_main_v98 val_main_v97 val_main_v96
  clean_types
  pointwise

/-- The gated embedding added. -/
theorem z_at (c : Fin 1024) : val_main_v103 (F := Ideal) x0 x1 x2 x3 x4 x5 x6 x7 x8 x9 x10 x11 (ix2 t c)
    = rowZ (fun k => val_main_v71 (F := Ideal) x0 x2 x3 x4 x5 x6 x7 x8 (ix2 t k)) (fun k => x9 (ix2 0 k)) (fun k f => x10 (ix3 0 k f))
        (fun k => x1 (ix4 0 (⟨t.val / 16384, by omega⟩ : Fin 2) (⟨t.val % 16384, by omega⟩ : Fin 16384) k)) (fun k f => x11 (ix3 0 k f)) c := by
  unfold val_main_v103 val_main_v102
  clean_types
  pointwise
  rw [gate_at, pre_at, emb_at]
  simp only [yn_at]
  rfl

/-- The next layer's normalised input. -/
theorem next_at (c : Fin 1024) : val_main_v118 (F := Ideal) x0 x1 x2 x3 x4 x5 x6 x7 x8 x9 x10 x11 (ix2 t c)
    = rowOut (fun k => val_main_v103 (F := Ideal) x0 x1 x2 x3 x4 x5 x6 x7 x8 x9 x10 x11 (ix2 t k)) (fun k => x3 (ix2 1 k)) c := by
  unfold val_main_v118 val_main_v117 val_main_v116 val_main_v115 val_main_v114 val_main_v113 val_main_v112 val_main_v111 val_main_v110 val_main_v109 val_main_v108
    val_main_v107 val_main_v106 val_main_v105 val_main_v104 val_main_cst_17 val_main_cst_18 val_main_cst_19
  clean_types
  pointwise
  rfl

/-- The reference's stream for a token and a column is the specification's. -/
theorem stream_at (c : Fin 1024) : (val_main_v103 (F := Ideal) x0 x1 x2 x3 x4 x5 x6 x7 x8 x9 x10 x11 (ix2 t c) : EReal)
    = stream (fun T k => x0 (ix2 T k)) (fun T k => x1 (ix4 0 (⟨T.val / 16384, by omega⟩ : Fin 2) (⟨T.val % 16384, by omega⟩ : Fin 16384) k))
        (fun T k => x2 (ix2 T k)) (fun k => x3 (ix2 0 k)) (fun k => x4 (ix2 0 k)) (fun k f => x5 (ix3 0 k f)) (fun k => x6 (ix2 0 k))
        (fun k f => x7 (ix3 0 k f)) (fun f k => x8 (ix3 0 f k)) (fun k => x9 (ix2 0 k)) (fun k f => x10 (ix3 0 k f)) (fun k f => x11 (ix3 0 k f)) t c := by
  have hA := funext (a_at x0 x2 x3 x4 t)
  have hG := funext (g_at x0 x2 x3 x4 x5 t)
  rw [hA] at hG
  have hY := funext (y_at x0 x2 x3 x4 x5 x6 x7 x8 t)
  rw [hG] at hY
  have hZ := z_at x0 x1 x2 x3 x4 x5 x6 x7 x8 x9 x10 x11 t c
  rw [hY] at hZ
  exact hZ

end Cert.RefRead2

end
-- ==== Proof.Meet2.lean ====
/- The first layer's two programs' results at the ideal numbers agree. -/
module

public import proofs.«01_k».proof.Proof.Final2
public import proofs.«01_k».proof.Proof.RefFirst

@[expose] public section

set_option maxRecDepth 16384

noncomputable section

namespace Cert.Meet2

open Idealize.ShloMosaic Idealize.ShloMosaic.Pointwise

variable (x0 : Vec Ideal Cert.Reference2Ideal.S32768x1024 .f32) (x1 : Vec Ideal Cert.Reference2Ideal.S4x2x16384x256 .f32)
  (x2 : Vec Ideal Cert.Reference2Ideal.S32768x1024 .f32) (x3 : Vec Ideal Cert.Reference2Ideal.S4x1024 .f32)
  (x4 : Vec Ideal Cert.Reference2Ideal.S2x1024 .f32) (x5 : Vec Ideal Cert.Reference2Ideal.S2x1024x2048 .f32)
  (x6 : Vec Ideal Cert.Reference2Ideal.S4x1024 .f32) (x7 : Vec Ideal Cert.Reference2Ideal.S4x1024x4096 .f32)
  (x8 : Vec Ideal Cert.Reference2Ideal.S4x4096x1024 .f32) (x9 : Vec Ideal Cert.Reference2Ideal.S4x1024 .f32)
  (x10 : Vec Ideal Cert.Reference2Ideal.S4x1024x1024 .f32) (x11 : Vec Ideal Cert.Reference2Ideal.S4x256x1024 .f32)
  (m : (ℓ : Loc Cert.Kernel2Ideal.nD Cert.Kernel2Ideal.τ Cert.Kernel2Ideal.sig) → Buf (Elt Ideal) ℓ) (c : Dev Cert.Kernel2Ideal.nD)
  (e0 : x0 = m ((c.tc : Thread Cert.Kernel2Ideal.nD Cert.Kernel2Ideal.τ).loc Cert.Kernel2Ideal.main_arg0))
  (e1 : x1 = m ((c.tc : Thread Cert.Kernel2Ideal.nD Cert.Kernel2Ideal.τ).loc Cert.Kernel2Ideal.main_arg1))
  (e2 : x2 = m ((c.tc : Thread Cert.Kernel2Ideal.nD Cert.Kernel2Ideal.τ).loc Cert.Kernel2Ideal.main_arg2))
  (e3 : x3 = m ((c.tc : Thread Cert.Kernel2Ideal.nD Cert.Kernel2Ideal.τ).loc Cert.Kernel2Ideal.main_arg3))
  (e4 : x4 = m ((c.tc : Thread Cert.Kernel2Ideal.nD Cert.Kernel2Ideal.τ).loc Cert.Kernel2Ideal.main_arg4))
  (e5 : x5 = m ((c.tc : Thread Cert.Kernel2Ideal.nD Cert.Kernel2Ideal.τ).loc Cert.Kernel2Ideal.main_arg5))
  (e6 : x6 = m ((c.tc : Thread Cert.Kernel2Ideal.nD Cert.Kernel2Ideal.τ).loc Cert.Kernel2Ideal.main_arg6))
  (e7 : x7 = m ((c.tc : Thread Cert.Kernel2Ideal.nD Cert.Kernel2Ideal.τ).loc Cert.Kernel2Ideal.main_arg7))
  (e8 : x8 = m ((c.tc : Thread Cert.Kernel2Ideal.nD Cert.Kernel2Ideal.τ).loc Cert.Kernel2Ideal.main_arg8))
  (e9 : x9 = m ((c.tc : Thread Cert.Kernel2Ideal.nD Cert.Kernel2Ideal.τ).loc Cert.Kernel2Ideal.main_arg9))
  (e10 : x10 = m ((c.tc : Thread Cert.Kernel2Ideal.nD Cert.Kernel2Ideal.τ).loc Cert.Kernel2Ideal.main_arg10))
  (e11 : x11 = m ((c.tc : Thread Cert.Kernel2Ideal.nD Cert.Kernel2Ideal.τ).loc Cert.Kernel2Ideal.main_arg11))

include e0 e1 e2 e3 e4 e5 e6 e7 e8 e9 e10 e11 in
/-- From the same arguments the reference's stream is the kernel's. -/
theorem meetH : Cert.Reference2Ideal.Read.val_main_v103 (F := Ideal) x0 x1 x2 x3 x4 x5 x6 x7 x8 x9 x10 x11
    = (Cert.Kernel2Ideal.Gen.dats m 0 c).arrAt 11 Cert.Kernel2Ideal.cfg0.N := by
  rw [Cert.Kernel2Ideal.Parts.finalH_eq]
  funext y
  obtain ⟨t, C, rfl⟩ : ∃ (t : Fin 32768) (C : Fin 1024), y = ix2 t C := ⟨_, _, eq_ix2 (n0 := 32768) (n1 := 1024) y⟩
  subst e0 e1 e2 e3 e4 e5 e6 e7 e8 e9 e10 e11
  exact (Cert.RefRead2.stream_at _ _ _ _ _ _ _ _ _ _ _ _ t C).trans rfl

include e0 e1 e2 e3 e4 e5 e6 e7 e8 e9 e10 e11 in
/-- From the same arguments the reference's normalised rows are the kernel's. -/
theorem meetN : Cert.Reference2Ideal.Read.val_main_v118 (F := Ideal) x0 x1 x2 x3 x4 x5 x6 x7 x8 x9 x10 x11
    = (Cert.Kernel2Ideal.Gen.dats m 0 c).arrAt 12 Cert.Kernel2Ideal.cfg0.N := by
  rw [Cert.Kernel2Ideal.Parts.finalN_eq]
  funext y
  obtain ⟨t, C, rfl⟩ : ∃ (t : Fin 32768) (C : Fin 1024), y = ix2 t C := ⟨_, _, eq_ix2 (n0 := 32768) (n1 := 1024) y⟩
  have hs := funext (Cert.RefRead2.stream_at x0 x1 x2 x3 x4 x5 x6 x7 x8 x9 x10 x11 t)
  have hn := Cert.RefRead2.next_at x0 x1 x2 x3 x4 x5 x6 x7 x8 x9 x10 x11 t C
  rw [hs] at hn
  subst e0 e1 e2 e3 e4 e5 e6 e7 e8 e9 e10 e11
  exact hn.trans rfl

end Cert.Meet2

end
-- ==== Proof.Kvq.lean ====
/- The pieces of the second layer's kernel as functions of the blocks they read, at any number format: the layer is
   the first layer's, and from its stream come the queries, keys and values, the first two turned by position. -/
module

public import proofs.«01_k».proof.Proof.Glu
public import proofs.«01_k».proof.Proof.Gen.Kernel3Ideal.Frame

@[expose] public section

set_option maxRecDepth 16384

noncomputable section

namespace Cert.Kernel3Ideal.Parts

open Cert.Kernel3Ideal Cert.Kernel3Ideal.Gen Idealize.ShloMosaic Idealize.SL.Sem
open Cert.KernelIdeal.Parts (invRms mm)

variable {F : FTy → Type} [FloatOps F] [Named F]

/-- A word's remainder by a modulus, taken to the modulus's sign. -/
def modulo (x : IVec S256x128 32) (w : BitVec 32) : IVec S256x128 32 :=
  have b : BitVec 32 := Scalar.select (Scalar.cmpi .eq w 0#32) 1#32 w
  have q : IVec S256x128 32 := remsi x (broadcast S256x128 b)
  select (andi (xori (cmpi .slt q (broadcast S256x128 0#32)) (broadcastTo S256x128 (broadcast S256x128 (Scalar.cmpi .slt b 0#32)) broadcasts_S256x128_S256x128))
      (cmpi .ne q (broadcast S256x128 0#32)))
    (addi q (broadcast S256x128 b)) q

/-- The angle of each row's position and each lane's frequency. -/
def angle (a off : BitVec 32) (x : Vec F S1x128 .f32) : FVec F S256x128 .f32 :=
  mulf (sitofp .f32 (modulo (addi (broadcast S256x128 (Scalar.addi (Scalar.muli a 512#32) off)) (iota .tc S256x128 32 [0] iota_S256x128_d0_w32)) 16384#32))
    (broadcastTo S256x128 (shapeCast S1x128 x shapeCasts_S1x128_S1x128) broadcasts_S1x128_S256x128)

/-- A pair of heads turned by their angles. -/
def turned (x a : FVec F S256x128 .f32) : FVec F S256x128 .f32 :=
  addf (mulf x (cos a))
    (mulf (select (cmpi .slt (modulo (iota .tc S256x128 32 [1] iota_S256x128_d1_w32) 64#32) (broadcast S256x128 8#32))
        (subf (broadcast S256x128 (Scalar.ofBits .f32 0x00000000#32)) (dynamicRotate 1 120#32 none x rotates_S256x128_d1))
        (dynamicRotate 1 8#32 none x rotates_S256x128_d1))
      (sin a))

/-- One head of a pair twice: the first where `b`, else the second. -/
def twice (x : FVec F S256x128 .f32) (b : Bool) : FVec F S1x256x128 .bf16 :=
  shapeCast S1x256x128 (truncf .bf16 (select (cmpi .slt (iota .tc S256x128 32 [1] iota_S256x128_d1_w32) (broadcast S256x128 64#32))
    (bif b then x else dynamicRotate 1 64#32 none x rotates_S256x128_d1) (bif b then dynamicRotate 1 64#32 none x rotates_S256x128_d1 else x))
    bitsLt_bf16_f32) shapeCasts_S256x128_S1x256x128

/-- A product of the stream's rows with a 256-column matrix. -/
def mmKv (z : FVec F S256x1024 .f32) (w : Vec F S1024x256 .bf16) : FVec F S256x256 .f32 :=
  matmul dot_S256x1024_S1024x256_S256x256_1_0_0_1_n_n none (truncf .bf16 z bitsLt_bf16_f32 : FVec F S256x1024 .bf16)
    (shapeCast S1024x256 w shapeCasts_S1024x256_S1024x256) (constant S256x256 .f32 0x00000000#32)

/-- 128 columns of such a product, normalised. -/
def colsKv (z : FVec F S256x1024 .f32) (w : Vec F S1024x256 .bf16) (o : ℕ) (h : S256x256.Slices ![0, o] S256x128) : FVec F S256x128 .f32 :=
  mulf (extractStridedSlice S256x128 ![0, o] (mmKv z w) h) (broadcastTo S256x128 (invRms z) broadcasts_S256x1_S256x128)

/-- 128 columns of the queries, normalised and scaled. -/
def colsQ (z : FVec F S256x1024 .f32) (w : Vec F S1x1024x1024 .bf16) (o : ℕ) (h : S256x1024.Slices ![0, o] S256x128) : FVec F S256x128 .f32 :=
  mulf (extractStridedSlice S256x128 ![0, o] (mm (truncf .bf16 z bitsLt_bf16_f32) w : FVec F S256x1024 .f32) h)
    (broadcastTo S256x128 (mulf (invRms z) (broadcast S256x1 (Scalar.ofBits .f32 0x3E000000#32))) broadcasts_S256x1_S256x128)

variable (i : grid0.Coords) (x0 : Vec F S512x1024 .f32) (x1 : Vec F S1x512x256 .f32) (x2 : Vec F S512x1024 .f32) (x3 x4 : Vec F S1x1024 .f32)
  (x5 : Vec F S1x1024x2048 .bf16) (x6 : Vec F S1x1024x4096 .bf16) (x7 : Vec F S1x4096x1024 .bf16) (x8 : Vec F S1x1024x1024 .bf16)
  (x9 : Vec F S1x256x1024 .bf16) (x10 : Vec F S1x1024x1024 .bf16) (x11 : Vec F S1x128 .f32) (x12 x13 : Vec F S1024x256 .bf16)

/-- The stream after the layer, for half of a point's rows. -/
def after (n : Fin 2) : FVec F S256x1024 .f32 := Cert.Kernel2Ideal.Parts.half1 x0 x1 x2 x3 x4 x5 x6 x7 x8 x9 n

/-- The angles of half of a point's rows. -/
def angles (off : BitVec 32) : FVec F S256x128 .f32 := angle (BitVec.ofNat 32 (i 0).val) off (View.ld x11 r0_21)

/-- A pair of query heads. -/
def qTile (n : Fin 2) (off : BitVec 32) (o : ℕ) (h : S256x1024.Slices ![0, o] S256x128) : FVec F S1x256x128 .bf16 :=
  shapeCast S1x256x128 (truncf .bf16 (turned (colsQ (after x0 x1 x2 x3 x4 x5 x6 x7 x8 x9 n) (View.ld x10 r0_18) o h) (angles i x11 off)) bitsLt_bf16_f32)
    shapeCasts_S256x128_S1x256x128

/-- A key head, twice. -/
def kTile (n : Fin 2) (off : BitVec 32) (o : ℕ) (h : S256x256.Slices ![0, o] S256x128) (b : Bool) : FVec F S1x256x128 .bf16 :=
  twice (turned (colsKv (after x0 x1 x2 x3 x4 x5 x6 x7 x8 x9 n) (View.ld x12 r0_22) o h) (angles i x11 off)) b

/-- A value head, twice. -/
def vTile (n : Fin 2) (o : ℕ) (h : S256x256.Slices ![0, o] S256x128) (b : Bool) : FVec F S1x256x128 .bf16 :=
  twice (colsKv (after x0 x1 x2 x3 x4 x5 x6 x7 x8 x9 n) (View.ld x13 r0_22) o h) b

/-- Pieces over one rectangle with the same payload. -/
theorem piece_congr {s : Shape} {e : EltTy} {r : Rect s} {w w' : r.shape.Idx → Elt F e} (h : w = w') :
    (⟨r, w⟩ : View.Piece (Elt F) s e) = ⟨r, w'⟩ := by rw [h]

/-- The stream's output block: its two halves. -/
theorem out14_eq : out0_14 i x0 x1 x2 x3 x4 x5 x6 x7 x8 x9 x10 x11 x12 x13
    = View.canon [⟨r0_35, after x0 x1 x2 x3 x4 x5 x6 x7 x8 x9 1⟩, ⟨r0_0, after x0 x1 x2 x3 x4 x5 x6 x7 x8 x9 0⟩] := by
  unfold out0_14
  exact congrArg View.canon (congrArg₂ List.cons (piece_congr (F := F) (s := S512x1024) (e := .f32) rfl) (congrArg₂ List.cons (piece_congr (F := F) (s := S512x1024) (e := .f32) rfl) rfl))

/-- The queries' output block: eight pairs of heads in two halves. -/
theorem out15_eq : out0_15 i x0 x1 x2 x3 x4 x5 x6 x7 x8 x9 x10 x11 x12 x13
    = View.canon [⟨r0_44, qTile i x0 x1 x2 x3 x4 x5 x6 x7 x8 x9 x10 x11 1 256#32 896 slices_S256x1024_o0_896_S256x128⟩,
      ⟨r0_43, qTile i x0 x1 x2 x3 x4 x5 x6 x7 x8 x9 x10 x11 1 256#32 768 slices_S256x1024_o0_768_S256x128⟩,
      ⟨r0_42, qTile i x0 x1 x2 x3 x4 x5 x6 x7 x8 x9 x10 x11 1 256#32 640 slices_S256x1024_o0_640_S256x128⟩,
      ⟨r0_41, qTile i x0 x1 x2 x3 x4 x5 x6 x7 x8 x9 x10 x11 1 256#32 512 slices_S256x1024_o0_512_S256x128⟩,
      ⟨r0_40, qTile i x0 x1 x2 x3 x4 x5 x6 x7 x8 x9 x10 x11 1 256#32 384 slices_S256x1024_o0_384_S256x128⟩,
      ⟨r0_39, qTile i x0 x1 x2 x3 x4 x5 x6 x7 x8 x9 x10 x11 1 256#32 256 slices_S256x1024_o0_256_S256x128⟩,
      ⟨r0_38, qTile i x0 x1 x2 x3 x4 x5 x6 x7 x8 x9 x10 x11 1 256#32 128 slices_S256x1024_o0_128_S256x128⟩,
      ⟨r0_37, qTile i x0 x1 x2 x3 x4 x5 x6 x7 x8 x9 x10 x11 1 256#32 0 slices_S256x1024_o0_0_S256x128⟩,
      ⟨r0_30, qTile i x0 x1 x2 x3 x4 x5 x6 x7 x8 x9 x10 x11 0 0#32 896 slices_S256x1024_o0_896_S256x128⟩,
      ⟨r0_29, qTile i x0 x1 x2 x3 x4 x5 x6 x7 x8 x9 x10 x11 0 0#32 768 slices_S256x1024_o0_768_S256x128⟩,
      ⟨r0_28, qTile i x0 x1 x2 x3 x4 x5 x6 x7 x8 x9 x10 x11 0 0#32 640 slices_S256x1024_o0_640_S256x128⟩,
      ⟨r0_27, qTile i x0 x1 x2 x3 x4 x5 x6 x7 x8 x9 x10 x11 0 0#32 512 slices_S256x1024_o0_512_S256x128⟩,
      ⟨r0_26, qTile i x0 x1 x2 x3 x4 x5 x6 x7 x8 x9 x10 x11 0 0#32 384 slices_S256x1024_o0_384_S256x128⟩,
      ⟨r0_25, qTile i x0 x1 x2 x3 x4 x5 x6 x7 x8 x9 x10 x11 0 0#32 256 slices_S256x1024_o0_256_S256x128⟩,
      ⟨r0_24, qTile i x0 x1 x2 x3 x4 x5 x6 x7 x8 x9 x10 x11 0 0#32 128 slices_S256x1024_o0_128_S256x128⟩,
      ⟨r0_23, qTile i x0 x1 x2 x3 x4 x5 x6 x7 x8 x9 x10 x11 0 0#32 0 slices_S256x1024_o0_0_S256x128⟩] := by
  unfold out0_15
  exact congrArg View.canon ((congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) (congrArg₂ List.cons (piece_congr (F := F) (s := S8x512x128) (e := .bf16) rfl) rfl)))))))))))))))))

/-- The keys' output block: four heads in two halves. -/
theorem out16_eq : out0_16 i x0 x1 x2 x3 x4 x5 x6 x7 x8 x9 x10 x11 x12 x13
    = View.canon [⟨r0_48, kTile i x0 x1 x2 x3 x4 x5 x6 x7 x8 x9 x11 x12 1 256#32 128 slices_S256x256_o0_128_S256x128 false⟩,
      ⟨r0_47, kTile i x0 x1 x2 x3 x4 x5 x6 x7 x8 x9 x11 x12 1 256#32 128 slices_S256x256_o0_128_S256x128 true⟩,
      ⟨r0_46, kTile i x0 x1 x2 x3 x4 x5 x6 x7 x8 x9 x11 x12 1 256#32 0 slices_S256x256_o0_0_S256x128 false⟩,
      ⟨r0_45, kTile i x0 x1 x2 x3 x4 x5 x6 x7 x8 x9 x11 x12 1 256#32 0 slices_S256x256_o0_0_S256x128 true⟩,
      ⟨r0_34, kTile i x0 x1 x2 x3 x4 x5 x6 x7 x8 x9 x11 x12 0 0#32 128 slices_S256x256_o0_128_S256x128 false⟩,
      ⟨r0_33, kTile i x0 x1 x2 x3 x4 x5 x6 x7 x8 x9 x11 x12 0 0#32 128 slices_S256x256_o0_128_S256x128 true⟩,
      ⟨r0_32, kTile i x0 x1 x2 x3 x4 x5 x6 x7 x8 x9 x11 x12 0 0#32 0 slices_S256x256_o0_0_S256x128 false⟩,
      ⟨r0_31, kTile i x0 x1 x2 x3 x4 x5 x6 x7 x8 x9 x11 x12 0 0#32 0 slices_S256x256_o0_0_S256x128 true⟩] := by
  unfold out0_16
  exact congrArg View.canon ((congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) rfl)))))))))

/-- The values' output block: four heads in two halves. -/
theorem out17_eq : out0_17 i x0 x1 x2 x3 x4 x5 x6 x7 x8 x9 x10 x11 x12 x13
    = View.canon [⟨r0_48, vTile x0 x1 x2 x3 x4 x5 x6 x7 x8 x9 x13 1 128 slices_S256x256_o0_128_S256x128 false⟩,
      ⟨r0_47, vTile x0 x1 x2 x3 x4 x5 x6 x7 x8 x9 x13 1 128 slices_S256x256_o0_128_S256x128 true⟩,
      ⟨r0_46, vTile x0 x1 x2 x3 x4 x5 x6 x7 x8 x9 x13 1 0 slices_S256x256_o0_0_S256x128 false⟩,
      ⟨r0_45, vTile x0 x1 x2 x3 x4 x5 x6 x7 x8 x9 x13 1 0 slices_S256x256_o0_0_S256x128 true⟩,
      ⟨r0_34, vTile x0 x1 x2 x3 x4 x5 x6 x7 x8 x9 x13 0 128 slices_S256x256_o0_128_S256x128 false⟩,
      ⟨r0_33, vTile x0 x1 x2 x3 x4 x5 x6 x7 x8 x9 x13 0 128 slices_S256x256_o0_128_S256x128 true⟩,
      ⟨r0_32, vTile x0 x1 x2 x3 x4 x5 x6 x7 x8 x9 x13 0 0 slices_S256x256_o0_0_S256x128 false⟩,
      ⟨r0_31, vTile x0 x1 x2 x3 x4 x5 x6 x7 x8 x9 x13 0 0 slices_S256x256_o0_0_S256x128 true⟩] := by
  unfold out0_17
  exact congrArg View.canon ((congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) (congrArg₂ List.cons (piece_congr (F := F) (s := S4x512x128) (e := .bf16) rfl) rfl)))))))))

end Cert.Kernel3Ideal.Parts

end
-- ==== Proof.Spec3.lean ====
/- Queries, keys and values of one token, over the extended reals: a normalised row times a column, and a head turned by
   the angles of its token's position. -/
module

public import proofs.«01_k».proof.Proof.Spec2

@[expose] public section

noncomputable section

namespace Cert.Spec

open Idealize.ShloMosaic Cert.Scalars

/-- The frequency of a pair of a head's places. -/
def freq (j : Fin 8) : EReal :=
  Ideal.pow (Ideal.ofBits .f32 1223959552#32)
    (Ideal.div (-(Ideal.ofBits .f32 1073741824#32 * FloatOps.sitofp (F := Ideal) .f32 (BitVec.ofNat 32 j.val))) (Ideal.ofBits .f32 1098907648#32))

/-- A head's frequencies: the eight, the eight again and zeros. -/
def lane (j : Fin 64) : EReal := if h : j.val < 8 then freq ⟨j.val, h⟩ else if h : j.val - 8 < 8 then freq ⟨j.val - 8, h⟩ else 0

/-- A token's position in its sequence. -/
def pos (T : Fin 32768) : EReal := FloatOps.sitofp (F := Ideal) .f32 (BitVec.ofNat 32 (T.val % 16384))

/-- A normalised row times a column. -/
def dot (z g w : Fin 1024 → EReal) : EReal := ∑ k, z k * inv z * g k * w k

/-- A head turned by eight angles: places 0 to 7 with places 8 to 15, the rest as they are. -/
def turn (x : Fin 64 → EReal) (p : EReal) (j : Fin 64) : EReal :=
  if h : j.val < 8 then x j * Ideal.cos (p * freq ⟨j.val, h⟩) - x ⟨j.val + 8, by omega⟩ * Ideal.sin (p * freq ⟨j.val, h⟩)
  else if h : j.val - 8 < 8 then x j * Ideal.cos (p * freq ⟨j.val - 8, h⟩) + x ⟨j.val - 8, by omega⟩ * Ideal.sin (p * freq ⟨j.val - 8, h⟩)
  else x j

/-- The cosine of zero. -/
theorem cos_zero : Ideal.cos 0 = 1 := by
  show ((Real.cos 0 : ℝ) : EReal) = 1
  rw [Real.cos_zero]
  rfl

/-- The sine of zero. -/
theorem sin_zero : Ideal.sin 0 = 0 := by
  show ((Real.sin 0 : ℝ) : EReal) = 0
  rw [Real.sin_zero]
  rfl

/-- The turn as every place's cosine and sine with its partner's value. -/
theorem turn_eq (x : Fin 64 → EReal) (p : EReal) (j : Fin 64) (a b : EReal)
    (ha : ∀ h : j.val < 8, a = x ⟨j.val + 8, by omega⟩) (hb : ∀ (_ : ¬ j.val < 8), ∀ (_ : j.val - 8 < 8), b = x ⟨j.val - 8, by omega⟩) :
    x j * Ideal.cos (p * lane j) + (if j.val < 8 then 0 - a else b) * Ideal.sin (p * lane j) = turn x p j := by
  unfold turn lane
  by_cases h : j.val < 8
  · rw [dif_pos h, dif_pos h, if_pos h, ha h, zero_sub, EReal.neg_mul, sub_eq_add_neg]
  · rw [dif_neg h, dif_neg h, if_neg h]
    by_cases h' : j.val - 8 < 8
    · rw [dif_pos h', dif_pos h', hb h h']
    · rw [dif_neg h', dif_neg h', mul_zero, cos_zero, sin_zero, mul_one, mul_zero, add_zero]

/-- The scale of the queries is a nonnegative real. -/
theorem eighth : 0 ≤ Ideal.ofBits .f32 0x3E000000#32 ∧ Ideal.ofBits .f32 0x3E000000#32 ≠ ⊤ := by
  obtain ⟨r, hr, h⟩ : ∃ r : ℝ, 0 ≤ r ∧ Ideal.ofBits .f32 0x3E000000#32 = (r : EReal) := by
    refine ⟨_, ?_, rfl⟩
    rw [if_neg (by decide)]
    positivity
  rw [h]
  exact ⟨by exact_mod_cast hr, EReal.coe_ne_top r⟩

/-- A scaled head turned is the turned head scaled. -/
theorem turn_scale (x : Fin 64 → EReal) (p : EReal) (j : Fin 64) :
    turn (fun i => x i * Ideal.ofBits .f32 0x3E000000#32) p j = turn x p j * Ideal.ofBits .f32 0x3E000000#32 := by
  have h := eighth
  generalize Ideal.ofBits .f32 0x3E000000#32 = e at h ⊢
  have hm : ∀ a b : EReal, a * e * b = a * b * e := fun a b => mul_right_comm a e b
  have hs : ∀ a b : EReal, (a + b) * e = a * e + b * e := fun a b => EReal.right_distrib_of_nonneg_of_ne_top h.1 h.2 a b
  unfold turn
  by_cases h0 : j.val < 8
  · rw [dif_pos h0, dif_pos h0, hm, hm, sub_eq_add_neg, sub_eq_add_neg, hs, EReal.neg_mul]
  · rw [dif_neg h0, dif_neg h0]
    by_cases h1 : j.val - 8 < 8
    · rw [dif_pos h1, dif_pos h1, hm, hm, hs]
    · rw [dif_neg h1, dif_neg h1]

end Cert.Spec

end
-- ==== Proof.Words.lean ====
/- The 32-bit words by which the second layer's kernel finds a token's position and a lane's place in its head, and the
   reading of a block that pieces cover. -/
module

public import Idealize.ShloMosaic.Lib.Pipeline.ValueKit.Point
public import Idealize.ShloMosaic.Lib.Pointwise

@[expose] public section

set_option maxRecDepth 16384

noncomputable section

namespace Cert.Words

open Idealize.ShloMosaic

/-- A word's remainder by a modulus, taken to the modulus's sign. -/
def modw (x w : BitVec 32) : BitVec 32 :=
  Scalar.select (IntOp.andi (IntOp.xori (IntOp.cmpi .slt (IntOp.remsi .vector x w) 0#32) (Scalar.cmpi .slt w 0#32)) (IntOp.cmpi .ne (IntOp.remsi .vector x w) 0#32))
    (IntOp.addi (IntOp.remsi .vector x w) w) (IntOp.remsi .vector x w)

/-- A token's number from its point, its half and its row. -/
theorem token_word : ∀ (t : Fin 64) (n : Fin 2) (r : Fin 256),
    IntOp.addi (Scalar.addi (Scalar.muli (BitVec.ofNat 32 t.val) 512#32) (BitVec.ofNat 32 (256 * n.val))) (BitVec.ofNat 32 r.val)
      = BitVec.ofNat 32 (512 * t.val + (256 * n.val + r.val)) := by
  decide +kernel

/-- A token's position. -/
theorem position_word : ∀ T : Fin 32768, modw (BitVec.ofNat 32 T.val) 16384#32 = BitVec.ofNat 32 (T.val % 16384) := by
  decide +kernel

/-- A lane's place in its head is among the first eight. -/
theorem lane_word : ∀ l : Fin 128, IntOp.cmpi .slt (modw (BitVec.ofNat 32 l.val) 64#32) 8#32 = if l.val % 64 < 8 then 1#1 else 0#1 := by
  decide +kernel

/-- A lane is of its pair's first head. -/
theorem head_word : ∀ l : Fin 128, IntOp.cmpi .slt (BitVec.ofNat 32 l.val) 64#32 = if l.val < 64 then 1#1 else 0#1 := by
  decide +kernel

/-- A block whose pieces each hold a function's values, read at an index some piece covers. -/
theorem canon_eq {s : Shape} {e : EltTy} (f : s.Idx → Elt Ideal e) (y : s.Idx) (L : List (View.Piece (Elt Ideal) s e))
    (h : ∀ p ∈ L, ∀ j, p.2 j = f (p.1.emb j)) (hy : ∃ p ∈ L, y ∈ p.1.set) : View.canon L y = f y := by
  induction L with
  | nil => obtain ⟨p, hp, _⟩ := hy; cases hp
  | cons p L ih =>
    by_cases hm : y ∈ p.1.set
    · obtain ⟨j, hj⟩ : ∃ j, p.1.emb j = y := by
        have hm' := (LoadRect.mem_set _).1 hm
        choose j hj he using hm'
        exact ⟨fun a => ⟨j a, hj a⟩, funext fun a => Fin.ext (he a).symm⟩
      rw [← hj]
      exact (View.canon_cons_emb p.1 p.2 L j).trans (h p (List.mem_cons_self ..) j)
    · rw [View.canon_cons_of_not_mem p L hm]
      refine ih (fun q hq => h q (List.mem_cons_of_mem _ hq)) ?_
      obtain ⟨q, hq, hqy⟩ := hy
      rcases List.mem_cons.1 hq with rfl | hq
      · exact absurd hqy hm
      · exact ⟨q, hq, hqy⟩

end Cert.Words

end
-- ==== Proof.KvqRows.lean ====
/- The second layer's queries, keys and values of half of a point's rows, read at an index at the ideal numbers: the rows
   of the specification. -/
module

public import proofs.«01_k».proof.Proof.Kvq
public import proofs.«01_k».proof.Proof.GluRows
public import proofs.«01_k».proof.Proof.Spec3
public import proofs.«01_k».proof.Proof.Words

@[expose] public section

set_option maxRecDepth 16384

noncomputable section

namespace Cert.Kernel3Ideal.Parts

open Cert.Kernel3Ideal Cert.Kernel3Ideal.Gen Idealize.ShloMosaic Idealize.ShloMosaic.Pointwise Cert.Scalars Cert.Spec Cert.Words
open Cert.KernelIdeal.Parts (invRms mm mm_at invRms_at)

/-- A choice by a word that says whether a statement holds. -/
theorem select_word (p : Prop) [Decidable p] (a b : EReal) : Scalar.select (if p then 1#1 else 0#1) a b = if p then a else b := by
  by_cases h : p
  · rw [if_pos h, if_pos h]; rfl
  · rw [if_neg h, if_neg h]; rfl

/-- The angle of a row of a half and a lane. -/
theorem angle_at (t : Fin 64) (n : Fin 2) (x : Vec Ideal S1x128 .f32) (R : Fin 256) (l : Fin 128) (T : Fin 32768)
    (hT : T.val = 512 * t.val + (256 * n.val + R.val)) (hx : x (ix2 0 l) = lane ⟨l.val % 64, Nat.mod_lt _ (by decide)⟩) :
    angle (BitVec.ofNat 32 t.val) (BitVec.ofNat 32 (256 * n.val)) x (ix2 R l) = pos T * lane ⟨l.val % 64, Nat.mod_lt _ (by decide)⟩ := by
  have e : modw (IntOp.addi (Scalar.addi (Scalar.muli (BitVec.ofNat 32 t.val) 512#32) (BitVec.ofNat 32 (256 * n.val))) (BitVec.ofNat 32 R.val)) 16384#32
      = BitVec.ofNat 32 (T.val % 16384) := by
    rw [token_word, ← hT]
    exact position_word T
  pointwise [angle, modulo]
  rw [hx]
  exact congrArg (fun w => FloatOps.sitofp (F := Ideal) .f32 w * lane ⟨l.val % 64, Nat.mod_lt _ (by decide)⟩) e

/-- A pair of heads turned: a lane of the turned head, for the head's values `u`. -/
theorem turned_at (x a : FVec Ideal S256x128 .f32) (R : Fin 256) (l : Fin 128) (u : Fin 64 → EReal) (p : EReal)
    (hx : ∀ k : Fin 128, k.val / 64 = l.val / 64 → x (ix2 R k) = u ⟨k.val % 64, Nat.mod_lt _ (by decide)⟩)
    (ha : a (ix2 R l) = p * lane ⟨l.val % 64, Nat.mod_lt _ (by decide)⟩) :
    turned x a (ix2 R l) = turn u p ⟨l.val % 64, Nat.mod_lt _ (by decide)⟩ := by
  have hl := l.isLt
  have e : ∀ b d : EReal, Scalar.select (IntOp.cmpi .slt (modw (BitVec.ofNat 32 l.val) 64#32) 8#32) b d = if l.val % 64 < 8 then b else d := by
    intro b d
    rw [lane_word, select_word]
  pointwise [turned, modulo]
  rw [ha, hx l rfl]
  refine Eq.trans (congrArg (fun z => _ + z * _) (e _ _)) ?_
  refine turn_eq u p ⟨l.val % 64, Nat.mod_lt _ (by decide)⟩ _ _ (fun h => ?_) (fun h h' => ?_)
  · dsimp only at h
    refine (hx _ (show (l.val + 128 - 120) % 128 / 64 = l.val / 64 by omega)).trans (congrArg u (Fin.ext ?_))
    show (l.val + 128 - 120) % 128 % 64 = l.val % 64 + 8
    omega
  · dsimp only at h h'
    refine (hx _ (show (l.val + 128 - 8) % 128 / 64 = l.val / 64 by omega)).trans (congrArg u (Fin.ext ?_))
    show (l.val + 128 - 8) % 128 % 64 = l.val % 64 - 8
    omega

/-- One head of a pair twice. -/
theorem twice_at (x : FVec Ideal S256x128 .f32) (b : Bool) (R : Fin 256) (l : Fin 128) (v : EReal)
    (hv : ∀ k : Fin 128, k.val % 64 = l.val % 64 → k.val / 64 = (bif b then 0 else 1) → x (ix2 R k) = v) :
    twice x b (ix3 0 R l) = v := by
  have hl := l.isLt
  cases b
  · pointwise [twice]
    refine Eq.trans (congrArg (fun w => Scalar.select w _ _) (head_word l)) ?_
    rw [select_word]
    dsimp only [cond_false]
    by_cases h : l.val < 64
    · rw [if_pos h]
      pointwise
      exact hv _ (show (l.val + 128 - 64) % 128 % 64 = l.val % 64 by omega) (show (l.val + 128 - 64) % 128 / 64 = 1 by omega)
    · rw [if_neg h]
      exact hv l rfl (show l.val / 64 = 1 by omega)
  · pointwise [twice]
    refine Eq.trans (congrArg (fun w => Scalar.select w _ _) (head_word l)) ?_
    rw [select_word]
    dsimp only [cond_true]
    by_cases h : l.val < 64
    · rw [if_pos h]
      exact hv l rfl (show l.val / 64 = 0 by omega)
    · rw [if_neg h]
      pointwise
      exact hv _ (show (l.val + 128 - 64) % 128 % 64 = l.val % 64 by omega) (show (l.val + 128 - 64) % 128 / 64 = 0 by omega)

/-- A normalised product is the product with the normalised row. -/
theorem dot_eq (z g w : Fin 1024 → EReal) : (∑ k, z k * (g k * w k)) * inv z = dot z g w := by
  unfold dot
  rw [norm_dot, mul_comm]

/-- 128 columns of keys or values. -/
theorem colsKv_at (z : FVec Ideal S256x1024 .f32) (w : Vec Ideal S1024x256 .bf16) (o : ℕ) (h : S256x256.Slices ![0, o] S256x128)
    (R : Fin 256) (l : Fin 128) (ho : o + l.val < 256) {zr g : Fin 1024 → EReal} {wr : Fin 1024 → Fin 256 → EReal}
    (hz : ∀ k, z (ix2 R k) = zr k) (hw : ∀ k f, w (ix2 k f) = g k * wr k f) :
    colsKv z w o h (ix2 R l) = dot zr g (fun k => wr k ⟨o + l.val, ho⟩) := by
  pointwise [colsKv, mmKv]
  rw [invRms_at]
  simp only [hz, hw]
  exact dot_eq zr g _

/-- 128 columns of queries. -/
theorem colsQ_at (z : FVec Ideal S256x1024 .f32) (w : Vec Ideal S1x1024x1024 .bf16) (o : ℕ) (h : S256x1024.Slices ![0, o] S256x128)
    (R : Fin 256) (l : Fin 128) (ho : o + l.val < 1024) {zr g : Fin 1024 → EReal} {wr : Fin 1024 → Fin 1024 → EReal}
    (hz : ∀ k, z (ix2 R k) = zr k) (hw : ∀ k f, w (ix3 0 k f) = g k * wr k f) :
    colsQ z w o h (ix2 R l) = dot zr g (fun k => wr k ⟨o + l.val, ho⟩) * Ideal.ofBits .f32 0x3E000000#32 := by
  pointwise [colsQ]
  rw [invRms_at, mm_at]
  pointwise
  simp only [hz, hw]
  rw [← mul_assoc, dot_eq]

end Cert.Kernel3Ideal.Parts

end
-- ==== Proof.Reads3.lean ====
/- What the blocks of a point of the second layer's kernel hold, in terms of the kernel's arguments, at the ideal numbers. -/
module

public import proofs.«01_k».proof.Proof.Gen.Kernel3Ideal.Value
public import proofs.«01_k».proof.Proof.Spec3
public import Idealize.ShloMosaic.Lib.Pipeline.ValueKit.Point
public import Idealize.ShloMosaic.Lib.StableHlo.ReadAt
public import Idealize.ShloMosaic.Lib.Pointwise

@[expose] public section

set_option maxRecDepth 16384

noncomputable section

namespace Cert.Kernel3Ideal.Parts

open Cert.Kernel3Ideal Cert.Kernel3Ideal.Gen Idealize.ShloMosaic Idealize.ShloMosaic.TcCoe Idealize.ShloMosaic.Pointwise Idealize.SL.Sem Cert.Spec

variable (m : (ℓ : Loc nD τ sig) → Buf (Elt Ideal) ℓ) (c : Dev nD) (t : Fin cfg0.N)

/-- A product, its factors' type given. -/
abbrev times (a b : EReal) : EReal := a * b

/-- The windows' block indices at a point. -/
theorem index_at : ∀ t : Fin grid0.N, (win0_0.index t = ![t.val, 0] ∧ win0_1.index t = ![1, t.val, 0] ∧ win0_2.index t = ![t.val, 0]
    ∧ win0_3.index t = ![0, 0] ∧ win0_4.index t = ![0, 0] ∧ win0_5.index t = ![1, 0, 0]) ∧ (win0_6.index t = ![1, 0, 0]
    ∧ win0_7.index t = ![1, 0, 0] ∧ win0_8.index t = ![1, 0, 0] ∧ win0_9.index t = ![1, 0, 0] ∧ win0_10.index t = ![0, 0, 0]
    ∧ win0_11.index t = ![0, 0] ∧ win0_12.index t = ![0, 0] ∧ win0_13.index t = ![0, 0]) ∧ (win0_14.index t = ![t.val, 0]
    ∧ win0_15.index t = ![0, t.val, 0] ∧ win0_16.index t = ![0, t.val, 0] ∧ win0_17.index t = ![0, t.val, 0]) := by
  decide +kernel

/-- The residual stream's block. -/
theorem read0 (r : Fin 512) (k : Fin 1024) :
    iblk m c 0 t (ix2 r k) = m ((c : Thread nD τ).loc main_arg0) (ix2 (⟨512 * t.val + r.val, by have := t.isLt; change t.val < 64 at this; omega⟩ : Fin 32768) k) := by
  blk_ext [iblk, V, index_at t]

/-- The per-layer embeddings, both sequences one after the other. -/
theorem v16_at (T : Fin 32768) (k : Fin 256) : V m c main_v16 (ix3 1 T k)
    = m ((c : Thread nD τ).loc main_arg1) (ix4 1 (⟨T.val / 16384, by omega⟩ : Fin 2) (⟨T.val % 16384, by omega⟩ : Fin 16384) k) := by
  unfold V
  after_reads_at

/-- The per-layer embedding's block. -/
theorem read1 (r : Fin 512) (k : Fin 256) :
    iblk m c 1 t (ix3 0 r k) = V m c main_v16 (ix3 1 (⟨512 * t.val + r.val, by have := t.isLt; change t.val < 64 at this; omega⟩ : Fin 32768) k) := by
  blk_ext [iblk, index_at t]

/-- The state space's outputs. -/
theorem read2 (r : Fin 512) (k : Fin 1024) :
    iblk m c 2 t (ix2 r k) = m ((c : Thread nD τ).loc main_arg2) (ix2 (⟨512 * t.val + r.val, by have := t.isLt; change t.val < 64 at this; omega⟩ : Fin 32768) k) := by
  blk_ext [iblk, V, index_at t]

/-- The layer's norm factors. -/
theorem read3 (k : Fin 1024) : iblk m c 3 t (ix2 0 k) = m ((c : Thread nD τ).loc main_arg3) (ix2 1 k) := by
  have e : V m c main_v43 (ix2 0 k) = m ((c : Thread nD τ).loc main_arg3) (ix2 1 k) := by
    unfold V
    after_reads_at
  rw [← e]
  blk_ext [iblk, index_at t]

/-- The skip term's factors. -/
theorem read4 (k : Fin 1024) : iblk m c 4 t (ix2 0 k) = m ((c : Thread nD τ).loc main_arg4) (ix2 1 k) := by
  have e : V m c main_v46 (ix2 0 k) = m ((c : Thread nD τ).loc main_arg4) (ix2 1 k) := by
    unfold V
    after_reads_at
  rw [← e]
  blk_ext [iblk, index_at t]

/-- The gated linear unit's matrix. -/
theorem read5 (k : Fin 1024) (f : Fin 2048) : iblk m c 5 t (ix3 0 k f) = m ((c : Thread nD τ).loc main_arg5) (ix3 1 k f) := by
  have e : V m c main_v17 (ix3 1 k f) = m ((c : Thread nD τ).loc main_arg5) (ix3 1 k f) := by
    unfold V
    after_reads_at
  rw [← e]
  blk_ext [iblk, index_at t]

/-- The feed-forward block's first matrix, scaled by its norm. -/
theorem read6 (k : Fin 1024) (f : Fin 4096) : iblk m c 6 t (ix3 0 k f) = times (m ((c : Thread nD τ).loc main_arg10) (ix2 1 k)) (m ((c : Thread nD τ).loc main_arg11) (ix3 1 k f)) := by
  have e : V m c main_v21 (ix3 1 k f) = times (m ((c : Thread nD τ).loc main_arg10) (ix2 1 k)) (m ((c : Thread nD τ).loc main_arg11) (ix3 1 k f)) := by
    unfold V
    after_reads_at
  rw [← e]
  blk_ext [iblk, index_at t]

/-- The feed-forward block's second matrix. -/
theorem read7 (f : Fin 4096) (k : Fin 1024) : iblk m c 7 t (ix3 0 f k) = m ((c : Thread nD τ).loc main_arg12) (ix3 1 f k) := by
  have e : V m c main_v22 (ix3 1 f k) = m ((c : Thread nD τ).loc main_arg12) (ix3 1 f k) := by
    unfold V
    after_reads_at
  rw [← e]
  blk_ext [iblk, index_at t]

/-- The gate's matrix, scaled by its norm. -/
theorem read8 (k f : Fin 1024) : iblk m c 8 t (ix3 0 k f) = times (m ((c : Thread nD τ).loc main_arg13) (ix2 1 k)) (m ((c : Thread nD τ).loc main_arg14) (ix3 1 k f)) := by
  have e : V m c main_v26 (ix3 1 k f) = times (m ((c : Thread nD τ).loc main_arg13) (ix2 1 k)) (m ((c : Thread nD τ).loc main_arg14) (ix3 1 k f)) := by
    unfold V
    after_reads_at
  rw [← e]
  blk_ext [iblk, index_at t]

/-- The embedding's matrix. -/
theorem read9 (k : Fin 256) (f : Fin 1024) : iblk m c 9 t (ix3 0 k f) = m ((c : Thread nD τ).loc main_arg15) (ix3 1 k f) := by
  have e : V m c main_v27 (ix3 1 k f) = m ((c : Thread nD τ).loc main_arg15) (ix3 1 k f) := by
    unfold V
    after_reads_at
  rw [← e]
  blk_ext [iblk, index_at t]

/-- The queries' matrix, scaled by the next layer's norm. -/
theorem read10 (k f : Fin 1024) : iblk m c 10 t (ix3 0 k f) = times (m ((c : Thread nD τ).loc main_arg3) (ix2 2 k)) (m ((c : Thread nD τ).loc main_arg9) (ix3 0 k f)) := by
  have e : V m c main_v32 (ix3 0 k f) = times (m ((c : Thread nD τ).loc main_arg3) (ix2 2 k)) (m ((c : Thread nD τ).loc main_arg9) (ix3 0 k f)) := by
    unfold V
    after_reads_at
  rw [← e]
  blk_ext [iblk, index_at t]

/-- The keys' matrix, scaled by their norm. -/
theorem read12 (k : Fin 1024) (f : Fin 256) : iblk m c 12 t (ix2 k f) = times (m ((c : Thread nD τ).loc main_arg6) (ix1 k)) (m ((c : Thread nD τ).loc main_arg7) (ix2 k f)) := by
  have e : V m c main_v36 (ix2 k f) = times (m ((c : Thread nD τ).loc main_arg6) (ix1 k)) (m ((c : Thread nD τ).loc main_arg7) (ix2 k f)) := by
    unfold V
    after_reads_at
  rw [← e]
  blk_ext [iblk, index_at t]

/-- The values' matrix, scaled by their norm. -/
theorem read13 (k : Fin 1024) (f : Fin 256) : iblk m c 13 t (ix2 k f) = times (m ((c : Thread nD τ).loc main_arg6) (ix1 k)) (m ((c : Thread nD τ).loc main_arg8) (ix2 k f)) := by
  have e : V m c main_v40 (ix2 k f) = times (m ((c : Thread nD τ).loc main_arg6) (ix1 k)) (m ((c : Thread nD τ).loc main_arg8) (ix2 k f)) := by
    unfold V
    after_reads_at
  rw [← e]
  blk_ext [iblk, index_at t]

/-- The eight frequencies. -/
theorem freq_at (j : Fin 8) : V m c main_v9 (ix1 j) = freq j := by
  unfold V
  after_reads_at
  rfl

/-- A head's frequencies: the eight, the eight again and zeros. -/
theorem head_at (l : Fin 64) : V m c main_v11 (ix1 l) = lane l := by
  have e : V m c main_v11 (ix1 l) = (if h : l.val < 8 then V m c main_v9 (ix1 ⟨l.val, h⟩)
      else if h : l.val - 8 < 8 then V m c main_v9 (ix1 ⟨l.val - 8, h⟩) else (0 : EReal)) := by
    unfold V
    after_reads_at
    by_cases h : l.val < 8
    · rw [dif_pos h, dif_pos h]
      after_reads_at
    rw [dif_neg h, dif_neg h]
    by_cases h : l.val - 8 < 8
    · rw [dif_pos h, dif_pos h]
      after_reads_at
    · rw [dif_neg h, dif_neg h]
      after_reads_at
  refine e.trans ?_
  unfold lane
  by_cases h : l.val < 8
  · rw [dif_pos h, dif_pos h]
    exact freq_at m c _
  · rw [dif_neg h, dif_neg h]
    by_cases h' : l.val - 8 < 8
    · rw [dif_pos h', dif_pos h']
      exact freq_at m c _
    · rw [dif_neg h', dif_neg h']

set_option maxHeartbeats 2000000 in
/-- A pair of heads' frequencies. -/
theorem pair_at (l : Fin 128) : V m c main_v14 (ix1 l) = lane ⟨l.val % 64, Nat.mod_lt _ (by decide)⟩ := by
  have e2 : V m c main_v12 = (shapeCast S1x64 (V m c main_v11 : FVec Ideal S64 .f32) shapeCasts_S64_S1x64 : FVec Ideal S1x64 .f32) := rfl
  have e3 : V m c main_v13 = (broadcastInDim S2x64 ![0, 1] bcast_S1x64_S2x64_0_1 (V m c main_v12 : FVec Ideal S1x64 .f32) : FVec Ideal S2x64 .f32) := rfl
  have e4 : V m c main_v14 = (shapeCast S128 (V m c main_v13 : FVec Ideal S2x64 .f32) shapeCasts_S2x64_S128 : FVec Ideal S128 .f32) := rfl
  rw [← head_at m c, e4, e3, e2]
  pointwise

set_option maxHeartbeats 2000000 in
/-- The frequencies' block. -/
theorem read11 (l : Fin 128) : iblk m c 11 t (ix2 0 l) = lane ⟨l.val % 64, Nat.mod_lt _ (by decide)⟩ := by
  have e : V m c main_v15 = (shapeCast S1x128 (V m c main_v14 : FVec Ideal S128 .f32) shapeCasts_S128_S1x128 : FVec Ideal S1x128 .f32) := rfl
  rw [← pair_at m c]
  have e' : V m c main_v15 (ix2 0 l) = V m c main_v14 (ix1 l) := by
    rw [e]
    pointwise
  rw [← e']
  blk_ext [iblk, index_at t]

end Cert.Kernel3Ideal.Parts

end
-- ==== Proof.Final3.lean ====
/- The second layer's kernel's four result arrays, at the ideal numbers: the specification's of its arguments. -/
module

public import proofs.«01_k».proof.Proof.KvqRows
public import proofs.«01_k».proof.Proof.Reads3
public import proofs.«01_k».proof.Proof.Final2

@[expose] public section

set_option maxRecDepth 16384

noncomputable section

namespace Cert.Kernel3Ideal.Parts

open Cert.Kernel3Ideal Cert.Kernel3Ideal.Gen Idealize.ShloMosaic Idealize.ShloMosaic.TcCoe Idealize.ShloMosaic.Pointwise Idealize.SL.Sem Cert.Spec Cert.Words

section Tiles

variable (i : grid0.Coords) (x0 : Vec Ideal S512x1024 .f32) (x1 : Vec Ideal S1x512x256 .f32) (x2 : Vec Ideal S512x1024 .f32) (x3 x4 : Vec Ideal S1x1024 .f32)
  (x5 : Vec Ideal S1x1024x2048 .bf16) (x6 : Vec Ideal S1x1024x4096 .bf16) (x7 : Vec Ideal S1x4096x1024 .bf16) (x8 : Vec Ideal S1x1024x1024 .bf16)
  (x9 : Vec Ideal S1x256x1024 .bf16) (x10 : Vec Ideal S1x1024x1024 .bf16) (x11 : Vec Ideal S1x128 .f32) (x12 x13 : Vec Ideal S1024x256 .bf16)
  (t : Fin 64) (hi : (i 0).val = t.val) (n : Fin 2) (off : BitVec 32) (hoff : off = BitVec.ofNat 32 (256 * n.val)) (R : Fin 256) (l : Fin 128)
  (T : Fin 32768) (hT : T.val = 512 * t.val + (256 * n.val + R.val)) {zr g : Fin 1024 → EReal}
  (hz : ∀ k, after x0 x1 x2 x3 x4 x5 x6 x7 x8 x9 n (ix2 R k) = zr k)
  (hx : ∀ l : Fin 128, x11 (ix2 0 l) = lane ⟨l.val % 64, Nat.mod_lt _ (by decide)⟩)

include hi hoff hT hx in
/-- The angles of a half. -/
theorem angles_at : angles i x11 off (ix2 R l) = pos T * lane ⟨l.val % 64, Nat.mod_lt _ (by decide)⟩ := by
  unfold angles
  rw [hi, hoff]
  exact angle_at t n _ R l T hT (by pointwise; exact hx l)

/-- A column of a pair of query heads. -/
theorem q_lt (hp : Fin 8) (l : Fin 128) (j : Fin 64) : 64 * (2 * hp.val + l.val / 64) + j.val < 1024 := by omega

/-- A column of a key or value head. -/
theorem kv_lt (h : Fin 4) (j : Fin 64) : 64 * h.val + j.val < 256 := by omega

include hi hoff hT hx hz in
/-- A pair of query heads. -/
theorem qTile_at (o : ℕ) (hs : S256x1024.Slices ![0, o] S256x128) (hp : Fin 8) (ho : o = 128 * hp.val) {wr : Fin 1024 → Fin 1024 → EReal}
    (hw : ∀ k f, x10 (ix3 0 k f) = g k * wr k f) : qTile i x0 x1 x2 x3 x4 x5 x6 x7 x8 x9 x10 x11 n off o hs (ix3 0 R l)
      = turn (fun j => dot zr g (fun k => wr k ⟨64 * (2 * hp.val + l.val / 64) + j.val, q_lt hp l j⟩)) (pos T) ⟨l.val % 64, Nat.mod_lt _ (by decide)⟩
        * Ideal.ofBits .f32 0x3E000000#32 := by
  have hl := l.isLt
  have hhp := hp.isLt
  unfold qTile
  pointwise
  refine (turned_at _ _ R l (fun j => dot zr g (fun k => wr k ⟨64 * (2 * hp.val + l.val / 64) + j.val, q_lt hp l j⟩) * Ideal.ofBits .f32 0x3E000000#32) (pos T)
    (fun k hk => ?_) (angles_at i x11 t hi n off hoff R l T hT hx)).trans (turn_scale _ _ _)
  have hk' := k.isLt
  refine (colsQ_at _ _ o hs R k (by omega) hz (fun a f => by pointwise; exact hw a f)).trans ?_
  refine congrArg (· * Ideal.ofBits .f32 0x3E000000#32) (congrArg (dot zr g) (funext fun a => congrArg (wr a) (Fin.ext ?_)))
  show o + k.val = 64 * (2 * hp.val + l.val / 64) + k.val % 64
  omega

include hi hoff hT hx hz in
/-- A key head, twice. -/
theorem kTile_at (o : ℕ) (hs : S256x256.Slices ![0, o] S256x128) (b : Bool) (h : Fin 4) (ho : o = 128 * (h.val / 2)) (hb : (bif b then 0 else 1) = h.val % 2)
    {wr : Fin 1024 → Fin 256 → EReal} (hw : ∀ k f, x12 (ix2 k f) = g k * wr k f) : kTile i x0 x1 x2 x3 x4 x5 x6 x7 x8 x9 x11 x12 n off o hs b (ix3 0 R l)
      = turn (fun j => dot zr g (fun k => wr k ⟨64 * h.val + j.val, kv_lt h j⟩)) (pos T) ⟨l.val % 64, Nat.mod_lt _ (by decide)⟩ := by
  have hh := h.isLt
  unfold kTile
  refine twice_at _ b R l _ (fun k hk hkb => ?_)
  have hk' := k.isLt
  rw [hb] at hkb
  refine (turned_at _ _ R k (fun j => dot zr g (fun k => wr k ⟨64 * h.val + j.val, kv_lt h j⟩)) (pos T)
    (fun a ha => ?_) (angles_at i x11 t hi n off hoff R k T hT hx)).trans (congrArg (turn _ _) (Fin.ext hk))
  have ha' := a.isLt
  refine (colsKv_at _ _ o hs R a (by omega) hz (fun q f => by pointwise; exact hw q f)).trans ?_
  refine congrArg (dot zr g) (funext fun q => congrArg (wr q) (Fin.ext ?_))
  show o + a.val = 64 * h.val + a.val % 64
  omega

include hz in
/-- A value head, twice. -/
theorem vTile_at (o : ℕ) (hs : S256x256.Slices ![0, o] S256x128) (b : Bool) (h : Fin 4) (ho : o = 128 * (h.val / 2)) (hb : (bif b then 0 else 1) = h.val % 2)
    {wr : Fin 1024 → Fin 256 → EReal} (hw : ∀ k f, x13 (ix2 k f) = g k * wr k f) : vTile x0 x1 x2 x3 x4 x5 x6 x7 x8 x9 x13 n o hs b (ix3 0 R l)
      = dot zr g (fun k => wr k ⟨64 * h.val + l.val % 64, kv_lt h ⟨l.val % 64, Nat.mod_lt _ (by decide)⟩⟩) := by
  have hh := h.isLt
  unfold vTile
  refine twice_at _ b R l _ (fun k hk hkb => ?_)
  have hk' := k.isLt
  rw [hb] at hkb
  refine (colsKv_at _ _ o hs R k (by omega) hz (fun q f => by pointwise; exact hw q f)).trans ?_
  refine congrArg (dot zr g) (funext fun q => congrArg (wr q) (Fin.ext ?_))
  show o + k.val = 64 * h.val + l.val % 64
  omega

end Tiles

variable (m : (ℓ : Loc nD τ sig) → Buf (Elt Ideal) ℓ) (c : Dev nD)

/-- The stream that the specification gives for the kernel's arguments. -/
def wantH (T : Fin 32768) (C : Fin 1024) : EReal :=
  stream (fun T k => m ((c : Thread nD τ).loc main_arg0) (ix2 T k))
    (fun T k => m ((c : Thread nD τ).loc main_arg1) (ix4 1 (⟨T.val / 16384, by omega⟩ : Fin 2) (⟨T.val % 16384, by omega⟩ : Fin 16384) k))
    (fun T k => m ((c : Thread nD τ).loc main_arg2) (ix2 T k)) (fun k => m ((c : Thread nD τ).loc main_arg3) (ix2 1 k)) (fun k => m ((c : Thread nD τ).loc main_arg4) (ix2 1 k))
    (fun k f => m ((c : Thread nD τ).loc main_arg5) (ix3 1 k f)) (fun k => m ((c : Thread nD τ).loc main_arg10) (ix2 1 k)) (fun k f => m ((c : Thread nD τ).loc main_arg11) (ix3 1 k f))
    (fun f k => m ((c : Thread nD τ).loc main_arg12) (ix3 1 f k)) (fun k => m ((c : Thread nD τ).loc main_arg13) (ix2 1 k)) (fun k f => m ((c : Thread nD τ).loc main_arg14) (ix3 1 k f))
    (fun k f => m ((c : Thread nD τ).loc main_arg15) (ix3 1 k f)) T C

/-- The queries, two heads side by side. -/
def wantQ (hp : Fin 8) (T : Fin 32768) (l : Fin 128) : EReal :=
  turn (fun j => dot (wantH m c T) (fun k => m ((c : Thread nD τ).loc main_arg3) (ix2 2 k)) (fun k => m ((c : Thread nD τ).loc main_arg9) (ix3 0 k (⟨64 * (2 * hp.val + l.val / 64) + j.val, q_lt hp l j⟩ : Fin 1024))))
    (pos T) ⟨l.val % 64, Nat.mod_lt _ (by decide)⟩ * Ideal.ofBits .f32 0x3E000000#32

/-- The keys, each head twice. -/
def wantK (h : Fin 4) (T : Fin 32768) (l : Fin 128) : EReal :=
  turn (fun j => dot (wantH m c T) (fun k => m ((c : Thread nD τ).loc main_arg6) (ix1 k)) (fun k => m ((c : Thread nD τ).loc main_arg7) (ix2 k (⟨64 * h.val + j.val, kv_lt h j⟩ : Fin 256))))
    (pos T) ⟨l.val % 64, Nat.mod_lt _ (by decide)⟩

/-- The values, each head twice. -/
def wantV (h : Fin 4) (T : Fin 32768) (l : Fin 128) : EReal :=
  dot (wantH m c T) (fun k => m ((c : Thread nD τ).loc main_arg6) (ix1 k))
    (fun k => m ((c : Thread nD τ).loc main_arg8) (ix2 k (⟨64 * h.val + l.val % 64, kv_lt h ⟨l.val % 64, Nat.mod_lt _ (by decide)⟩⟩ : Fin 256)))

variable (t : Fin cfg0.N)

/-- The number of a point. -/
theorem point_lt : t.val < 64 := t.isLt

/-- A token of a point. -/
def tok (r : ℕ) : Fin 32768 := ⟨(512 * t.val + r) % 32768, Nat.mod_lt _ (by decide)⟩

/-- The token's number. -/
theorem tok_eq (r : Fin 512) : tok t r.val = (⟨512 * t.val + r.val, by have := point_lt t; omega⟩ : Fin 32768) :=
  Fin.ext (Nat.mod_eq_of_lt (by have := point_lt t; omega))

/-- The number of the token of a half's row. -/
theorem tok_val (n : Fin 2) (R : Fin 256) : (tok t (256 * n.val + R.val)).val = 512 * t.val + (256 * n.val + R.val) :=
  Nat.mod_eq_of_lt (by have := point_lt t; omega)

/-- A point's coordinate is its number. -/
theorem coord : ∀ t : Fin grid0.N, (grid0.coords t 0).val = t.val := by
  decide +kernel

/-- The stream of a half's row. -/
theorem after_at (n : Fin 2) (R : Fin 256) (C : Fin 1024) : after (iblk m c 0 t) (iblk m c 1 t) (iblk m c 2 t) (iblk m c 3 t) (iblk m c 4 t) (iblk m c 5 t) (iblk m c 6 t) (iblk m c 7 t) (iblk m c 8 t) (iblk m c 9 t) n (ix2 R C)
    = wantH m c (tok t (256 * n.val + R.val)) C := by
  have e := tok_eq t (⟨256 * n.val + R.val, Cert.Kernel2Ideal.Parts.row_lt n R⟩ : Fin 512)
  refine Eq.trans ?_ (congrArg (wantH m c · C) e.symm)
  exact Cert.Kernel2Ideal.Parts.half1_at _ _ _ _ _ _ _ _ _ _ n R (fun k => read0 m c t _ k) (fun k => (read1 m c t _ k).trans (v16_at m c _ k)) (fun k => read2 m c t _ k)
    (fun k => read3 m c t k) (fun k => read4 m c t k) (fun k f => read5 m c t k f) (fun k f => read6 m c t k f) (fun f k => read7 m c t f k)
    (fun k f => read8 m c t k f) (fun k f => read9 m c t k f) C

/-- The queries' block. -/
def blkQ (y : S8x512x128.Idx) : EReal := wantQ m c (y 0) (tok t (y 1).val) (y 2)

/-- The keys' block. -/
def blkK (y : S4x512x128.Idx) : EReal := wantK m c (y 0) (tok t (y 1).val) (y 2)

/-- The values' block. -/
def blkV (y : S4x512x128.Idx) : EReal := wantV m c (y 0) (tok t (y 1).val) (y 2)

/-- A stored pair of query heads. -/
theorem qPiece (hp : Fin 8) (n : Fin 2) (off : BitVec 32) (hoff : off = BitVec.ofNat 32 (256 * n.val)) (o : ℕ) (hs : S256x1024.Slices ![0, o] S256x128)
    (ho : o = 128 * hp.val) (inb : ∀ a, (![hp.val, 256 * n.val, 0] : Fin 3 → ℕ) a + S1x256x128.size a ≤ S8x512x128.size a) (j : S1x256x128.Idx) :
    qTile (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) n off o hs j
      = blkQ m c t ((Rect.unit (s := S8x512x128) ![hp.val, 256 * n.val, 0] S1x256x128.size inb).emb j) := by
  obtain ⟨a, R, l, rfl⟩ : ∃ (a : Fin 1) (R : Fin 256) (l : Fin 128), j = ix3 a R l := ⟨_, _, _, eq_ix3 (n0 := 1) (n1 := 256) (n2 := 128) j⟩
  obtain rfl : a = 0 := Subsingleton.elim _ _
  refine (qTile_at _ _ _ _ _ _ _ _ _ _ _ _ _ t (coord t) n off hoff R l (tok t (256 * n.val + R.val)) (tok_val t n R) (fun k => after_at m c t n R k)
    (fun l => read11 m c t l) o hs hp ho (fun k f => read10 m c t k f)).trans ?_
  unfold blkQ
  have e0 : ((Rect.unit (s := S8x512x128) ![hp.val, 256 * n.val, 0] S1x256x128.size inb).emb (ix3 0 R l)) 0 = hp := Fin.ext (show hp.val + 1 * 0 = hp.val by omega)
  have e1 : (((Rect.unit (s := S8x512x128) ![hp.val, 256 * n.val, 0] S1x256x128.size inb).emb (ix3 0 R l)) 1).val = 256 * n.val + R.val := by
    show 256 * n.val + 1 * R.val = _
    omega
  have e2 : ((Rect.unit (s := S8x512x128) ![hp.val, 256 * n.val, 0] S1x256x128.size inb).emb (ix3 0 R l)) 2 = l := Fin.ext (show 0 + 1 * l.val = l.val by omega)
  rw [e0, e1, e2]
  rfl

/-- A stored key head. -/
theorem kPiece (h : Fin 4) (n : Fin 2) (off : BitVec 32) (hoff : off = BitVec.ofNat 32 (256 * n.val)) (o : ℕ) (hs : S256x256.Slices ![0, o] S256x128)
    (b : Bool) (ho : o = 128 * (h.val / 2)) (hb : (bif b then 0 else 1) = h.val % 2)
    (inb : ∀ a, (![h.val, 256 * n.val, 0] : Fin 3 → ℕ) a + S1x256x128.size a ≤ S4x512x128.size a) (j : S1x256x128.Idx) :
    kTile (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 12 t) n off o hs b j
      = blkK m c t ((Rect.unit (s := S4x512x128) ![h.val, 256 * n.val, 0] S1x256x128.size inb).emb j) := by
  obtain ⟨a, R, l, rfl⟩ : ∃ (a : Fin 1) (R : Fin 256) (l : Fin 128), j = ix3 a R l := ⟨_, _, _, eq_ix3 (n0 := 1) (n1 := 256) (n2 := 128) j⟩
  obtain rfl : a = 0 := Subsingleton.elim _ _
  refine (kTile_at _ _ _ _ _ _ _ _ _ _ _ _ _ t (coord t) n off hoff R l (tok t (256 * n.val + R.val)) (tok_val t n R) (fun k => after_at m c t n R k)
    (fun l => read11 m c t l) o hs b h ho hb (fun k f => read12 m c t k f)).trans ?_
  unfold blkK
  have e0 : ((Rect.unit (s := S4x512x128) ![h.val, 256 * n.val, 0] S1x256x128.size inb).emb (ix3 0 R l)) 0 = h := Fin.ext (show h.val + 1 * 0 = h.val by omega)
  have e1 : (((Rect.unit (s := S4x512x128) ![h.val, 256 * n.val, 0] S1x256x128.size inb).emb (ix3 0 R l)) 1).val = 256 * n.val + R.val := by
    show 256 * n.val + 1 * R.val = _
    omega
  have e2 : ((Rect.unit (s := S4x512x128) ![h.val, 256 * n.val, 0] S1x256x128.size inb).emb (ix3 0 R l)) 2 = l := Fin.ext (show 0 + 1 * l.val = l.val by omega)
  rw [e0, e1, e2]
  rfl

/-- A stored value head. -/
theorem vPiece (h : Fin 4) (n : Fin 2) (o : ℕ) (hs : S256x256.Slices ![0, o] S256x128)
    (b : Bool) (ho : o = 128 * (h.val / 2)) (hb : (bif b then 0 else 1) = h.val % 2)
    (inb : ∀ a, (![h.val, 256 * n.val, 0] : Fin 3 → ℕ) a + S1x256x128.size a ≤ S4x512x128.size a) (j : S1x256x128.Idx) :
    vTile (iblk m c 0 t) (iblk m c 1 t) (iblk m c 2 t) (iblk m c 3 t) (iblk m c 4 t) (iblk m c 5 t) (iblk m c 6 t) (iblk m c 7 t) (iblk m c 8 t) (iblk m c 9 t) (iblk m c 13 t) n o hs b j
      = blkV m c t ((Rect.unit (s := S4x512x128) ![h.val, 256 * n.val, 0] S1x256x128.size inb).emb j) := by
  obtain ⟨a, R, l, rfl⟩ : ∃ (a : Fin 1) (R : Fin 256) (l : Fin 128), j = ix3 a R l := ⟨_, _, _, eq_ix3 (n0 := 1) (n1 := 256) (n2 := 128) j⟩
  obtain rfl : a = 0 := Subsingleton.elim _ _
  refine (vTile_at _ _ _ _ _ _ _ _ _ _ _ n R l (fun k => after_at m c t n R k) o hs b h ho hb (fun k f => read13 m c t k f)).trans ?_
  unfold blkV
  have e0 : ((Rect.unit (s := S4x512x128) ![h.val, 256 * n.val, 0] S1x256x128.size inb).emb (ix3 0 R l)) 0 = h := Fin.ext (show h.val + 1 * 0 = h.val by omega)
  have e1 : (((Rect.unit (s := S4x512x128) ![h.val, 256 * n.val, 0] S1x256x128.size inb).emb (ix3 0 R l)) 1).val = 256 * n.val + R.val := by
    show 256 * n.val + 1 * R.val = _
    omega
  have e2 : ((Rect.unit (s := S4x512x128) ![h.val, 256 * n.val, 0] S1x256x128.size inb).emb (ix3 0 R l)) 2 = l := Fin.ext (show 0 + 1 * l.val = l.val by omega)
  rw [e0, e1, e2]
  rfl

/-- The stream's output block, element by element. -/
theorem outH_at (r : Fin 512) (C : Fin 1024) : out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r C)
    = wantH m c (tok t r.val) C := by
  rw [out14_eq]
  exact Cert.Kernel2Ideal.Parts.halves_at (fun n => after (iblk m c 0 t) (iblk m c 1 t) (iblk m c 2 t) (iblk m c 3 t) (iblk m c 4 t) (iblk m c 5 t) (iblk m c 6 t) (iblk m c 7 t) (iblk m c 8 t) (iblk m c 9 t) n)
    (fun i => wantH m c (tok t i) C) C (fun n R => after_at m c t n R C) r

/-- The queries' output block, element by element. -/
theorem outQ_at (y : S8x512x128.Idx) : out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = blkQ m c t y := by
  rw [out15_eq]
  exact canon_eq (blkQ m c t) y _ (List.forall_mem_cons.2 ⟨qPiece m c t 7 1 256#32 rfl 896 slices_S256x1024_o0_896_S256x128 rfl (by decide),
      List.forall_mem_cons.2 ⟨qPiece m c t 6 1 256#32 rfl 768 slices_S256x1024_o0_768_S256x128 rfl (by decide),
      List.forall_mem_cons.2 ⟨qPiece m c t 5 1 256#32 rfl 640 slices_S256x1024_o0_640_S256x128 rfl (by decide),
      List.forall_mem_cons.2 ⟨qPiece m c t 4 1 256#32 rfl 512 slices_S256x1024_o0_512_S256x128 rfl (by decide),
      List.forall_mem_cons.2 ⟨qPiece m c t 3 1 256#32 rfl 384 slices_S256x1024_o0_384_S256x128 rfl (by decide),
      List.forall_mem_cons.2 ⟨qPiece m c t 2 1 256#32 rfl 256 slices_S256x1024_o0_256_S256x128 rfl (by decide),
      List.forall_mem_cons.2 ⟨qPiece m c t 1 1 256#32 rfl 128 slices_S256x1024_o0_128_S256x128 rfl (by decide),
      List.forall_mem_cons.2 ⟨qPiece m c t 0 1 256#32 rfl 0 slices_S256x1024_o0_0_S256x128 rfl (by decide),
      List.forall_mem_cons.2 ⟨qPiece m c t 7 0 0#32 rfl 896 slices_S256x1024_o0_896_S256x128 rfl (by decide),
      List.forall_mem_cons.2 ⟨qPiece m c t 6 0 0#32 rfl 768 slices_S256x1024_o0_768_S256x128 rfl (by decide),
      List.forall_mem_cons.2 ⟨qPiece m c t 5 0 0#32 rfl 640 slices_S256x1024_o0_640_S256x128 rfl (by decide),
      List.forall_mem_cons.2 ⟨qPiece m c t 4 0 0#32 rfl 512 slices_S256x1024_o0_512_S256x128 rfl (by decide),
      List.forall_mem_cons.2 ⟨qPiece m c t 3 0 0#32 rfl 384 slices_S256x1024_o0_384_S256x128 rfl (by decide),
      List.forall_mem_cons.2 ⟨qPiece m c t 2 0 0#32 rfl 256 slices_S256x1024_o0_256_S256x128 rfl (by decide),
      List.forall_mem_cons.2 ⟨qPiece m c t 1 0 0#32 rfl 128 slices_S256x1024_o0_128_S256x128 rfl (by decide),
      List.forall_mem_cons.2 ⟨qPiece m c t 0 0 0#32 rfl 0 slices_S256x1024_o0_0_S256x128 rfl (by decide),
      fun _ h => absurd h List.not_mem_nil⟩⟩⟩⟩⟩⟩⟩⟩⟩⟩⟩⟩⟩⟩⟩⟩) (cover0_15 _ _ _ _ _ _ _ _ _ _ _ _ _ _ _ _ y)

/-- The keys' output block, element by element. -/
theorem outK_at (y : S4x512x128.Idx) : out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = blkK m c t y := by
  rw [out16_eq]
  exact canon_eq (blkK m c t) y _ (List.forall_mem_cons.2 ⟨kPiece m c t 3 1 256#32 rfl 128 slices_S256x256_o0_128_S256x128 false rfl rfl (by decide),
      List.forall_mem_cons.2 ⟨kPiece m c t 2 1 256#32 rfl 128 slices_S256x256_o0_128_S256x128 true rfl rfl (by decide),
      List.forall_mem_cons.2 ⟨kPiece m c t 1 1 256#32 rfl 0 slices_S256x256_o0_0_S256x128 false rfl rfl (by decide),
      List.forall_mem_cons.2 ⟨kPiece m c t 0 1 256#32 rfl 0 slices_S256x256_o0_0_S256x128 true rfl rfl (by decide),
      List.forall_mem_cons.2 ⟨kPiece m c t 3 0 0#32 rfl 128 slices_S256x256_o0_128_S256x128 false rfl rfl (by decide),
      List.forall_mem_cons.2 ⟨kPiece m c t 2 0 0#32 rfl 128 slices_S256x256_o0_128_S256x128 true rfl rfl (by decide),
      List.forall_mem_cons.2 ⟨kPiece m c t 1 0 0#32 rfl 0 slices_S256x256_o0_0_S256x128 false rfl rfl (by decide),
      List.forall_mem_cons.2 ⟨kPiece m c t 0 0 0#32 rfl 0 slices_S256x256_o0_0_S256x128 true rfl rfl (by decide),
      fun _ h => absurd h List.not_mem_nil⟩⟩⟩⟩⟩⟩⟩⟩) (cover0_16 _ _ _ _ _ _ _ _ y)

/-- The values' output block, element by element. -/
theorem outV_at (y : S4x512x128.Idx) : out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = blkV m c t y := by
  rw [out17_eq]
  exact canon_eq (blkV m c t) y _ (List.forall_mem_cons.2 ⟨vPiece m c t 3 1 128 slices_S256x256_o0_128_S256x128 false rfl rfl (by decide),
      List.forall_mem_cons.2 ⟨vPiece m c t 2 1 128 slices_S256x256_o0_128_S256x128 true rfl rfl (by decide),
      List.forall_mem_cons.2 ⟨vPiece m c t 1 1 0 slices_S256x256_o0_0_S256x128 false rfl rfl (by decide),
      List.forall_mem_cons.2 ⟨vPiece m c t 0 1 0 slices_S256x256_o0_0_S256x128 true rfl rfl (by decide),
      List.forall_mem_cons.2 ⟨vPiece m c t 3 0 128 slices_S256x256_o0_128_S256x128 false rfl rfl (by decide),
      List.forall_mem_cons.2 ⟨vPiece m c t 2 0 128 slices_S256x256_o0_128_S256x128 true rfl rfl (by decide),
      List.forall_mem_cons.2 ⟨vPiece m c t 1 0 0 slices_S256x256_o0_0_S256x128 false rfl rfl (by decide),
      List.forall_mem_cons.2 ⟨vPiece m c t 0 0 0 slices_S256x256_o0_0_S256x128 true rfl rfl (by decide),
      fun _ h => absurd h List.not_mem_nil⟩⟩⟩⟩⟩⟩⟩⟩) (cover0_17 _ _ _ _ _ _ _ _ y)

/-- The stream's array after the run is the specification's. -/
theorem finalH_eq : (dats m 0 c).arrAt 14 cfg0.N = fun y => wantH m c (y 0) (y 1) := by
  refine (dats m 0 c).arrAt_eq_of_covers 14 _ (by decide +kernel) fun t hf y => ?_
  blk_simp
  rw [after0_14]
  obtain ⟨r, C, rfl⟩ : ∃ (r : Fin 512) (C : Fin 1024), y = ix2 r C := ⟨_, _, eq_ix2 (n0 := 512) (n1 := 1024) y⟩
  refine (outH_at m c t r C).trans ?_
  rw [tok_eq]
  refine congrArg₂ (wantH m c) (Fin.ext ?_) (Fin.ext ?_)
  · blk_simp [index_at t]
    exact congrArg (· + r.val) (mul_comm 512 t.val)
  · blk_simp [index_at t]

/-- The queries' array after the run is the specification's. -/
theorem finalQ_eq : (dats m 0 c).arrAt 15 cfg0.N = fun y => wantQ m c (y 0) (y 1) (y 2) := by
  refine (dats m 0 c).arrAt_eq_of_covers 15 _ (by decide +kernel) fun t hf y => ?_
  blk_simp
  rw [after0_15]
  obtain ⟨h, r, l, rfl⟩ : ∃ (h : Fin 8) (r : Fin 512) (l : Fin 128), y = ix3 h r l := ⟨_, _, _, eq_ix3 (n0 := 8) (n1 := 512) (n2 := 128) y⟩
  refine (outQ_at m c t (ix3 h r l)).trans ?_
  show wantQ m c h (tok t r.val) l = _
  rw [tok_eq]
  refine congr (congrArg₂ (wantQ m c) (Fin.ext ?_) (Fin.ext ?_)) (Fin.ext ?_)
  · blk_simp [index_at t]
  · blk_simp [index_at t]
    exact congrArg (· + r.val) (mul_comm 512 t.val)
  · blk_simp [index_at t]

/-- The keys' array after the run is the specification's. -/
theorem finalK_eq : (dats m 0 c).arrAt 16 cfg0.N = fun y => wantK m c (y 0) (y 1) (y 2) := by
  refine (dats m 0 c).arrAt_eq_of_covers 16 _ (by decide +kernel) fun t hf y => ?_
  blk_simp
  rw [after0_16]
  obtain ⟨h, r, l, rfl⟩ : ∃ (h : Fin 4) (r : Fin 512) (l : Fin 128), y = ix3 h r l := ⟨_, _, _, eq_ix3 (n0 := 4) (n1 := 512) (n2 := 128) y⟩
  refine (outK_at m c t (ix3 h r l)).trans ?_
  show wantK m c h (tok t r.val) l = _
  rw [tok_eq]
  refine congr (congrArg₂ (wantK m c) (Fin.ext ?_) (Fin.ext ?_)) (Fin.ext ?_)
  · blk_simp [index_at t]
  · blk_simp [index_at t]
    exact congrArg (· + r.val) (mul_comm 512 t.val)
  · blk_simp [index_at t]

/-- The values' array after the run is the specification's. -/
theorem finalV_eq : (dats m 0 c).arrAt 17 cfg0.N = fun y => wantV m c (y 0) (y 1) (y 2) := by
  refine (dats m 0 c).arrAt_eq_of_covers 17 _ (by decide +kernel) fun t hf y => ?_
  blk_simp
  rw [after0_17]
  obtain ⟨h, r, l, rfl⟩ : ∃ (h : Fin 4) (r : Fin 512) (l : Fin 128), y = ix3 h r l := ⟨_, _, _, eq_ix3 (n0 := 4) (n1 := 512) (n2 := 128) y⟩
  refine (outV_at m c t (ix3 h r l)).trans ?_
  show wantV m c h (tok t r.val) l = _
  rw [tok_eq]
  refine congr (congrArg₂ (wantV m c) (Fin.ext ?_) (Fin.ext ?_)) (Fin.ext ?_)
  · blk_simp [index_at t]
  · blk_simp [index_at t]
    exact congrArg (· + r.val) (mul_comm 512 t.val)
  · blk_simp [index_at t]

end Cert.Kernel3Ideal.Parts

end
-- ==== Proof.RefSecond.lean ====
/- The second layer's reference, read at an index at the ideal numbers: each token's stream, queries, keys and values are
   the specification's. -/
module

public import proofs.«01_k».proof.Proof.Gen.Reference3Ideal.Read
public import proofs.«01_k».proof.Proof.Spec3
public import Idealize.ShloMosaic.Lib.Pointwise
public import Idealize.ShloMosaic.Lib.Tactic.CleanTypes

@[expose] public section

set_option maxRecDepth 16384

noncomputable section

namespace Cert.RefRead3

open Cert.Reference3Ideal Cert.Reference3Ideal.Read Idealize.ShloMosaic Idealize.ShloMosaic.Pointwise Cert.Scalars Cert.Spec

variable (x0 : Vec Ideal S32768x1024 .f32) (x1 : Vec Ideal S4x2x16384x256 .f32) (x2 : Vec Ideal S32768x1024 .f32)
  (x3 : Vec Ideal S4x1024 .f32) (x4 : Vec Ideal S2x1024 .f32) (x5 : Vec Ideal S2x1024x2048 .f32) (x6 : Vec Ideal S1024 .f32)
  (x7 x8 : Vec Ideal S1024x256 .f32) (x9 : Vec Ideal S2x1024x1024 .f32) (x10 : Vec Ideal S4x1024 .f32)
  (x11 : Vec Ideal S4x1024x4096 .f32) (x12 : Vec Ideal S4x4096x1024 .f32) (x13 : Vec Ideal S4x1024 .f32) (x14 : Vec Ideal S4x1024x1024 .f32)
  (x15 : Vec Ideal S4x256x1024 .f32) (t : Fin 32768)

/-- The layer's normalised input. -/
theorem u_at (c : Fin 1024) : val_main_v14 (F := Ideal) x0 x3 (ix2 t c)
    = x0 (ix2 t c) * inv (fun k => x0 (ix2 t k)) * x3 (ix2 1 c) := by
  unfold val_main_v14 val_main_v13 val_main_v12 val_main_v11 val_main_v10 val_main_v9 val_main_v8 val_main_v7 val_main_v6 val_main_v5 val_main_v4
    val_main_v3 val_main_v2 val_main_v1 val_main_v0 val_main_cst val_main_cst_0 val_main_cst_1
  clean_types
  pointwise
  rfl

/-- The activation's argument. -/
theorem arg_at (c : Fin 1024) : val_main_v20 (F := Ideal) x0 x2 x3 x4 (ix2 t c)
    = x2 (ix2 t c) + x4 (ix2 1 c) * val_main_v14 (F := Ideal) x0 x3 (ix2 t c) := by
  unfold val_main_v20 val_main_v19 val_main_v18 val_main_v17 val_main_v16 val_main_v15
  clean_types
  pointwise

/-- The activation. -/
theorem act_at (c : Fin 1024) : val_main_v33 (F := Ideal) x0 x2 x3 x4 (ix2 t c) = gelu (val_main_v20 (F := Ideal) x0 x2 x3 x4 (ix2 t c)) := by
  unfold val_main_v33 val_main_v32 val_main_v31 val_main_v30 val_main_v29 val_main_v28 val_main_v27 val_main_v26 val_main_v25 val_main_v24 val_main_v23
    val_main_v22 val_main_v21 val_main_cst_2 val_main_cst_3 val_main_cst_4 val_main_cst_5
  clean_types
  pointwise
  exact gelu_comm _

/-- The activation's row. -/
theorem a_at (c : Fin 1024) : val_main_v33 (F := Ideal) x0 x2 x3 x4 (ix2 t c)
    = rowA (fun k => x0 (ix2 t k)) (fun k => x2 (ix2 t k)) (fun k => x3 (ix2 1 k)) (fun k => x4 (ix2 1 k)) c := by
  rw [act_at, arg_at, u_at]
  rfl

/-- The gated linear unit's product. -/
theorem ab_at (f : Fin 2048) : val_main_v36 (F := Ideal) x0 x2 x3 x4 x5 (ix2 t f)
    = ∑ k : Fin 1024, val_main_v33 (F := Ideal) x0 x2 x3 x4 (ix2 t k) * x5 (ix3 1 k f) := by
  unfold val_main_v36 val_main_v35 val_main_v34
  clean_types
  pointwise

/-- The gated linear unit added. -/
theorem g_at (c : Fin 1024) : val_main_v46 (F := Ideal) x0 x2 x3 x4 x5 (ix2 t c)
    = rowG (fun k => x0 (ix2 t k)) (fun k => val_main_v33 (F := Ideal) x0 x2 x3 x4 (ix2 t k)) (fun k f => x5 (ix3 1 k f)) c := by
  unfold val_main_v46 val_main_v45 val_main_v44 val_main_v43 val_main_v42 val_main_v41 val_main_v40 val_main_v39 val_main_v38 val_main_v37
    val_main_cst_6 val_main_cst_7
  clean_types
  pointwise
  simp only [ab_at]
  rfl

/-- A row times its reciprocal root mean square. -/
theorem xn_at (c : Fin 1024) : val_main_v58 (F := Ideal) x0 x2 x3 x4 x5 (ix2 t c)
    = val_main_v46 (F := Ideal) x0 x2 x3 x4 x5 (ix2 t c) * inv fun k => val_main_v46 (F := Ideal) x0 x2 x3 x4 x5 (ix2 t k) := by
  unfold val_main_v58 val_main_v57 val_main_v56 val_main_v55 val_main_v54 val_main_v53 val_main_v52 val_main_v51 val_main_v50 val_main_v49
    val_main_cst_8 val_main_cst_9 val_main_cst_10
  clean_types
  pointwise
  rfl

/-- The feed-forward block's squared positive part. -/
theorem sq_at (f : Fin 4096) : val_main_v67 (F := Ideal) x0 x2 x3 x4 x5 x10 x11 (ix2 t f)
    = max (∑ k, val_main_v58 (F := Ideal) x0 x2 x3 x4 x5 (ix2 t k) * x10 (ix2 1 k) * x11 (ix3 1 k f)) 0
      * max (∑ k, val_main_v58 (F := Ideal) x0 x2 x3 x4 x5 (ix2 t k) * x10 (ix2 1 k) * x11 (ix3 1 k f)) 0 := by
  unfold val_main_v67 val_main_v66 val_main_v65 val_main_v64 val_main_v63 val_main_v62 val_main_v61 val_main_v60 val_main_v59 val_main_v48 val_main_v47
    val_main_cst_11
  clean_types
  pointwise

/-- The feed-forward block added. -/
theorem y_at (c : Fin 1024) : val_main_v71 (F := Ideal) x0 x2 x3 x4 x5 x10 x11 x12 (ix2 t c)
    = rowY (fun k => val_main_v46 (F := Ideal) x0 x2 x3 x4 x5 (ix2 t k)) (fun k => x10 (ix2 1 k)) (fun k f => x11 (ix3 1 k f))
        (fun f k => x12 (ix3 1 f k)) c := by
  unfold val_main_v71 val_main_v70 val_main_v69 val_main_v68
  clean_types
  pointwise
  simp only [sq_at, xn_at]
  rfl

/-- The second norm's row. -/
theorem yn_at (c : Fin 1024) : val_main_v83 (F := Ideal) x0 x2 x3 x4 x5 x10 x11 x12 (ix2 t c)
    = val_main_v71 (F := Ideal) x0 x2 x3 x4 x5 x10 x11 x12 (ix2 t c)
      * inv fun k => val_main_v71 (F := Ideal) x0 x2 x3 x4 x5 x10 x11 x12 (ix2 t k) := by
  unfold val_main_v83 val_main_v82 val_main_v81 val_main_v80 val_main_v79 val_main_v78 val_main_v77 val_main_v76 val_main_v75 val_main_v74
    val_main_cst_12 val_main_cst_13 val_main_cst_14
  clean_types
  pointwise
  rfl

/-- The gate's argument. -/
theorem pre_at (c : Fin 1024) : val_main_v89 (F := Ideal) x0 x2 x3 x4 x5 x10 x11 x12 x13 x14 (ix2 t c)
    = ∑ k, val_main_v83 (F := Ideal) x0 x2 x3 x4 x5 x10 x11 x12 (ix2 t k) * x13 (ix2 1 k) * x14 (ix3 1 k c) := by
  unfold val_main_v89 val_main_v88 val_main_v87 val_main_v86 val_main_v85 val_main_v84 val_main_v73 val_main_v72
  clean_types
  pointwise

/-- The gate. -/
theorem gate_at (c : Fin 1024) : val_main_v95 (F := Ideal) x0 x2 x3 x4 x5 x10 x11 x12 x13 x14 (ix2 t c)
    = Ideal.logistic (val_main_v89 (F := Ideal) x0 x2 x3 x4 x5 x10 x11 x12 x13 x14 (ix2 t c)) := by
  unfold val_main_v95 val_main_v94 val_main_v93 val_main_v92 val_main_v91 val_main_v90 val_main_cst_15 val_main_cst_16
  clean_types
  pointwise
  rfl

/-- The embedding's product. -/
theorem emb_at (c : Fin 1024) : val_main_v101 (F := Ideal) x1 x15 (ix2 t c)
    = ∑ k : Fin 256, x1 (ix4 1 (⟨t.val / 16384, by omega⟩ : Fin 2) (⟨t.val % 16384, by omega⟩ : Fin 16384) k) * x15 (ix3 1 k c) := by
  unfold val_main_v101 val_main_v100 val_main_v99 val_main_v98 val_main_v97 val_main_v96
  clean_types
  pointwise

/-- The gated embedding added. -/
theorem z_at (c : Fin 1024) : val_main_v103 (F := Ideal) x0 x1 x2 x3 x4 x5 x10 x11 x12 x13 x14 x15 (ix2 t c)
    = rowZ (fun k => val_main_v71 (F := Ideal) x0 x2 x3 x4 x5 x10 x11 x12 (ix2 t k)) (fun k => x13 (ix2 1 k)) (fun k f => x14 (ix3 1 k f))
        (fun k => x1 (ix4 1 (⟨t.val / 16384, by omega⟩ : Fin 2) (⟨t.val % 16384, by omega⟩ : Fin 16384) k)) (fun k f => x15 (ix3 1 k f)) c := by
  unfold val_main_v103 val_main_v102
  clean_types
  pointwise
  rw [gate_at, pre_at, emb_at]
  simp only [yn_at]
  rfl

/-- The reference's stream for a token and a column is the specification's. -/
theorem stream_at (c : Fin 1024) : (val_main_v103 (F := Ideal) x0 x1 x2 x3 x4 x5 x10 x11 x12 x13 x14 x15 (ix2 t c) : EReal)
    = stream (fun T k => x0 (ix2 T k)) (fun T k => x1 (ix4 1 (⟨T.val / 16384, by omega⟩ : Fin 2) (⟨T.val % 16384, by omega⟩ : Fin 16384) k))
        (fun T k => x2 (ix2 T k)) (fun k => x3 (ix2 1 k)) (fun k => x4 (ix2 1 k)) (fun k f => x5 (ix3 1 k f)) (fun k => x10 (ix2 1 k))
        (fun k f => x11 (ix3 1 k f)) (fun f k => x12 (ix3 1 f k)) (fun k => x13 (ix2 1 k)) (fun k f => x14 (ix3 1 k f)) (fun k f => x15 (ix3 1 k f)) t c := by
  have hA := funext (a_at x0 x2 x3 x4 t)
  have hG := funext (g_at x0 x2 x3 x4 x5 t)
  rw [hA] at hG
  have hY := funext (y_at x0 x2 x3 x4 x5 x10 x11 x12 t)
  rw [hG] at hY
  have hZ := z_at x0 x1 x2 x3 x4 x5 x10 x11 x12 x13 x14 x15 t c
  rw [hY] at hZ
  exact hZ

/-- The keys' and values' normalised input. -/
theorem kvn_at (c : Fin 1024) : val_main_v117 (F := Ideal) x0 x1 x2 x3 x4 x5 x6 x10 x11 x12 x13 x14 x15 (ix2 t c)
    = val_main_v103 (F := Ideal) x0 x1 x2 x3 x4 x5 x10 x11 x12 x13 x14 x15 (ix2 t c) * inv (fun k => val_main_v103 (F := Ideal) x0 x1 x2 x3 x4 x5 x10 x11 x12 x13 x14 x15 (ix2 t k)) * x6 (ix1 c) := by
  unfold val_main_v117 val_main_v116 val_main_v115 val_main_v114 val_main_v113 val_main_v112 val_main_v111 val_main_v110 val_main_v109 val_main_v108 val_main_v107 val_main_v106 val_main_v105 val_main_cst_17 val_main_cst_18 val_main_cst_19
  clean_types
  pointwise
  rfl

/-- The keys' product. -/
theorem kproj_at (f : Fin 256) : val_main_v118 (F := Ideal) x0 x1 x2 x3 x4 x5 x6 x7 x10 x11 x12 x13 x14 x15 (ix2 t f)
    = dot (fun k => val_main_v103 (F := Ideal) x0 x1 x2 x3 x4 x5 x10 x11 x12 x13 x14 x15 (ix2 t k)) (fun k => x6 (ix1 k)) (fun k => x7 (ix2 k f)) := by
  unfold val_main_v118
  clean_types
  pointwise
  simp only [kvn_at]
  rfl

/-- The values' product. -/
theorem vproj_at (f : Fin 256) : val_main_v154 (F := Ideal) x0 x1 x2 x3 x4 x5 x6 x8 x10 x11 x12 x13 x14 x15 (ix2 t f)
    = dot (fun k => val_main_v103 (F := Ideal) x0 x1 x2 x3 x4 x5 x10 x11 x12 x13 x14 x15 (ix2 t k)) (fun k => x6 (ix1 k)) (fun k => x8 (ix2 k f)) := by
  unfold val_main_v154
  clean_types
  pointwise
  simp only [kvn_at]
  rfl

/-- The queries' normalised input. -/
theorem qn_at (c : Fin 1024) : val_main_v170 (F := Ideal) x0 x1 x2 x3 x4 x5 x10 x11 x12 x13 x14 x15 (ix2 t c)
    = val_main_v103 (F := Ideal) x0 x1 x2 x3 x4 x5 x10 x11 x12 x13 x14 x15 (ix2 t c) * inv (fun k => val_main_v103 (F := Ideal) x0 x1 x2 x3 x4 x5 x10 x11 x12 x13 x14 x15 (ix2 t k)) * x3 (ix2 2 c) := by
  unfold val_main_v170 val_main_v169 val_main_v168 val_main_v167 val_main_v166 val_main_v165 val_main_v164 val_main_v163 val_main_v162 val_main_v161 val_main_v160 val_main_v159 val_main_v158 val_main_v157 val_main_v156 val_main_cst_24 val_main_cst_25 val_main_cst_26
  clean_types
  pointwise
  rfl

/-- The queries' product. -/
theorem qproj_at (f : Fin 1024) : val_main_v173 (F := Ideal) x0 x1 x2 x3 x4 x5 x9 x10 x11 x12 x13 x14 x15 (ix2 t f)
    = dot (fun k => val_main_v103 (F := Ideal) x0 x1 x2 x3 x4 x5 x10 x11 x12 x13 x14 x15 (ix2 t k)) (fun k => x3 (ix2 2 k)) (fun k => x9 (ix3 0 k f)) := by
  unfold val_main_v173 val_main_v172 val_main_v171
  clean_types
  pointwise
  simp only [qn_at]
  rfl

section Heads

variable (b : Fin 2) (s : Fin 16384) (hb : t.val = 16384 * b.val + s.val)

include hb in
/-- A key head before its turn. -/
theorem khead_at (h : Fin 4) (j : Fin 64) : val_main_v119 (F := Ideal) x0 x1 x2 x3 x4 x5 x6 x7 x10 x11 x12 x13 x14 x15 (ix4 b s h j)
    = val_main_v118 (F := Ideal) x0 x1 x2 x3 x4 x5 x6 x7 x10 x11 x12 x13 x14 x15 (ix2 t (⟨64 * h.val + j.val, by omega⟩ : Fin 256)) := by
  unfold val_main_v119
  clean_types
  pointwise
  refine congrArg₂ (fun a f => val_main_v118 (F := Ideal) x0 x1 x2 x3 x4 x5 x6 x7 x10 x11 x12 x13 x14 x15 (ix2 a f)) (Fin.ext ?_) (Fin.ext ?_) <;> dsimp only <;> omega

include hb in
/-- A value head. -/
theorem vhead_at (h : Fin 4) (j : Fin 64) : val_main_v155 (F := Ideal) x0 x1 x2 x3 x4 x5 x6 x8 x10 x11 x12 x13 x14 x15 (ix4 b s h j)
    = val_main_v154 (F := Ideal) x0 x1 x2 x3 x4 x5 x6 x8 x10 x11 x12 x13 x14 x15 (ix2 t (⟨64 * h.val + j.val, by omega⟩ : Fin 256)) := by
  unfold val_main_v155
  clean_types
  pointwise
  refine congrArg₂ (fun a f => val_main_v154 (F := Ideal) x0 x1 x2 x3 x4 x5 x6 x8 x10 x11 x12 x13 x14 x15 (ix2 a f)) (Fin.ext ?_) (Fin.ext ?_) <;> dsimp only <;> omega

include hb in
/-- A query head before its turn. -/
theorem qhead_at (h : Fin 16) (j : Fin 64) : val_main_v174 (F := Ideal) x0 x1 x2 x3 x4 x5 x9 x10 x11 x12 x13 x14 x15 (ix4 b s h j)
    = val_main_v173 (F := Ideal) x0 x1 x2 x3 x4 x5 x9 x10 x11 x12 x13 x14 x15 (ix2 t (⟨64 * h.val + j.val, by omega⟩ : Fin 1024)) := by
  unfold val_main_v174
  clean_types
  pointwise
  refine congrArg₂ (fun a f => val_main_v173 (F := Ideal) x0 x1 x2 x3 x4 x5 x9 x10 x11 x12 x13 x14 x15 (ix2 a f)) (Fin.ext ?_) (Fin.ext ?_) <;> dsimp only <;> omega

/-- The keys' frequencies. -/
theorem kfreq_at (j : Fin 8) : val_main_v129 (F := Ideal) (ix1 j) = freq j := by
  unfold val_main_v129 val_main_v128 val_main_v127 val_main_v126 val_main_v125 val_main_v124 val_main_v123 val_main_v122 val_main_v121 val_main_v120 val_main_cst_20 val_main_cst_21 val_main_cst_22 val_main_cst_23
  clean_types
  pointwise
  rfl

/-- The queries' frequencies. -/
theorem qfreq_at (j : Fin 8) : val_main_v184 (F := Ideal) (ix1 j) = freq j := by
  unfold val_main_v184 val_main_v183 val_main_v182 val_main_v181 val_main_v180 val_main_v179 val_main_v178 val_main_v177 val_main_v176 val_main_v175 val_main_cst_27 val_main_cst_28 val_main_cst_29 val_main_cst_30
  clean_types
  pointwise
  rfl

include hb in
/-- The position of a place in its sequence. -/
theorem pos_at : FloatOps.sitofp (F := Ideal) .f32 (BitVec.ofNat 32 s.val) = pos t := by
  unfold pos
  rw [show t.val % 16384 = s.val by omega]

include hb in
/-- The keys' angles. -/
theorem kangle_at (j : Fin 8) : val_main_v135 (F := Ideal) (ix2 s j) = pos t * freq j := by
  rw [← kfreq_at, ← pos_at t b s hb]
  unfold val_main_v135 val_main_v134 val_main_v133 val_main_v132 val_main_v131 val_main_v130 val_main_v104
  clean_types
  pointwise

include hb in
/-- The queries' angles. -/
theorem qangle_at (j : Fin 8) : val_main_v190 (F := Ideal) (ix2 s j) = pos t * freq j := by
  rw [← qfreq_at, ← pos_at t b s hb]
  unfold val_main_v190 val_main_v189 val_main_v188 val_main_v187 val_main_v186 val_main_v185 val_main_v104
  clean_types
  pointwise

include hb in
/-- A key head turned. -/
theorem kturn_at (h : Fin 4) (j : Fin 64) : val_main_v153 (F := Ideal) x0 x1 x2 x3 x4 x5 x6 x7 x10 x11 x12 x13 x14 x15 (ix4 b s h j)
    = turn (fun j => val_main_v119 (F := Ideal) x0 x1 x2 x3 x4 x5 x6 x7 x10 x11 x12 x13 x14 x15 (ix4 b s h j)) (pos t) j := by
  unfold val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136
  clean_types
  pointwise
  simp only [kangle_at t b s hb]
  unfold turn
  by_cases h8 : j.val < 8
  · rw [dif_pos h8, dif_pos h8]
    simp only [Nat.add_comm 8 j.val]
  · rw [dif_neg h8, dif_neg h8]
    by_cases h16 : j.val - 8 < 8
    · have e : 8 + (j.val - 8) = j.val := by omega
      rw [dif_pos h16, dif_pos h16]
      simp only [e]
    · have e : 16 + (j.val - 8 - 8) = j.val := by omega
      rw [dif_neg h16, dif_neg h16]
      simp only [e]

include hb in
/-- A query head turned and scaled. -/
theorem qturn_at (h : Fin 16) (j : Fin 64) : val_main_v210 (F := Ideal) x0 x1 x2 x3 x4 x5 x9 x10 x11 x12 x13 x14 x15 (ix4 b s h j)
    = turn (fun j => val_main_v174 (F := Ideal) x0 x1 x2 x3 x4 x5 x9 x10 x11 x12 x13 x14 x15 (ix4 b s h j)) (pos t) j * Ideal.ofBits .f32 0x3E000000#32 := by
  unfold val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_cst_31
  clean_types
  pointwise
  simp only [qangle_at t b s hb]
  refine congrArg (· * Ideal.ofBits .f32 0x3E000000#32) ?_
  unfold turn
  by_cases h8 : j.val < 8
  · rw [dif_pos h8, dif_pos h8]
    simp only [Nat.add_comm 8 j.val]
  · rw [dif_neg h8, dif_neg h8]
    by_cases h16 : j.val - 8 < 8
    · have e : 8 + (j.val - 8) = j.val := by omega
      rw [dif_pos h16, dif_pos h16]
      simp only [e]
    · have e : 16 + (j.val - 8 - 8) = j.val := by omega
      rw [dif_neg h16, dif_neg h16]
      simp only [e]

end Heads

/-- The keys, laid out as the kernel's. -/
theorem kout_at (h : Fin 4) (l : Fin 128) : val_main_v217 (F := Ideal) x0 x1 x2 x3 x4 x5 x6 x7 x10 x11 x12 x13 x14 x15 (ix3 h t l)
    = val_main_v153 (F := Ideal) x0 x1 x2 x3 x4 x5 x6 x7 x10 x11 x12 x13 x14 x15 (ix4 (⟨t.val / 16384, by omega⟩ : Fin 2) (⟨t.val % 16384, by omega⟩ : Fin 16384) h (⟨l.val % 64, by omega⟩ : Fin 64)) := by
  unfold val_main_v217 val_main_v216 val_main_v215 val_main_v214
  clean_types
  pointwise
  by_cases h64 : l.val < 64
  · have e : l.val % 64 = l.val := Nat.mod_eq_of_lt h64
    rw [dif_pos h64]
    simp only [e]
  · have e : l.val % 64 = l.val - 64 := by omega
    rw [dif_neg h64]
    simp only [e]

/-- The values, laid out as the kernel's. -/
theorem vout_at (h : Fin 4) (l : Fin 128) : val_main_v221 (F := Ideal) x0 x1 x2 x3 x4 x5 x6 x8 x10 x11 x12 x13 x14 x15 (ix3 h t l)
    = val_main_v155 (F := Ideal) x0 x1 x2 x3 x4 x5 x6 x8 x10 x11 x12 x13 x14 x15 (ix4 (⟨t.val / 16384, by omega⟩ : Fin 2) (⟨t.val % 16384, by omega⟩ : Fin 16384) h (⟨l.val % 64, by omega⟩ : Fin 64)) := by
  unfold val_main_v221 val_main_v220 val_main_v219 val_main_v218
  clean_types
  pointwise
  by_cases h64 : l.val < 64
  · have e : l.val % 64 = l.val := Nat.mod_eq_of_lt h64
    rw [dif_pos h64]
    simp only [e]
  · have e : l.val % 64 = l.val - 64 := by omega
    rw [dif_neg h64]
    simp only [e]

/-- The queries, laid out as the kernel's. -/
theorem qout_at (h : Fin 8) (l : Fin 128) : val_main_v213 (F := Ideal) x0 x1 x2 x3 x4 x5 x9 x10 x11 x12 x13 x14 x15 (ix3 h t l)
    = val_main_v210 (F := Ideal) x0 x1 x2 x3 x4 x5 x9 x10 x11 x12 x13 x14 x15 (ix4 (⟨t.val / 16384, by omega⟩ : Fin 2) (⟨t.val % 16384, by omega⟩ : Fin 16384)
        (⟨2 * h.val + l.val / 64, by omega⟩ : Fin 16) (⟨l.val % 64, by omega⟩ : Fin 64)) := by
  unfold val_main_v213 val_main_v212 val_main_v211
  clean_types
  pointwise
  simp only [Nat.mul_comm h.val 2]

/-- The reference's keys are the turned heads of its stream. -/
theorem k_at (h : Fin 4) (l : Fin 128) : (val_main_v217 (F := Ideal) x0 x1 x2 x3 x4 x5 x6 x7 x10 x11 x12 x13 x14 x15 (ix3 h t l) : EReal)
    = turn (fun j => dot (fun k => val_main_v103 (F := Ideal) x0 x1 x2 x3 x4 x5 x10 x11 x12 x13 x14 x15 (ix2 t k)) (fun k => x6 (ix1 k)) (fun k => x7 (ix2 k (⟨64 * h.val + j.val, by omega⟩ : Fin 256))))
        (pos t) ⟨l.val % 64, Nat.mod_lt _ (by decide)⟩ := by
  rw [kout_at]
  refine (kturn_at x0 x1 x2 x3 x4 x5 x6 x7 x10 x11 x12 x13 x14 x15 t _ _ (Nat.div_add_mod _ _).symm h _).trans ?_
  refine congrArg (fun u => turn u (pos t) _) (funext fun j => ?_)
  exact (khead_at x0 x1 x2 x3 x4 x5 x6 x7 x10 x11 x12 x13 x14 x15 t _ _ (Nat.div_add_mod _ _).symm h j).trans (kproj_at x0 x1 x2 x3 x4 x5 x6 x7 x10 x11 x12 x13 x14 x15 t _)

/-- The reference's values are the heads of its stream. -/
theorem v_at (h : Fin 4) (l : Fin 128) : (val_main_v221 (F := Ideal) x0 x1 x2 x3 x4 x5 x6 x8 x10 x11 x12 x13 x14 x15 (ix3 h t l) : EReal)
    = dot (fun k => val_main_v103 (F := Ideal) x0 x1 x2 x3 x4 x5 x10 x11 x12 x13 x14 x15 (ix2 t k)) (fun k => x6 (ix1 k)) (fun k => x8 (ix2 k (⟨64 * h.val + l.val % 64, by omega⟩ : Fin 256))) := by
  rw [vout_at]
  exact (vhead_at x0 x1 x2 x3 x4 x5 x6 x8 x10 x11 x12 x13 x14 x15 t _ _ (Nat.div_add_mod _ _).symm h _).trans (vproj_at x0 x1 x2 x3 x4 x5 x6 x8 x10 x11 x12 x13 x14 x15 t _)

/-- The reference's queries are the turned and scaled heads of its stream. -/
theorem q_at (h : Fin 8) (l : Fin 128) : (val_main_v213 (F := Ideal) x0 x1 x2 x3 x4 x5 x9 x10 x11 x12 x13 x14 x15 (ix3 h t l) : EReal)
    = turn (fun j => dot (fun k => val_main_v103 (F := Ideal) x0 x1 x2 x3 x4 x5 x10 x11 x12 x13 x14 x15 (ix2 t k)) (fun k => x3 (ix2 2 k)) (fun k => x9 (ix3 0 k (⟨64 * (2 * h.val + l.val / 64) + j.val, by omega⟩ : Fin 1024))))
        (pos t) ⟨l.val % 64, Nat.mod_lt _ (by decide)⟩ * Ideal.ofBits .f32 0x3E000000#32 := by
  rw [qout_at]
  refine (qturn_at x0 x1 x2 x3 x4 x5 x9 x10 x11 x12 x13 x14 x15 t _ _ (Nat.div_add_mod _ _).symm _ _).trans ?_
  refine congrArg (fun u => turn u (pos t) _ * Ideal.ofBits .f32 0x3E000000#32) (funext fun j => ?_)
  exact (qhead_at x0 x1 x2 x3 x4 x5 x9 x10 x11 x12 x13 x14 x15 t _ _ (Nat.div_add_mod _ _).symm _ j).trans (qproj_at x0 x1 x2 x3 x4 x5 x9 x10 x11 x12 x13 x14 x15 t _)

end Cert.RefRead3

end
-- ==== Proof.Meet3.lean ====
/- The second layer's two programs' results at the ideal numbers agree. -/
module

public import proofs.«01_k».proof.Proof.Final3
public import proofs.«01_k».proof.Proof.RefSecond

@[expose] public section

set_option maxRecDepth 16384

noncomputable section

namespace Cert.Meet3

open Idealize.ShloMosaic Idealize.ShloMosaic.Pointwise

variable (x0 : Vec Ideal Cert.Reference3Ideal.S32768x1024 .f32)
  (x1 : Vec Ideal Cert.Reference3Ideal.S4x2x16384x256 .f32)
  (x2 : Vec Ideal Cert.Reference3Ideal.S32768x1024 .f32)
  (x3 : Vec Ideal Cert.Reference3Ideal.S4x1024 .f32)
  (x4 : Vec Ideal Cert.Reference3Ideal.S2x1024 .f32)
  (x5 : Vec Ideal Cert.Reference3Ideal.S2x1024x2048 .f32)
  (x6 : Vec Ideal Cert.Reference3Ideal.S1024 .f32)
  (x7 : Vec Ideal Cert.Reference3Ideal.S1024x256 .f32)
  (x8 : Vec Ideal Cert.Reference3Ideal.S1024x256 .f32)
  (x9 : Vec Ideal Cert.Reference3Ideal.S2x1024x1024 .f32)
  (x10 : Vec Ideal Cert.Reference3Ideal.S4x1024 .f32)
  (x11 : Vec Ideal Cert.Reference3Ideal.S4x1024x4096 .f32)
  (x12 : Vec Ideal Cert.Reference3Ideal.S4x4096x1024 .f32)
  (x13 : Vec Ideal Cert.Reference3Ideal.S4x1024 .f32)
  (x14 : Vec Ideal Cert.Reference3Ideal.S4x1024x1024 .f32)
  (x15 : Vec Ideal Cert.Reference3Ideal.S4x256x1024 .f32)
  (m : (ℓ : Loc Cert.Kernel3Ideal.nD Cert.Kernel3Ideal.τ Cert.Kernel3Ideal.sig) → Buf (Elt Ideal) ℓ) (c : Dev Cert.Kernel3Ideal.nD)
  (e0 : x0 = m ((c.tc : Thread Cert.Kernel3Ideal.nD Cert.Kernel3Ideal.τ).loc Cert.Kernel3Ideal.main_arg0))
  (e1 : x1 = m ((c.tc : Thread Cert.Kernel3Ideal.nD Cert.Kernel3Ideal.τ).loc Cert.Kernel3Ideal.main_arg1))
  (e2 : x2 = m ((c.tc : Thread Cert.Kernel3Ideal.nD Cert.Kernel3Ideal.τ).loc Cert.Kernel3Ideal.main_arg2))
  (e3 : x3 = m ((c.tc : Thread Cert.Kernel3Ideal.nD Cert.Kernel3Ideal.τ).loc Cert.Kernel3Ideal.main_arg3))
  (e4 : x4 = m ((c.tc : Thread Cert.Kernel3Ideal.nD Cert.Kernel3Ideal.τ).loc Cert.Kernel3Ideal.main_arg4))
  (e5 : x5 = m ((c.tc : Thread Cert.Kernel3Ideal.nD Cert.Kernel3Ideal.τ).loc Cert.Kernel3Ideal.main_arg5))
  (e6 : x6 = m ((c.tc : Thread Cert.Kernel3Ideal.nD Cert.Kernel3Ideal.τ).loc Cert.Kernel3Ideal.main_arg6))
  (e7 : x7 = m ((c.tc : Thread Cert.Kernel3Ideal.nD Cert.Kernel3Ideal.τ).loc Cert.Kernel3Ideal.main_arg7))
  (e8 : x8 = m ((c.tc : Thread Cert.Kernel3Ideal.nD Cert.Kernel3Ideal.τ).loc Cert.Kernel3Ideal.main_arg8))
  (e9 : x9 = m ((c.tc : Thread Cert.Kernel3Ideal.nD Cert.Kernel3Ideal.τ).loc Cert.Kernel3Ideal.main_arg9))
  (e10 : x10 = m ((c.tc : Thread Cert.Kernel3Ideal.nD Cert.Kernel3Ideal.τ).loc Cert.Kernel3Ideal.main_arg10))
  (e11 : x11 = m ((c.tc : Thread Cert.Kernel3Ideal.nD Cert.Kernel3Ideal.τ).loc Cert.Kernel3Ideal.main_arg11))
  (e12 : x12 = m ((c.tc : Thread Cert.Kernel3Ideal.nD Cert.Kernel3Ideal.τ).loc Cert.Kernel3Ideal.main_arg12))
  (e13 : x13 = m ((c.tc : Thread Cert.Kernel3Ideal.nD Cert.Kernel3Ideal.τ).loc Cert.Kernel3Ideal.main_arg13))
  (e14 : x14 = m ((c.tc : Thread Cert.Kernel3Ideal.nD Cert.Kernel3Ideal.τ).loc Cert.Kernel3Ideal.main_arg14))
  (e15 : x15 = m ((c.tc : Thread Cert.Kernel3Ideal.nD Cert.Kernel3Ideal.τ).loc Cert.Kernel3Ideal.main_arg15))

include e0 e1 e2 e3 e4 e5 e10 e11 e12 e13 e14 e15 in
/-- From the same arguments the reference's stream is the kernel's. -/
theorem meetH : Cert.Reference3Ideal.Read.val_main_v103 (F := Ideal) x0 x1 x2 x3 x4 x5 x10 x11 x12 x13 x14 x15
    = (Cert.Kernel3Ideal.Gen.dats m 0 c).arrAt 14 Cert.Kernel3Ideal.cfg0.N := by
  rw [Cert.Kernel3Ideal.Parts.finalH_eq]
  funext y
  obtain ⟨t, C, rfl⟩ : ∃ (t : Fin 32768) (C : Fin 1024), y = ix2 t C := ⟨_, _, eq_ix2 (n0 := 32768) (n1 := 1024) y⟩
  subst e0 e1 e2 e3 e4 e5 e10 e11 e12 e13 e14 e15
  exact (Cert.RefRead3.stream_at _ _ _ _ _ _ _ _ _ _ _ _ t C).trans rfl

include e0 e1 e2 e3 e4 e5 e9 e10 e11 e12 e13 e14 e15 in
/-- From the same arguments the reference's queries are the kernel's. -/
theorem meetQ : Cert.Reference3Ideal.Read.val_main_v213 (F := Ideal) x0 x1 x2 x3 x4 x5 x9 x10 x11 x12 x13 x14 x15
    = (Cert.Kernel3Ideal.Gen.dats m 0 c).arrAt 15 Cert.Kernel3Ideal.cfg0.N := by
  rw [Cert.Kernel3Ideal.Parts.finalQ_eq]
  funext y
  obtain ⟨h, t, l, rfl⟩ : ∃ (h : Fin 8) (t : Fin 32768) (l : Fin 128), y = ix3 h t l := ⟨_, _, _, eq_ix3 (n0 := 8) (n1 := 32768) (n2 := 128) y⟩
  have hs := funext (Cert.RefRead3.stream_at x0 x1 x2 x3 x4 x5 x10 x11 x12 x13 x14 x15 t)
  have hn := Cert.RefRead3.q_at x0 x1 x2 x3 x4 x5 x9 x10 x11 x12 x13 x14 x15 t h l
  rw [hs] at hn
  subst e0 e1 e2 e3 e4 e5 e9 e10 e11 e12 e13 e14 e15
  exact hn.trans rfl

include e0 e1 e2 e3 e4 e5 e6 e7 e10 e11 e12 e13 e14 e15 in
/-- From the same arguments the reference's keys are the kernel's. -/
theorem meetK : Cert.Reference3Ideal.Read.val_main_v217 (F := Ideal) x0 x1 x2 x3 x4 x5 x6 x7 x10 x11 x12 x13 x14 x15
    = (Cert.Kernel3Ideal.Gen.dats m 0 c).arrAt 16 Cert.Kernel3Ideal.cfg0.N := by
  rw [Cert.Kernel3Ideal.Parts.finalK_eq]
  funext y
  obtain ⟨h, t, l, rfl⟩ : ∃ (h : Fin 4) (t : Fin 32768) (l : Fin 128), y = ix3 h t l := ⟨_, _, _, eq_ix3 (n0 := 4) (n1 := 32768) (n2 := 128) y⟩
  have hs := funext (Cert.RefRead3.stream_at x0 x1 x2 x3 x4 x5 x10 x11 x12 x13 x14 x15 t)
  have hn := Cert.RefRead3.k_at x0 x1 x2 x3 x4 x5 x6 x7 x10 x11 x12 x13 x14 x15 t h l
  rw [hs] at hn
  subst e0 e1 e2 e3 e4 e5 e6 e7 e10 e11 e12 e13 e14 e15
  exact hn.trans rfl

include e0 e1 e2 e3 e4 e5 e6 e8 e10 e11 e12 e13 e14 e15 in
/-- From the same arguments the reference's values are the kernel's. -/
theorem meetV : Cert.Reference3Ideal.Read.val_main_v221 (F := Ideal) x0 x1 x2 x3 x4 x5 x6 x8 x10 x11 x12 x13 x14 x15
    = (Cert.Kernel3Ideal.Gen.dats m 0 c).arrAt 17 Cert.Kernel3Ideal.cfg0.N := by
  rw [Cert.Kernel3Ideal.Parts.finalV_eq]
  funext y
  obtain ⟨h, t, l, rfl⟩ : ∃ (h : Fin 4) (t : Fin 32768) (l : Fin 128), y = ix3 h t l := ⟨_, _, _, eq_ix3 (n0 := 4) (n1 := 32768) (n2 := 128) y⟩
  have hs := funext (Cert.RefRead3.stream_at x0 x1 x2 x3 x4 x5 x10 x11 x12 x13 x14 x15 t)
  have hn := Cert.RefRead3.v_at x0 x1 x2 x3 x4 x5 x6 x8 x10 x11 x12 x13 x14 x15 t h l
  rw [hs] at hn
  subst e0 e1 e2 e3 e4 e5 e6 e8 e10 e11 e12 e13 e14 e15
  exact hn.trans rfl

end Cert.Meet3

end
-- ==== Proof.lean ====
/- The certificate of three kernels, the last layer's attention-to-final-norm call, the first layer's gated call and the
   second layer's call with its queries, keys and values: their frames, their idealizations, and the equality of each kernel
   and its reference at the ideal numbers, for the first kernel with finite queries, keys and sinks and for the others with
   any arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Reference.Run
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2.Run
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3.Run
public import proofs.«01_k».proof.Proof.Gen.Reference3Ideal.Run
public import proofs.«01_k».proof.Proof.Gen.Reference3Ideal.Read
public import Idealize.ShloMosaic.Adequacy
public import Idealize.ShloMosaic.Init
public import proofs.«01_k».proof.Proof.Meet
public import proofs.«01_k».proof.Proof.Meet2
public import proofs.«01_k».proof.Proof.Meet3
public import Idealize.ShloMosaic.Lib.Quiescent

@[expose] public section

noncomputable section

namespace Cert.Proof

open Idealize.ShloMosaic Idealize.SL.Sem

/-- The kernel at the machine's numbers runs, keeps its arguments and leaves every counter at zero. -/
theorem frame_p : Cert.quiescent_Kernel := fun m ρ _ => Cert.Kernel.Gen.frame m ρ

/-- The kernel at the ideal numbers runs, keeps its arguments and leaves every counter at zero. -/
theorem frame_pi : Cert.quiescent_KernelIdeal := fun m ρ _ => Cert.KernelIdeal.Gen.frame m ρ

/-- The same under the precondition, which is not used. -/
theorem frame_pi_pre : Cert.quiescent_KernelIdeal_pre_finite_scores := fun m ρ _ => Cert.KernelIdeal.Gen.frame m ρ

/-- The reference at the ideal numbers runs, keeps its arguments and leaves every counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which is not used. -/
theorem frame_ri_pre : Cert.quiescent_ReferenceIdeal_pre_finite_scores := fun m ρ _ => frame_ri m ρ trivial

/-- The reference at the machine's numbers runs, keeps its arguments and leaves every counter at zero. -/
theorem frame_r : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The mask's constant is the named one. -/
theorem preserves_p : Cert.preserves_Kernel_KernelIdeal :=
  IdealRules.named_const.statement Cert.KernelIdeal.κ "mask" .f32 0xF149F2CA#32 ⊥ rfl

/-- For finite queries, keys and sinks the kernel's result is the reference's. -/
theorem equal : Cert.algebraic_KernelIdeal_ReferenceIdeal_pre_finite_scores := by
  intro m ρ m' ρ' hpre hagree
  refine ⟨fun c => (Cert.KernelIdeal.Gen.dats m 0 c).arrAt 14 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4, h5, h6, h7, h8, h9, h10, h11, h12, h13⟩ := hagree c
  exact (Cert.ReferenceIdeal.Read.val_main_v154_eq (StableHlo.launchContents m' c)).trans
    (Cert.Meet.meet _ _ _ _ _ _ _ _ _ _ _ _ _ _ m c h0 h1 h2 h3 h4 h5 h6 h7 h8 h9 h10 h11 h12 h13 hpre)

/-- The second kernel at the machine's numbers runs, keeps its arguments and leaves every counter at zero. -/
theorem frame_p2 : Cert.quiescent_Kernel2 := fun m ρ _ => Cert.Kernel2.Gen.frame m ρ

/-- The second kernel at the ideal numbers runs, keeps its arguments and leaves every counter at zero. -/
theorem frame_pi2 : Cert.quiescent_Kernel2Ideal := fun m ρ _ => Cert.Kernel2Ideal.Gen.frame m ρ

/-- The second reference at the ideal numbers runs, keeps its arguments and leaves every counter at zero. -/
theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The second reference at the machine's numbers runs, keeps its arguments and leaves every counter at zero. -/
theorem frame_r2 : Cert.quiescent_Reference2 := fun m ρ _ =>
  (θ_run Cert.Reference2.defs _ _).mono (fun r h => ⟨fun c => (h c).2.2, sem_eq_zero_of_no_sems (by decide) r.2⟩)
    (Cert.Reference2.Value.run (F := Bits) m ρ)

/-- From any arguments the second kernel's two results are its reference's. -/
theorem equal2 : Cert.algebraic_Kernel2Ideal_Reference2Ideal := by
  intro m ρ m' ρ' _ hagree
  refine ⟨fun c => (Cert.Kernel2Ideal.Gen.dats m 0 c).arrAt 11 Cert.Kernel2Ideal.cfg0.N,
    fun c => (Cert.Kernel2Ideal.Gen.dats m 0 c).arrAt 12 Cert.Kernel2Ideal.cfg0.N, Cert.Kernel2Ideal.Value.run_blocks m ρ, ?_⟩
  refine (θ_run Cert.Reference2Ideal.defs _ _).mono (fun r h c => ⟨(h c).1.trans ?_, (h c).2.1.trans ?_, (h c).2.2⟩)
    (Cert.Reference2Ideal.Value.run (F := Ideal) m' ρ')
  · obtain ⟨h0, h1, h2, h3, h4, h5, h6, h7, h8, h9, h10, h11⟩ := hagree c
    exact (Cert.Reference2Ideal.Read.val_main_v103_eq (StableHlo.launchContents m' c)).trans
      (Cert.Meet2.meetH _ _ _ _ _ _ _ _ _ _ _ _ m c h0 h1 h2 h3 h4 h5 h6 h7 h8 h9 h10 h11)
  · obtain ⟨h0, h1, h2, h3, h4, h5, h6, h7, h8, h9, h10, h11⟩ := hagree c
    exact (Cert.Reference2Ideal.Read.val_main_v118_eq (StableHlo.launchContents m' c)).trans
      (Cert.Meet2.meetN _ _ _ _ _ _ _ _ _ _ _ _ m c h0 h1 h2 h3 h4 h5 h6 h7 h8 h9 h10 h11)

/-- The third kernel at the machine's numbers runs, keeps its arguments and leaves every counter at zero. -/
theorem frame_p3 : Cert.quiescent_Kernel3 := fun m ρ _ => Cert.Kernel3.Gen.frame m ρ

/-- The third kernel at the ideal numbers runs, keeps its arguments and leaves every counter at zero. -/
theorem frame_pi3 : Cert.quiescent_Kernel3Ideal := fun m ρ _ => Cert.Kernel3Ideal.Gen.frame m ρ

/-- The third reference at the ideal numbers runs, keeps its arguments and leaves every counter at zero. -/
theorem frame_ri3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The third reference at the machine's numbers runs, keeps its arguments and leaves every counter at zero. -/
theorem frame_r3 : Cert.quiescent_Reference3 := fun m ρ _ =>
  (θ_run Cert.Reference3.defs _ _).mono (fun r h => ⟨fun c => (h c).2.2.2.2, sem_eq_zero_of_no_sems (by decide) r.2⟩)
    (Cert.Reference3.Value.run (F := Bits) m ρ)

/-- From any arguments the third kernel's four results are its reference's. -/
theorem equal3 : Cert.algebraic_Kernel3Ideal_Reference3Ideal := by
  intro m ρ m' ρ' _ hagree
  refine ⟨fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N, Cert.Kernel3Ideal.Value.run_blocks m ρ, ?_⟩
  refine (θ_run Cert.Reference3Ideal.defs _ _).mono
    (fun r h c => ⟨(h c).1.trans ?_, (h c).2.1.trans ?_, (h c).2.2.1.trans ?_, (h c).2.2.2.1.trans ?_, (h c).2.2.2.2⟩)
    (Cert.Reference3Ideal.Value.run (F := Ideal) m' ρ')
  · obtain ⟨h0, h1, h2, h3, h4, h5, h6, h7, h8, h9, h10, h11, h12, h13, h14, h15⟩ := hagree c
    exact (Cert.Reference3Ideal.Read.val_main_v103_eq (StableHlo.launchContents m' c)).trans
      (Cert.Meet3.meetH _ _ _ _ _ _ _ _ _ _ _ _ m c h0 h1 h2 h3 h4 h5 h10 h11 h12 h13 h14 h15)
  · obtain ⟨h0, h1, h2, h3, h4, h5, h6, h7, h8, h9, h10, h11, h12, h13, h14, h15⟩ := hagree c
    exact (Cert.Reference3Ideal.Read.val_main_v213_eq (StableHlo.launchContents m' c)).trans
      (Cert.Meet3.meetQ _ _ _ _ _ _ _ _ _ _ _ _ _ m c h0 h1 h2 h3 h4 h5 h9 h10 h11 h12 h13 h14 h15)
  · obtain ⟨h0, h1, h2, h3, h4, h5, h6, h7, h8, h9, h10, h11, h12, h13, h14, h15⟩ := hagree c
    exact (Cert.Reference3Ideal.Read.val_main_v217_eq (StableHlo.launchContents m' c)).trans
      (Cert.Meet3.meetK _ _ _ _ _ _ _ _ _ _ _ _ _ _ m c h0 h1 h2 h3 h4 h5 h6 h7 h10 h11 h12 h13 h14 h15)
  · obtain ⟨h0, h1, h2, h3, h4, h5, h6, h7, h8, h9, h10, h11, h12, h13, h14, h15⟩ := hagree c
    exact (Cert.Reference3Ideal.Read.val_main_v221_eq (StableHlo.launchContents m' c)).trans
      (Cert.Meet3.meetV _ _ _ _ _ _ _ _ _ _ _ _ _ _ m c h0 h1 h2 h3 h4 h5 h6 h8 h10 h11 h12 h13 h14 h15)

/-- Everything the certificate claims. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Reference2.Gen.facts,
    Cert.Kernel3.Gen.facts, Cert.Kernel3Ideal.Gen.facts, Cert.Reference3Ideal.Gen.facts, Cert.Reference3.Gen.facts, Cert.Meet.preFacts,
    frame_p, frame_pi, frame_pi_pre, frame_ri, frame_ri_pre, frame_r, frame_p2, frame_pi2, frame_ri2, frame_r2,
    frame_p3, frame_pi3, frame_ri3, frame_r3,
    preserves_p, trivial, equal, trivial, trivial, equal2, trivial, trivial, equal3⟩

end Cert.Proof

end
